-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def holds_KernelIdeal_near_exact_pre_finite_in_range [hKernelIdeal : Cert.KernelIdeal.Facts] [hPre_finite_in_range : Cert.Pre_finite_in_range.Facts] [hPost_near_exact : Cert.Post_near_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ (Cert.Post_near_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (r.2.mem ((c.tc : Thread Cert.KernelIdeal.nD Cert.KernelIdeal.τ).loc Cert.KernelIdeal.main_v7))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts) (hPost_near_exact : Cert.Post_near_exact.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ holds_KernelIdeal_near_exact_pre_finite_in_range (hKernelIdeal := hKernelIdeal) (hPre_finite_in_range := hPre_finite_in_range) (hPost_near_exact := hPost_near_exact)
-- ==== Post_near_exact.lean ====
abbrev S4096x16384 : Shape := ⟨2, ![4096, 16384]⟩
abbrev S4096x4096 : Shape := ⟨2, ![4096, 4096]⟩
abbrev S1000000 : Shape := ⟨1, ![1000000]⟩
abbrev S_ : Shape := ⟨0, ![]⟩
abbrev S1000000x1 : Shape := ⟨2, ![1000000, 1]⟩
abbrev S1000000x2 : Shape := ⟨2, ![1000000, 2]⟩

class Facts : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  reducesTo_S1000000_S_d0 : S1000000.ReducesTo [0] S_
  h_S_ : 0 < S_.numel
  gather_S4096x16384_S1000000x2_S1000000_n_01_n_n_01_1_11_wf : GatherDims.WF S4096x16384 S1000000x2 S1000000 [] [0, 1] [] [0, 1] [] 1 ![1, 1]
  gather_S4096x4096_S1000000x2_S1000000_n_01_n_n_01_1_11_wf : GatherDims.WF S4096x4096 S1000000x2 S1000000 [] [0, 1] [] [0, 1] [] 1 ![1, 1]

variable [Facts]

def gather_S4096x16384_S1000000x2_S1000000_n_01_n_n_01_1_11 : GatherDims S4096x16384 S1000000x2 S1000000 where
  offsetDims := []
  collapsedSliceDims := [0, 1]
  operandBatchingDims := []
  startIndicesBatchingDims := []
  startIndexMap := [0, 1]
  indexVectorDim := 1
  sliceSizes := ![1, 1]
  wf := gather_S4096x16384_S1000000x2_S1000000_n_01_n_n_01_1_11_wf
def gather_S4096x4096_S1000000x2_S1000000_n_01_n_n_01_1_11 : GatherDims S4096x4096 S1000000x2 S1000000 where
  offsetDims := []
  collapsedSliceDims := [0, 1]
  operandBatchingDims := []
  startIndicesBatchingDims := []
  startIndexMap := [0, 1]
  indexVectorDim := 1
  sliceSizes := ![1, 1]
  wf := gather_S4096x4096_S1000000x2_S1000000_n_01_n_n_01_1_11_wf
def fn_part4 {F : FTy → Type} [FloatOps F] (main_arg10 : FVec F S_ .f32) (main_v65 : FVec F S_ .f32) (main_v73 : FVec F S1000000 .f32) (main_cst_19 : FVec F S_ .f32) : IVec S_ 1 :=
  let main_v74 : FVec F S_ .f32 := (fun x v => Host.reduceAdd x v reducesTo_S1000000_S_d0 h_S_) main_v73 main_cst_19
  let main_v75 : FVec F S_ .f32 := subf main_v65 main_v74
  let main_cst_20 : FVec F S_ .f32 := constant S_ .f32 0x3F7FFE00#32
  let main_v76 : FVec F S_ .f32 := mulf main_v75 main_cst_20
  let main_v77 : IVec S_ 1 := cmpf .ole main_v76 main_arg10
  let main_cst_21 : FVec F S_ .f32 := constant S_ .f32 0x3F800100#32
  let main_v78 : FVec F S_ .f32 := mulf main_v75 main_cst_21
  let main_v79 : IVec S_ 1 := cmpf .ole main_arg10 main_v78
  let main_v80 : IVec S_ 1 := andi main_v77 main_v79
  main_v80

def fn_part3 {F : FTy → Type} [FloatOps F] (main_arg10 : FVec F S_ .f32) (main_v13 : FVec F S1000000 .f32) (main_v27 : FVec F S1000000 .f32) (main_v41 : FVec F S1000000 .f32) (main_v55 : FVec F S1000000 .f32) : IVec S_ 1 :=
  let main_v56 : FVec F S1000000 .f32 := subf main_v13 main_v41
  let main_v57 : FVec F S1000000 .f32 := Host.negf main_v56
  let main_v58 : FVec F S1000000 .f32 := Host.exp main_v57
  let main_cst : FVec F S_ .f32 := constant S_ .f32 0x3F800000#32
  let main_v59 : FVec F S1000000 .f32 := broadcastInDim S1000000 ![] bcast_S_S1000000 main_cst
  let main_v60 : FVec F S1000000 .f32 := addf main_v59 main_v58
  let main_cst_15 : FVec F S_ .f32 := constant S_ .f32 0x3F800000#32
  let main_v61 : FVec F S1000000 .f32 := broadcastInDim S1000000 ![] bcast_S_S1000000 main_cst_15
  let main_v62 : FVec F S1000000 .f32 := Host.divf main_v61 main_v60
  let main_v63 : FVec F S1000000 .f32 := Host.log main_v62
  let main_v64 : FVec F S1000000 .f32 := Host.negf main_v63
  let main_cst_16 : FVec F S_ .f32 := constant S_ .f32 0x00000000#32
  let main_v65 : FVec F S_ .f32 := (fun x v => Host.reduceAdd x v reducesTo_S1000000_S_d0 h_S_) main_v64 main_cst_16
  let main_v66 : FVec F S1000000 .f32 := subf main_v27 main_v55
  let main_v67 : FVec F S1000000 .f32 := Host.negf main_v66
  let main_v68 : FVec F S1000000 .f32 := Host.exp main_v67
  let main_cst_17 : FVec F S_ .f32 := constant S_ .f32 0x3F800000#32
  let main_v69 : FVec F S1000000 .f32 := broadcastInDim S1000000 ![] bcast_S_S1000000 main_cst_17
  let main_v70 : FVec F S1000000 .f32 := addf main_v69 main_v68
  let main_cst_18 : FVec F S_ .f32 := constant S_ .f32 0x3F800000#32
  let main_v71 : FVec F S1000000 .f32 := broadcastInDim S1000000 ![] bcast_S_S1000000 main_cst_18
  let main_v72 : FVec F S1000000 .f32 := Host.divf main_v71 main_v70
  let main_v73 : FVec F S1000000 .f32 := Host.log main_v72
  let main_cst_19 : FVec F S_ .f32 := constant S_ .f32 0x00000000#32
  fn_part4 (F := F) main_arg10 main_v65 main_v73 main_cst_19

def fn_part2 {F : FTy → Type} [FloatOps F] (main_arg0 : FVec F S4096x16384 .f32) (main_arg1 : FVec F S4096x4096 .f32) (main_arg7 : IVec S1000000 32) (main_arg8 : IVec S1000000 32) (main_arg9 : IVec S1000000 32) (main_arg10 : FVec F S_ .f32) (main_v13 : FVec F S1000000 .f32) (main_v27 : FVec F S1000000 .f32) (main_v32 : IVec S1000000 32) (main_v34 : IVec S1000000 1) (main_v35 : IVec S1000000 32) : IVec S_ 1 :=
  let main_v36 : IVec S1000000 32 := addi main_arg7 main_v35
  let main_v37 : IVec S1000000 32 := select main_v34 main_v36 main_arg7
  let main_v38 : IVec S1000000x1 32 := broadcastInDim S1000000x1 ![0] bcast_S1000000_S1000000x1_0 main_v32
  let main_v39 : IVec S1000000x1 32 := broadcastInDim S1000000x1 ![0] bcast_S1000000_S1000000x1_0 main_v37
  let main_v40 : IVec S1000000x2 32 := (fun a b => concatenate S1000000x2 1 [⟨S1000000x1, a⟩, ⟨S1000000x1, b⟩] concatenates_S1000000x1_S1000000x1_S1000000x2_d1) main_v38 main_v39
  let main_v41 : FVec F S1000000 .f32 := (fun x i => Host.gather gather_S4096x16384_S1000000x2_S1000000_n_01_n_n_01_1_11 x i) main_arg0 main_v40
  let main_c_11 : IVec S_ 32 := constantI S_ 32 0#32
  let main_v42 : IVec S1000000 32 := broadcastInDim S1000000 ![] bcast_S_S1000000 main_c_11
  let main_v43 : IVec S1000000 1 := cmpi .slt main_arg8 main_v42
  let main_c_12 : IVec S_ 32 := constantI S_ 32 4096#32
  let main_v44 : IVec S1000000 32 := broadcastInDim S1000000 ![] bcast_S_S1000000 main_c_12
  let main_v45 : IVec S1000000 32 := addi main_arg8 main_v44
  let main_v46 : IVec S1000000 32 := select main_v43 main_v45 main_arg8
  let main_c_13 : IVec S_ 32 := constantI S_ 32 0#32
  let main_v47 : IVec S1000000 32 := broadcastInDim S1000000 ![] bcast_S_S1000000 main_c_13
  let main_v48 : IVec S1000000 1 := cmpi .slt main_arg9 main_v47
  let main_c_14 : IVec S_ 32 := constantI S_ 32 4096#32
  let main_v49 : IVec S1000000 32 := broadcastInDim S1000000 ![] bcast_S_S1000000 main_c_14
  let main_v50 : IVec S1000000 32 := addi main_arg9 main_v49
  let main_v51 : IVec S1000000 32 := select main_v48 main_v50 main_arg9
  let main_v52 : IVec S1000000x1 32 := broadcastInDim S1000000x1 ![0] bcast_S1000000_S1000000x1_0 main_v46
  let main_v53 : IVec S1000000x1 32 := broadcastInDim S1000000x1 ![0] bcast_S1000000_S1000000x1_0 main_v51
  let main_v54 : IVec S1000000x2 32 := (fun a b => concatenate S1000000x2 1 [⟨S1000000x1, a⟩, ⟨S1000000x1, b⟩] concatenates_S1000000x1_S1000000x1_S1000000x2_d1) main_v52 main_v53
  let main_v55 : FVec F S1000000 .f32 := (fun x i => Host.gather gather_S4096x4096_S1000000x2_S1000000_n_01_n_n_01_1_11 x i) main_arg1 main_v54
  fn_part3 (F := F) main_arg10 main_v13 main_v27 main_v41 main_v55

def fn_part1 {F : FTy → Type} [FloatOps F] (main_arg0 : FVec F S4096x16384 .f32) (main_arg1 : FVec F S4096x4096 .f32) (main_arg4 : IVec S1000000 32) (main_arg5 : IVec S1000000 32) (main_arg6 : IVec S1000000 32) (main_arg7 : IVec S1000000 32) (main_arg8 : IVec S1000000 32) (main_arg9 : IVec S1000000 32) (main_arg10 : FVec F S_ .f32) (main_v13 : FVec F S1000000 .f32) (main_v15 : IVec S1000000 1) (main_v17 : IVec S1000000 32) : IVec S_ 1 :=
  let main_v18 : IVec S1000000 32 := select main_v15 main_v17 main_arg4
  let main_c_5 : IVec S_ 32 := constantI S_ 32 0#32
  let main_v19 : IVec S1000000 32 := broadcastInDim S1000000 ![] bcast_S_S1000000 main_c_5
  let main_v20 : IVec S1000000 1 := cmpi .slt main_arg5 main_v19
  let main_c_6 : IVec S_ 32 := constantI S_ 32 4096#32
  let main_v21 : IVec S1000000 32 := broadcastInDim S1000000 ![] bcast_S_S1000000 main_c_6
  let main_v22 : IVec S1000000 32 := addi main_arg5 main_v21
  let main_v23 : IVec S1000000 32 := select main_v20 main_v22 main_arg5
  let main_v24 : IVec S1000000x1 32 := broadcastInDim S1000000x1 ![0] bcast_S1000000_S1000000x1_0 main_v18
  let main_v25 : IVec S1000000x1 32 := broadcastInDim S1000000x1 ![0] bcast_S1000000_S1000000x1_0 main_v23
  let main_v26 : IVec S1000000x2 32 := (fun a b => concatenate S1000000x2 1 [⟨S1000000x1, a⟩, ⟨S1000000x1, b⟩] concatenates_S1000000x1_S1000000x1_S1000000x2_d1) main_v24 main_v25
  let main_v27 : FVec F S1000000 .f32 := (fun x i => Host.gather gather_S4096x4096_S1000000x2_S1000000_n_01_n_n_01_1_11 x i) main_arg1 main_v26
  let main_c_7 : IVec S_ 32 := constantI S_ 32 0#32
  let main_v28 : IVec S1000000 32 := broadcastInDim S1000000 ![] bcast_S_S1000000 main_c_7
  let main_v29 : IVec S1000000 1 := cmpi .slt main_arg6 main_v28
  let main_c_8 : IVec S_ 32 := constantI S_ 32 4096#32
  let main_v30 : IVec S1000000 32 := broadcastInDim S1000000 ![] bcast_S_S1000000 main_c_8
  let main_v31 : IVec S1000000 32 := addi main_arg6 main_v30
  let main_v32 : IVec S1000000 32 := select main_v29 main_v31 main_arg6
  let main_c_9 : IVec S_ 32 := constantI S_ 32 0#32
  let main_v33 : IVec S1000000 32 := broadcastInDim S1000000 ![] bcast_S_S1000000 main_c_9
  let main_v34 : IVec S1000000 1 := cmpi .slt main_arg7 main_v33
  let main_c_10 : IVec S_ 32 := constantI S_ 32 16384#32
  let main_v35 : IVec S1000000 32 := broadcastInDim S1000000 ![] bcast_S_S1000000 main_c_10
  fn_part2 (F := F) main_arg0 main_arg1 main_arg7 main_arg8 main_arg9 main_arg10 main_v13 main_v27 main_v32 main_v34 main_v35

def fn {F : FTy → Type} [FloatOps F] (main_arg0 : FVec F S4096x16384 .f32) (main_arg1 : FVec F S4096x4096 .f32) (main_arg2 : IVec S1000000 32) (main_arg3 : IVec S1000000 32) (main_arg4 : IVec S1000000 32) (main_arg5 : IVec S1000000 32) (main_arg6 : IVec S1000000 32) (main_arg7 : IVec S1000000 32) (main_arg8 : IVec S1000000 32) (main_arg9 : IVec S1000000 32) (main_arg10 : FVec F S_ .f32) : IVec S_ 1 :=
  let main_c : IVec S_ 32 := constantI S_ 32 0#32
  let main_v0 : IVec S1000000 32 := broadcastInDim S1000000 ![] bcast_S_S1000000 main_c
  let main_v1 : IVec S1000000 1 := cmpi .slt main_arg2 main_v0
  let main_c_0 : IVec S_ 32 := constantI S_ 32 4096#32
  let main_v2 : IVec S1000000 32 := broadcastInDim S1000000 ![] bcast_S_S1000000 main_c_0
  let main_v3 : IVec S1000000 32 := addi main_arg2 main_v2
  let main_v4 : IVec S1000000 32 := select main_v1 main_v3 main_arg2
  let main_c_1 : IVec S_ 32 := constantI S_ 32 0#32
  let main_v5 : IVec S1000000 32 := broadcastInDim S1000000 ![] bcast_S_S1000000 main_c_1
  let main_v6 : IVec S1000000 1 := cmpi .slt main_arg3 main_v5
  let main_c_2 : IVec S_ 32 := constantI S_ 32 16384#32
  let main_v7 : IVec S1000000 32 := broadcastInDim S1000000 ![] bcast_S_S1000000 main_c_2
  let main_v8 : IVec S1000000 32 := addi main_arg3 main_v7
  let main_v9 : IVec S1000000 32 := select main_v6 main_v8 main_arg3
  let main_v10 : IVec S1000000x1 32 := broadcastInDim S1000000x1 ![0] bcast_S1000000_S1000000x1_0 main_v4
  let main_v11 : IVec S1000000x1 32 := broadcastInDim S1000000x1 ![0] bcast_S1000000_S1000000x1_0 main_v9
  let main_v12 : IVec S1000000x2 32 := (fun a b => concatenate S1000000x2 1 [⟨S1000000x1, a⟩, ⟨S1000000x1, b⟩] concatenates_S1000000x1_S1000000x1_S1000000x2_d1) main_v10 main_v11
  let main_v13 : FVec F S1000000 .f32 := (fun x i => Host.gather gather_S4096x16384_S1000000x2_S1000000_n_01_n_n_01_1_11 x i) main_arg0 main_v12
  let main_c_3 : IVec S_ 32 := constantI S_ 32 0#32
  let main_v14 : IVec S1000000 32 := broadcastInDim S1000000 ![] bcast_S_S1000000 main_c_3
  let main_v15 : IVec S1000000 1 := cmpi .slt main_arg4 main_v14
  let main_c_4 : IVec S_ 32 := constantI S_ 32 4096#32
  let main_v16 : IVec S1000000 32 := broadcastInDim S1000000 ![] bcast_S_S1000000 main_c_4
  let main_v17 : IVec S1000000 32 := addi main_arg4 main_v16
  fn_part1 (F := F) main_arg0 main_arg1 main_arg4 main_arg5 main_arg6 main_arg7 main_arg8 main_arg9 main_arg10 main_v13 main_v15 main_v17
-- ==== Pre_finite_in_range.lean ====
abbrev S4096x16384 : Shape := ⟨2, ![4096, 16384]⟩
abbrev S4096x4096 : Shape := ⟨2, ![4096, 4096]⟩
abbrev S1000000 : Shape := ⟨1, ![1000000]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_arg3 : IVec S1000000 32) (main_arg7 : IVec S1000000 32) (main_v8 : IVec S_ 1) (main_v49 : IVec S_ 1) : IVec S_ 1 :=
  let main_c_20 : IVec S_ 32 := constantI S_ 32 0#32
  let main_v50 : IVec S1000000 32 := broadcastInDim S1000000 ![] bcast_S_S1000000 main_c_20
  let main_v51 : IVec S1000000 1 := cmpi .sge main_arg3 main_v50
  let main_c_21 : IVec S_ 32 := constantI S_ 32 16384#32
  let main_v52 : IVec S1000000 32 := broadcastInDim S1000000 ![] bcast_S_S1000000 main_c_21
  let main_v53 : IVec S1000000 1 := cmpi .slt main_arg3 main_v52
  let main_v54 : IVec S1000000 1 := andi main_v51 main_v53
  let main_c_22 : IVec S_ 1 := constantI S_ 1 1#1
  let main_v55 : IVec S_ 1 := (fun x v => Host.reduce IntOp.andi x v reducesTo_S1000000_S_d0 h_S_) main_v54 main_c_22
  let main_v56 : IVec S_ 1 := andi main_v49 main_v55
  let main_c_23 : IVec S_ 32 := constantI S_ 32 0#32
  let main_v57 : IVec S1000000 32 := broadcastInDim S1000000 ![] bcast_S_S1000000 main_c_23
  let main_v58 : IVec S1000000 1 := cmpi .sge main_arg7 main_v57
  let main_c_24 : IVec S_ 32 := constantI S_ 32 16384#32
  let main_v59 : IVec S1000000 32 := broadcastInDim S1000000 ![] bcast_S_S1000000 main_c_24
  let main_v60 : IVec S1000000 1 := cmpi .slt main_arg7 main_v59
  let main_v61 : IVec S1000000 1 := andi main_v58 main_v60
  let main_c_25 : IVec S_ 1 := constantI S_ 1 1#1
  let main_v62 : IVec S_ 1 := (fun x v => Host.reduce IntOp.andi x v reducesTo_S1000000_S_d0 h_S_) main_v61 main_c_25
  let main_v63 : IVec S_ 1 := andi main_v56 main_v62
  let main_v64 : IVec S_ 1 := andi main_v63 main_v8
  main_v64

def fn_part2 {F : FTy → Type} [FloatOps F] (main_arg3 : IVec S1000000 32) (main_arg7 : IVec S1000000 32) (main_arg8 : IVec S1000000 32) (main_arg9 : IVec S1000000 32) (main_v8 : IVec S_ 1) (main_v28 : IVec S_ 1) (main_v30 : IVec S1000000 1) (main_v32 : IVec S1000000 1) : IVec S_ 1 :=
  let main_v33 : IVec S1000000 1 := andi main_v30 main_v32
  let main_c_13 : IVec S_ 1 := constantI S_ 1 1#1
  let main_v34 : IVec S_ 1 := (fun x v => Host.reduce IntOp.andi x v reducesTo_S1000000_S_d0 h_S_) main_v33 main_c_13
  let main_v35 : IVec S_ 1 := andi main_v28 main_v34
  let main_c_14 : IVec S_ 32 := constantI S_ 32 0#32
  let main_v36 : IVec S1000000 32 := broadcastInDim S1000000 ![] bcast_S_S1000000 main_c_14
  let main_v37 : IVec S1000000 1 := cmpi .sge main_arg8 main_v36
  let main_c_15 : IVec S_ 32 := constantI S_ 32 4096#32
  let main_v38 : IVec S1000000 32 := broadcastInDim S1000000 ![] bcast_S_S1000000 main_c_15
  let main_v39 : IVec S1000000 1 := cmpi .slt main_arg8 main_v38
  let main_v40 : IVec S1000000 1 := andi main_v37 main_v39
  let main_c_16 : IVec S_ 1 := constantI S_ 1 1#1
  let main_v41 : IVec S_ 1 := (fun x v => Host.reduce IntOp.andi x v reducesTo_S1000000_S_d0 h_S_) main_v40 main_c_16
  let main_v42 : IVec S_ 1 := andi main_v35 main_v41
  let main_c_17 : IVec S_ 32 := constantI S_ 32 0#32
  let main_v43 : IVec S1000000 32 := broadcastInDim S1000000 ![] bcast_S_S1000000 main_c_17
  let main_v44 : IVec S1000000 1 := cmpi .sge main_arg9 main_v43
  let main_c_18 : IVec S_ 32 := constantI S_ 32 4096#32
  let main_v45 : IVec S1000000 32 := broadcastInDim S1000000 ![] bcast_S_S1000000 main_c_18
  let main_v46 : IVec S1000000 1 := cmpi .slt main_arg9 main_v45
  let main_v47 : IVec S1000000 1 := andi main_v44 main_v46
  let main_c_19 : IVec S_ 1 := constantI S_ 1 1#1
  let main_v48 : IVec S_ 1 := (fun x v => Host.reduce IntOp.andi x v reducesTo_S1000000_S_d0 h_S_) main_v47 main_c_19
  let main_v49 : IVec S_ 1 := andi main_v42 main_v48
  fn_part3 (F := F) main_arg3 main_arg7 main_v8 main_v49

def fn_part1 {F : FTy → Type} [FloatOps F] (main_arg3 : IVec S1000000 32) (main_arg4 : IVec S1000000 32) (main_arg5 : IVec S1000000 32) (main_arg6 : IVec S1000000 32) (main_arg7 : IVec S1000000 32) (main_arg8 : IVec S1000000 32) (main_arg9 : IVec S1000000 32) (main_v8 : IVec S_ 1) (main_v14 : IVec S_ 1) (main_v15 : IVec S1000000 32) : IVec S_ 1 :=
  let main_v16 : IVec S1000000 1 := cmpi .sge main_arg4 main_v15
  let main_c_6 : IVec S_ 32 := constantI S_ 32 4096#32
  let main_v17 : IVec S1000000 32 := broadcastInDim S1000000 ![] bcast_S_S1000000 main_c_6
  let main_v18 : IVec S1000000 1 := cmpi .slt main_arg4 main_v17
  let main_v19 : IVec S1000000 1 := andi main_v16 main_v18
  let main_c_7 : IVec S_ 1 := constantI S_ 1 1#1
  let main_v20 : IVec S_ 1 := (fun x v => Host.reduce IntOp.andi x v reducesTo_S1000000_S_d0 h_S_) main_v19 main_c_7
  let main_v21 : IVec S_ 1 := andi main_v14 main_v20
  let main_c_8 : IVec S_ 32 := constantI S_ 32 0#32
  let main_v22 : IVec S1000000 32 := broadcastInDim S1000000 ![] bcast_S_S1000000 main_c_8
  let main_v23 : IVec S1000000 1 := cmpi .sge main_arg5 main_v22
  let main_c_9 : IVec S_ 32 := constantI S_ 32 4096#32
  let main_v24 : IVec S1000000 32 := broadcastInDim S1000000 ![] bcast_S_S1000000 main_c_9
  let main_v25 : IVec S1000000 1 := cmpi .slt main_arg5 main_v24
  let main_v26 : IVec S1000000 1 := andi main_v23 main_v25
  let main_c_10 : IVec S_ 1 := constantI S_ 1 1#1
  let main_v27 : IVec S_ 1 := (fun x v => Host.reduce IntOp.andi x v reducesTo_S1000000_S_d0 h_S_) main_v26 main_c_10
  let main_v28 : IVec S_ 1 := andi main_v21 main_v27
  let main_c_11 : IVec S_ 32 := constantI S_ 32 0#32
  let main_v29 : IVec S1000000 32 := broadcastInDim S1000000 ![] bcast_S_S1000000 main_c_11
  let main_v30 : IVec S1000000 1 := cmpi .sge main_arg6 main_v29
  let main_c_12 : IVec S_ 32 := constantI S_ 32 4096#32
  let main_v31 : IVec S1000000 32 := broadcastInDim S1000000 ![] bcast_S_S1000000 main_c_12
  let main_v32 : IVec S1000000 1 := cmpi .slt main_arg6 main_v31
  fn_part2 (F := F) main_arg3 main_arg7 main_arg8 main_arg9 main_v8 main_v28 main_v30 main_v32

def fn {F : FTy → Type} [FloatOps F] (main_arg0 : FVec F S4096x16384 .f32) (main_arg1 : FVec F S4096x4096 .f32) (main_arg2 : IVec S1000000 32) (main_arg3 : IVec S1000000 32) (main_arg4 : IVec S1000000 32) (main_arg5 : IVec S1000000 32) (main_arg6 : IVec S1000000 32) (main_arg7 : IVec S1000000 32) (main_arg8 : IVec S1000000 32) (main_arg9 : IVec S1000000 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg2 main_v9
  let main_c_3 : IVec S_ 32 := constantI S_ 32 4096#32
  let main_v11 : IVec S1000000 32 := broadcastInDim S1000000 ![] bcast_S_S1000000 main_c_3
  let main_v12 : IVec S1000000 1 := cmpi .slt main_arg2 main_v11
  let main_v13 : IVec S1000000 1 := andi main_v10 main_v12
  let main_c_4 : IVec S_ 1 := constantI S_ 1 1#1
  let main_v14 : IVec S_ 1 := (fun x v => Host.reduce IntOp.andi x v reducesTo_S1000000_S_d0 h_S_) main_v13 main_c_4
  let main_c_5 : IVec S_ 32 := constantI S_ 32 0#32
  let main_v15 : IVec S1000000 32 := broadcastInDim S1000000 ![] bcast_S_S1000000 main_c_5
  fn_part1 (F := F) main_arg3 main_arg4 main_arg5 main_arg6 main_arg7 main_arg8 main_arg9 main_v8 main_v14 main_v15
-- ==== Pre_in_range.lean ====
abbrev S4096x16384 : Shape := ⟨2, ![4096, 16384]⟩
abbrev S4096x4096 : Shape := ⟨2, ![4096, 4096]⟩
abbrev S1000000 : Shape := ⟨1, ![1000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn_part3 {F : FTy → Type} [FloatOps F] (main_arg7 : IVec S1000000 32) (main_v47 : IVec S_ 1) (main_v49 : IVec S1000000 1) : IVec S_ 1 :=
  let main_c_21 : IVec S_ 32 := constantI S_ 32 16384#32
  let main_v50 : IVec S1000000 32 := broadcastInDim S1000000 ![] bcast_S_S1000000 main_c_21
  let main_v51 : IVec S1000000 1 := cmpi .slt main_arg7 main_v50
  let main_v52 : IVec S1000000 1 := andi main_v49 main_v51
  let main_c_22 : IVec S_ 1 := constantI S_ 1 1#1
  let main_v53 : IVec S_ 1 := (fun x v => Host.reduce IntOp.andi x v reducesTo_S1000000_S_d0 h_S_) main_v52 main_c_22
  let main_v54 : IVec S_ 1 := andi main_v47 main_v53
  main_v54

def fn_part2 {F : FTy → Type} [FloatOps F] (main_arg3 : IVec S1000000 32) (main_arg7 : IVec S1000000 32) (main_arg9 : IVec S1000000 32) (main_v26 : IVec S_ 1) (main_v32 : IVec S_ 1) : IVec S_ 1 :=
  let main_v33 : IVec S_ 1 := andi main_v26 main_v32
  let main_c_14 : IVec S_ 32 := constantI S_ 32 0#32
  let main_v34 : IVec S1000000 32 := broadcastInDim S1000000 ![] bcast_S_S1000000 main_c_14
  let main_v35 : IVec S1000000 1 := cmpi .sge main_arg9 main_v34
  let main_c_15 : IVec S_ 32 := constantI S_ 32 4096#32
  let main_v36 : IVec S1000000 32 := broadcastInDim S1000000 ![] bcast_S_S1000000 main_c_15
  let main_v37 : IVec S1000000 1 := cmpi .slt main_arg9 main_v36
  let main_v38 : IVec S1000000 1 := andi main_v35 main_v37
  let main_c_16 : IVec S_ 1 := constantI S_ 1 1#1
  let main_v39 : IVec S_ 1 := (fun x v => Host.reduce IntOp.andi x v reducesTo_S1000000_S_d0 h_S_) main_v38 main_c_16
  let main_v40 : IVec S_ 1 := andi main_v33 main_v39
  let main_c_17 : IVec S_ 32 := constantI S_ 32 0#32
  let main_v41 : IVec S1000000 32 := broadcastInDim S1000000 ![] bcast_S_S1000000 main_c_17
  let main_v42 : IVec S1000000 1 := cmpi .sge main_arg3 main_v41
  let main_c_18 : IVec S_ 32 := constantI S_ 32 16384#32
  let main_v43 : IVec S1000000 32 := broadcastInDim S1000000 ![] bcast_S_S1000000 main_c_18
  let main_v44 : IVec S1000000 1 := cmpi .slt main_arg3 main_v43
  let main_v45 : IVec S1000000 1 := andi main_v42 main_v44
  let main_c_19 : IVec S_ 1 := constantI S_ 1 1#1
  let main_v46 : IVec S_ 1 := (fun x v => Host.reduce IntOp.andi x v reducesTo_S1000000_S_d0 h_S_) main_v45 main_c_19
  let main_v47 : IVec S_ 1 := andi main_v40 main_v46
  let main_c_20 : IVec S_ 32 := constantI S_ 32 0#32
  let main_v48 : IVec S1000000 32 := broadcastInDim S1000000 ![] bcast_S_S1000000 main_c_20
  let main_v49 : IVec S1000000 1 := cmpi .sge main_arg7 main_v48
  fn_part3 (F := F) main_arg7 main_v47 main_v49

def fn_part1 {F : FTy → Type} [FloatOps F] (main_arg3 : IVec S1000000 32) (main_arg5 : IVec S1000000 32) (main_arg6 : IVec S1000000 32) (main_arg7 : IVec S1000000 32) (main_arg8 : IVec S1000000 32) (main_arg9 : IVec S1000000 32) (main_v12 : IVec S_ 1) (main_v14 : IVec S1000000 1) (main_v15 : IVec S1000000 32) : IVec S_ 1 :=
  let main_v16 : IVec S1000000 1 := cmpi .slt main_arg5 main_v15
  let main_v17 : IVec S1000000 1 := andi main_v14 main_v16
  let main_c_7 : IVec S_ 1 := constantI S_ 1 1#1
  let main_v18 : IVec S_ 1 := (fun x v => Host.reduce IntOp.andi x v reducesTo_S1000000_S_d0 h_S_) main_v17 main_c_7
  let main_v19 : IVec S_ 1 := andi main_v12 main_v18
  let main_c_8 : IVec S_ 32 := constantI S_ 32 0#32
  let main_v20 : IVec S1000000 32 := broadcastInDim S1000000 ![] bcast_S_S1000000 main_c_8
  let main_v21 : IVec S1000000 1 := cmpi .sge main_arg6 main_v20
  let main_c_9 : IVec S_ 32 := constantI S_ 32 4096#32
  let main_v22 : IVec S1000000 32 := broadcastInDim S1000000 ![] bcast_S_S1000000 main_c_9
  let main_v23 : IVec S1000000 1 := cmpi .slt main_arg6 main_v22
  let main_v24 : IVec S1000000 1 := andi main_v21 main_v23
  let main_c_10 : IVec S_ 1 := constantI S_ 1 1#1
  let main_v25 : IVec S_ 1 := (fun x v => Host.reduce IntOp.andi x v reducesTo_S1000000_S_d0 h_S_) main_v24 main_c_10
  let main_v26 : IVec S_ 1 := andi main_v19 main_v25
  let main_c_11 : IVec S_ 32 := constantI S_ 32 0#32
  let main_v27 : IVec S1000000 32 := broadcastInDim S1000000 ![] bcast_S_S1000000 main_c_11
  let main_v28 : IVec S1000000 1 := cmpi .sge main_arg8 main_v27
  let main_c_12 : IVec S_ 32 := constantI S_ 32 4096#32
  let main_v29 : IVec S1000000 32 := broadcastInDim S1000000 ![] bcast_S_S1000000 main_c_12
  let main_v30 : IVec S1000000 1 := cmpi .slt main_arg8 main_v29
  let main_v31 : IVec S1000000 1 := andi main_v28 main_v30
  let main_c_13 : IVec S_ 1 := constantI S_ 1 1#1
  let main_v32 : IVec S_ 1 := (fun x v => Host.reduce IntOp.andi x v reducesTo_S1000000_S_d0 h_S_) main_v31 main_c_13
  fn_part2 (F := F) main_arg3 main_arg7 main_arg9 main_v26 main_v32

def fn {F : FTy → Type} [FloatOps F] (main_arg0 : FVec F S4096x16384 .f32) (main_arg1 : FVec F S4096x4096 .f32) (main_arg2 : IVec S1000000 32) (main_arg3 : IVec S1000000 32) (main_arg4 : IVec S1000000 32) (main_arg5 : IVec S1000000 32) (main_arg6 : IVec S1000000 32) (main_arg7 : IVec S1000000 32) (main_arg8 : IVec S1000000 32) (main_arg9 : IVec S1000000 32) : IVec S_ 1 :=
  let main_c : IVec S_ 32 := constantI S_ 32 0#32
  let main_v0 : IVec S1000000 32 := broadcastInDim S1000000 ![] bcast_S_S1000000 main_c
  let main_v1 : IVec S1000000 1 := cmpi .sge main_arg2 main_v0
  let main_c_0 : IVec S_ 32 := constantI S_ 32 4096#32
  let main_v2 : IVec S1000000 32 := broadcastInDim S1000000 ![] bcast_S_S1000000 main_c_0
  let main_v3 : IVec S1000000 1 := cmpi .slt main_arg2 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  let main_c_2 : IVec S_ 32 := constantI S_ 32 0#32
  let main_v6 : IVec S1000000 32 := broadcastInDim S1000000 ![] bcast_S_S1000000 main_c_2
  let main_v7 : IVec S1000000 1 := cmpi .sge main_arg4 main_v6
  let main_c_3 : IVec S_ 32 := constantI S_ 32 4096#32
  let main_v8 : IVec S1000000 32 := broadcastInDim S1000000 ![] bcast_S_S1000000 main_c_3
  let main_v9 : IVec S1000000 1 := cmpi .slt main_arg4 main_v8
  let main_v10 : IVec S1000000 1 := andi main_v7 main_v9
  let main_c_4 : IVec S_ 1 := constantI S_ 1 1#1
  let main_v11 : IVec S_ 1 := (fun x v => Host.reduce IntOp.andi x v reducesTo_S1000000_S_d0 h_S_) main_v10 main_c_4
  let main_v12 : IVec S_ 1 := andi main_v5 main_v11
  let main_c_5 : IVec S_ 32 := constantI S_ 32 0#32
  let main_v13 : IVec S1000000 32 := broadcastInDim S1000000 ![] bcast_S_S1000000 main_c_5
  let main_v14 : IVec S1000000 1 := cmpi .sge main_arg5 main_v13
  let main_c_6 : IVec S_ 32 := constantI S_ 32 4096#32
  let main_v15 : IVec S1000000 32 := broadcastInDim S1000000 ![] bcast_S_S1000000 main_c_6
  fn_part1 (F := F) main_arg3 main_arg5 main_arg6 main_arg7 main_arg8 main_arg9 main_v12 main_v14 main_v15
-- ==== Kernel.lean ====
abbrev S4096x16384 : Shape := ⟨2, ![4096, 16384]⟩
abbrev S4096x4096 : Shape := ⟨2, ![4096, 4096]⟩
abbrev S1000000 : Shape := ⟨1, ![1000000]⟩
abbrev S512x8x128x128 : Shape := ⟨4, ![512, 8, 128, 128]⟩
abbrev S512x128x8x128 : Shape := ⟨4, ![512, 128, 8, 128]⟩
abbrev S67108864 : Shape := ⟨1, ![67108864]⟩
abbrev S512x8x32x128 : Shape := ⟨4, ![512, 8, 32, 128]⟩
abbrev S512x32x8x128 : Shape := ⟨4, ![512, 32, 8, 128]⟩
abbrev S16777216 : Shape := ⟨1, ![16777216]⟩
abbrev S32x16 : Shape := ⟨2, ![32, 16]⟩
abbrev S1024 : Shape := ⟨1, ![1024]⟩
abbrev S2048 : Shape := ⟨1, ![2048]⟩
abbrev S16 : Shape := ⟨1, ![16]⟩
abbrev S_ : Shape := ⟨0, ![]⟩
abbrev S1x16 : Shape := ⟨2, ![1, 16]⟩

abbrev nBuf : Table → Nat
  | .hbm => 19
  | .local .scVector .vmem => 49
  | _ => 0

abbrev bufTy : (tb : Table) → Fin (nBuf tb) → BufTy
  | .hbm, ⟨0, _⟩ => ⟨S4096x16384, .f32⟩
  | .hbm, ⟨1, _⟩ => ⟨S4096x4096, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S1000000, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S512x8x128x128, .f32⟩
  | .hbm, ⟨11, _⟩ => ⟨S512x128x8x128, .f32⟩
  | .hbm, ⟨12, _⟩ => ⟨S67108864, .f32⟩
  | .hbm, ⟨13, _⟩ => ⟨S512x8x32x128, .f32⟩
  | .hbm, ⟨14, _⟩ => ⟨S512x32x8x128, .f32⟩
  | .hbm, ⟨15, _⟩ => ⟨S16777216, .f32⟩
  | .hbm, ⟨16, _⟩ => ⟨S32x16, .f32⟩
  | .hbm, ⟨17, _⟩ => ⟨S_, .f32⟩
  | .hbm, ⟨18, _⟩ => ⟨S_, .f32⟩
  | .local .scVector .vmem, ⟨0, _⟩ => ⟨S1024, .i32⟩
  | .local .scVector .vmem, ⟨1, _⟩ => ⟨S1024, .i32⟩
  | .local .scVector .vmem, ⟨2, _⟩ => ⟨S1024, .i32⟩
  | .local .scVector .vmem, ⟨3, _⟩ => ⟨S1024, .i32⟩
  | .local .scVector .vmem, ⟨4, _⟩ => ⟨S1024, .i32⟩
  | .local .scVector .vmem, ⟨5, _⟩ => ⟨S1024, .i32⟩
  | .local .scVector .vmem, ⟨6, _⟩ => ⟨S1024, .i32⟩
  | .local .scVector .vmem, ⟨7, _⟩ => ⟨S1024, .i32⟩
  | .local .scVector .vmem, ⟨8, _⟩ => ⟨S1024, .i32⟩
  | .local .scVector .vmem, ⟨9, _⟩ => ⟨S1024, .i32⟩
  | .local .scVector .vmem, ⟨10, _⟩ => ⟨S1024, .i32⟩
  | .local .scVector .vmem, ⟨11, _⟩ => ⟨S1024, .i32⟩
  | .local .scVector .vmem, ⟨12, _⟩ => ⟨S1024, .i32⟩
  | .local .scVector .vmem, ⟨13, _⟩ => ⟨S1024, .i32⟩
  | .local .scVector .vmem, ⟨14, _⟩ => ⟨S1024, .i32⟩
  | .local .scVector .vmem, ⟨15, _⟩ => ⟨S1024, .i32⟩
  | .local .scVector .vmem, ⟨16, _⟩ => ⟨S1024, .i32⟩
  | .local .scVector .vmem, ⟨17, _⟩ => ⟨S1024, .i32⟩
  | .local .scVector .vmem, ⟨18, _⟩ => ⟨S1024, .i32⟩
  | .local .scVector .vmem, ⟨19, _⟩ => ⟨S1024, .i32⟩
  | .local .scVector .vmem, ⟨20, _⟩ => ⟨S1024, .i32⟩
  | .local .scVector .vmem, ⟨21, _⟩ => ⟨S1024, .i32⟩
  | .local .scVector .vmem, ⟨22, _⟩ => ⟨S1024, .i32⟩
  | .local .scVector .vmem, ⟨23, _⟩ => ⟨S1024, .i32⟩
  | .local .scVector .vmem, ⟨24, _⟩ => ⟨S1024, .i32⟩
  | .local .scVector .vmem, ⟨25, _⟩ => ⟨S1024, .i32⟩
  | .local .scVector .vmem, ⟨26, _⟩ => ⟨S1024, .i32⟩
  | .local .scVector .vmem, ⟨27, _⟩ => ⟨S1024, .i32⟩
  | .local .scVector .vmem, ⟨28, _⟩ => ⟨S1024, .i32⟩
  | .local .scVector .vmem, ⟨29, _⟩ => ⟨S1024, .i32⟩
  | .local .scVector .vmem, ⟨30, _⟩ => ⟨S1024, .i32⟩
  | .local .scVector .vmem, ⟨31, _⟩ => ⟨S1024, .i32⟩
  | .local .scVector .vmem, ⟨32, _⟩ => ⟨S2048, .i32⟩
  | .local .scVector .vmem, ⟨33, _⟩ => ⟨S2048, .i32⟩
  | .local .scVector .vmem, ⟨34, _⟩ => ⟨S2048, .i32⟩
  | .local .scVector .vmem, ⟨35, _⟩ => ⟨S2048, .i32⟩
  | .local .scVector .vmem, ⟨36, _⟩ => ⟨S2048, .i32⟩
  | .local .scVector .vmem, ⟨37, _⟩ => ⟨S2048, .i32⟩
  | .local .scVector .vmem, ⟨38, _⟩ => ⟨S2048, .i32⟩
  | .local .scVector .vmem, ⟨39, _⟩ => ⟨S2048, .i32⟩
  | .local .scVector .vmem, ⟨40, _⟩ => ⟨S2048, .f32⟩
  | .local .scVector .vmem, ⟨41, _⟩ => ⟨S2048, .f32⟩
  | .local .scVector .vmem, ⟨42, _⟩ => ⟨S2048, .f32⟩
  | .local .scVector .vmem, ⟨43, _⟩ => ⟨S2048, .f32⟩
  | .local .scVector .vmem, ⟨44, _⟩ => ⟨S2048, .f32⟩
  | .local .scVector .vmem, ⟨45, _⟩ => ⟨S2048, .f32⟩
  | .local .scVector .vmem, ⟨46, _⟩ => ⟨S2048, .f32⟩
  | .local .scVector .vmem, ⟨47, _⟩ => ⟨S2048, .f32⟩
  | .local .scVector .vmem, ⟨48, _⟩ => ⟨S16, .f32⟩
  | _, _ => ⟨S4096x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v2_scv : Ref sig .scVector := ⟨.hbm, 12, rfl⟩
abbrev main_v5_scv : Ref sig .scVector := ⟨.hbm, 15, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_arg9_scv : Ref sig .scVector := ⟨.hbm, 9, rfl⟩
abbrev main_v6_scv : Ref sig .scVector := ⟨.hbm, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev cc0_scratch25 : Ref sig .scVector := ⟨.vmem, 25, rfl⟩
abbrev cc0_scratch26 : Ref sig .scVector := ⟨.vmem, 26, rfl⟩
abbrev cc0_scratch27 : Ref sig .scVector := ⟨.vmem, 27, rfl⟩
abbrev cc0_scratch28 : Ref sig .scVector := ⟨.vmem, 28, rfl⟩
abbrev cc0_scratch29 : Ref sig .scVector := ⟨.vmem, 29, rfl⟩
abbrev cc0_scratch30 : Ref sig .scVector := ⟨.vmem, 30, rfl⟩
abbrev cc0_scratch31 : Ref sig .scVector := ⟨.vmem, 31, rfl⟩
abbrev cc0_scratch32 : Ref sig .scVector := ⟨.vmem, 32, rfl⟩
abbrev cc0_scratch33 : Ref sig .scVector := ⟨.vmem, 33, rfl⟩
abbrev cc0_scratch34 : Ref sig .scVector := ⟨.vmem, 34, rfl⟩
abbrev cc0_scratch35 : Ref sig .scVector := ⟨.vmem, 35, rfl⟩
abbrev cc0_scratch36 : Ref sig .scVector := ⟨.vmem, 36, rfl⟩
abbrev cc0_scratch37 : Ref sig .scVector := ⟨.vmem, 37, rfl⟩
abbrev cc0_scratch38 : Ref sig .scVector := ⟨.vmem, 38, rfl⟩
abbrev cc0_scratch39 : Ref sig .scVector := ⟨.vmem, 39, rfl⟩
abbrev cc0_scratch40 : Ref sig .scVector := ⟨.vmem, 40, rfl⟩
abbrev cc0_scratch41 : Ref sig .scVector := ⟨.vmem, 41, rfl⟩
abbrev cc0_scratch42 : Ref sig .scVector := ⟨.vmem, 42, rfl⟩
abbrev cc0_scratch43 : Ref sig .scVector := ⟨.vmem, 43, rfl⟩
abbrev cc0_scratch44 : Ref sig .scVector := ⟨.vmem, 44, rfl⟩
abbrev cc0_scratch45 : Ref sig .scVector := ⟨.vmem, 45, rfl⟩
abbrev cc0_scratch46 : Ref sig .scVector := ⟨.vmem, 46, rfl⟩
abbrev cc0_scratch47 : Ref sig .scVector := ⟨.vmem, 47, rfl⟩
abbrev cc0_scratch48 : Ref sig .scVector := ⟨.vmem, 48, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (i : grid0.Coords) (k0_t1 : Fin k0_t1_loop.trips) : BitVec 32 :=
  let c0_i32 : BitVec 32 := 0#32
  let c1_i32 : BitVec 32 := 1#32
  let arg70 : BitVec 32 := Scf.iv c0_i32 c1_i32 k0_t1
  let c4_i32 : BitVec 32 := 4#32
  let v9 : BitVec 32 := Scalar.muli arg70 c4_i32
  let c0_i32_1 : BitVec 32 := 0#32
  let v10 : BitVec 32 := Scalar.addi v9 c0_i32_1
  let c32_i32 : BitVec 32 := 32#32
  let v11 : BitVec 32 := Scalar.muli v10 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v12 : BitVec 32 := Scalar.addi v11 v1
  let c1024_i32 : BitVec 32 := 1024#32
  let v25 : BitVec 32 := Scalar.muli v12 c1024_i32
  let c998976_i32 : BitVec 32 := 998976#32
  let v26 : BitVec 32 := Scalar.minsi v25 c998976_i32
  v26
def k0_mult2 (i : grid0.Coords) (k0_t1 : Fin k0_t1_loop.trips) : BitVec 32 :=
  let c0_i32 : BitVec 32 := 0#32
  let c1_i32 : BitVec 32 := 1#32
  let arg70 : BitVec 32 := Scf.iv c0_i32 c1_i32 k0_t1
  let c4_i32_2 : BitVec 32 := 4#32
  let v13 : BitVec 32 := Scalar.muli arg70 c4_i32_2
  let c1_i32_3 : BitVec 32 := 1#32
  let v14 : BitVec 32 := Scalar.addi v13 c1_i32_3
  let c32_i32_4 : BitVec 32 := 32#32
  let v15 : BitVec 32 := Scalar.muli v14 c32_i32_4
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v16 : BitVec 32 := Scalar.addi v15 v1
  let c1024_i32_10 : BitVec 32 := 1024#32
  let v28 : BitVec 32 := Scalar.muli v16 c1024_i32_10
  let c998976_i32_11 : BitVec 32 := 998976#32
  let v29 : BitVec 32 := Scalar.minsi v28 c998976_i32_11
  v29
def k0_mult3 (i : grid0.Coords) (k0_t1 : Fin k0_t1_loop.trips) : BitVec 32 :=
  let c0_i32 : BitVec 32 := 0#32
  let c1_i32 : BitVec 32 := 1#32
  let arg70 : BitVec 32 := Scf.iv c0_i32 c1_i32 k0_t1
  let c4_i32_5 : BitVec 32 := 4#32
  let v17 : BitVec 32 := Scalar.muli arg70 c4_i32_5
  let c2_i32_6 : BitVec 32 := 2#32
  let v18 : BitVec 32 := Scalar.addi v17 c2_i32_6
  let c32_i32_7 : BitVec 32 := 32#32
  let v19 : BitVec 32 := Scalar.muli v18 c32_i32_7
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v20 : BitVec 32 := Scalar.addi v19 v1
  let c1024_i32_12 : BitVec 32 := 1024#32
  let v31 : BitVec 32 := Scalar.muli v20 c1024_i32_12
  let c998976_i32_13 : BitVec 32 := 998976#32
  let v32 : BitVec 32 := Scalar.minsi v31 c998976_i32_13
  v32
def k0_mult4 (i : grid0.Coords) (k0_t1 : Fin k0_t1_loop.trips) : BitVec 32 :=
  let c0_i32 : BitVec 32 := 0#32
  let c1_i32 : BitVec 32 := 1#32
  let arg70 : BitVec 32 := Scf.iv c0_i32 c1_i32 k0_t1
  let c4_i32_8 : BitVec 32 := 4#32
  let v21 : BitVec 32 := Scalar.muli arg70 c4_i32_8
  let c3_i32 : BitVec 32 := 3#32
  let v22 : BitVec 32 := Scalar.addi v21 c3_i32
  let c32_i32_9 : BitVec 32 := 32#32
  let v23 : BitVec 32 := Scalar.muli v22 c32_i32_9
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v24 : BitVec 32 := Scalar.addi v23 v1
  let c1024_i32_14 : BitVec 32 := 1024#32
  let v34 : BitVec 32 := Scalar.muli v24 c1024_i32_14
  let c998976_i32_15 : BitVec 32 := 998976#32
  let v35 : BitVec 32 := Scalar.minsi v34 c998976_i32_15
  v35
def k0_off1 (i : grid0.Coords) (k0_t1 : Fin k0_t1_loop.trips) (c0_i32_1 : BitVec 32) : Fin 1 → Nat :=
  let c0_i32 : BitVec 32 := 0#32
  let c1_i32 : BitVec 32 := 1#32
  let arg70 : BitVec 32 := Scf.iv c0_i32 c1_i32 k0_t1
  let c4_i32 : BitVec 32 := 4#32
  let v9 : BitVec 32 := Scalar.muli arg70 c4_i32
  let v10 : BitVec 32 := Scalar.addi v9 c0_i32_1
  let c32_i32 : BitVec 32 := 32#32
  let v11 : BitVec 32 := Scalar.muli v10 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v12 : BitVec 32 := Scalar.addi v11 v1
  let c1024_i32 : BitVec 32 := 1024#32
  let v25 : BitVec 32 := Scalar.muli v12 c1024_i32
  let c998976_i32 : BitVec 32 := 998976#32
  let v26 : BitVec 32 := Scalar.minsi v25 c998976_i32
  let v27 : BitVec 32 := v26
  ![v27.toNat]
@[reducible] def k0_t2_loop : Scf.Loop 32 :=
  let c0_i32_17 : BitVec 32 := 0#32
  let c64_i32 : BitVec 32 := 64#32
  let v117 : BitVec 32 := Scalar.addi c0_i32_17 c64_i32
  let c1_i32_18 : BitVec 32 := 1#32
  ⟨c0_i32_17, v117, c1_i32_18⟩
def k0_off2 (k0_t2 : Fin k0_t2_loop.trips) : Fin 1 → Nat :=
  let c0_i32_17 : BitVec 32 := 0#32
  let c1_i32_18 : BitVec 32 := 1#32
  let arg72 : BitVec 32 := Scf.iv c0_i32_17 c1_i32_18 k0_t2
  let c16_i32 : BitVec 32 := 16#32
  let v193 : BitVec 32 := Scalar.muli arg72 c16_i32
  let v194 : Index := Scalar.indexCast v193
  ![v194.toNat]
def k0_off3 (k0_t2 : Fin k0_t2_loop.trips) (c0_i32_72 : BitVec 32) : Fin 1 → Nat :=
  let c0_i32_17 : BitVec 32 := 0#32
  let c1_i32_18 : BitVec 32 := 1#32
  let arg72 : BitVec 32 := Scf.iv c0_i32_17 c1_i32_18 k0_t2
  let c16_i32_71 : BitVec 32 := 16#32
  let v218 : BitVec 32 := Scalar.muli arg72 c16_i32_71
  let v219 : BitVec 32 := Scalar.addi c0_i32_72 v218
  let v220 : Index := Scalar.indexCast v219
  ![v220.toNat]
@[reducible] def k0_t3_loop : Scf.Loop 32 :=
  let c0_i32_23 : BitVec 32 := 0#32
  let c64_i32_24 : BitVec 32 := 64#32
  let v136 : BitVec 32 := Scalar.addi c0_i32_23 c64_i32_24
  let c1_i32_25 : BitVec 32 := 1#32
  ⟨c0_i32_23, v136, c1_i32_25⟩
def k0_off4 (k0_t3 : Fin k0_t3_loop.trips) : Fin 1 → Nat :=
  let c0_i32_23 : BitVec 32 := 0#32
  let c1_i32_25 : BitVec 32 := 1#32
  let arg72 : BitVec 32 := Scf.iv c0_i32_23 c1_i32_25 k0_t3
  let c16_i32 : BitVec 32 := 16#32
  let v193 : BitVec 32 := Scalar.muli arg72 c16_i32
  let v194 : Index := Scalar.indexCast v193
  ![v194.toNat]
def k0_off5 (k0_t3 : Fin k0_t3_loop.trips) (c0_i32_72 : BitVec 32) : Fin 1 → Nat :=
  let c0_i32_23 : BitVec 32 := 0#32
  let c1_i32_25 : BitVec 32 := 1#32
  let arg72 : BitVec 32 := Scf.iv c0_i32_23 c1_i32_25 k0_t3
  let c16_i32_71 : BitVec 32 := 16#32
  let v218 : BitVec 32 := Scalar.muli arg72 c16_i32_71
  let v219 : BitVec 32 := Scalar.addi c0_i32_72 v218
  let v220 : Index := Scalar.indexCast v219
  ![v220.toNat]
@[reducible] def k0_t4_loop : Scf.Loop 32 :=
  let c0_i32_30 : BitVec 32 := 0#32
  let c64_i32_31 : BitVec 32 := 64#32
  let v155 : BitVec 32 := Scalar.addi c0_i32_30 c64_i32_31
  let c1_i32_32 : BitVec 32 := 1#32
  ⟨c0_i32_30, v155, c1_i32_32⟩
def k0_off6 (k0_t4 : Fin k0_t4_loop.trips) : Fin 1 → Nat :=
  let c0_i32_30 : BitVec 32 := 0#32
  let c1_i32_32 : BitVec 32 := 1#32
  let arg72 : BitVec 32 := Scf.iv c0_i32_30 c1_i32_32 k0_t4
  let c16_i32 : BitVec 32 := 16#32
  let v193 : BitVec 32 := Scalar.muli arg72 c16_i32
  let v194 : Index := Scalar.indexCast v193
  ![v194.toNat]
def k0_off7 (k0_t4 : Fin k0_t4_loop.trips) (c0_i32_72 : BitVec 32) : Fin 1 → Nat :=
  let c0_i32_30 : BitVec 32 := 0#32
  let c1_i32_32 : BitVec 32 := 1#32
  let arg72 : BitVec 32 := Scf.iv c0_i32_30 c1_i32_32 k0_t4
  let c16_i32_71 : BitVec 32 := 16#32
  let v218 : BitVec 32 := Scalar.muli arg72 c16_i32_71
  let v219 : BitVec 32 := Scalar.addi c0_i32_72 v218
  let v220 : Index := Scalar.indexCast v219
  ![v220.toNat]
@[reducible] def k0_t5_loop : Scf.Loop 32 :=
  let c0_i32_37 : BitVec 32 := 0#32
  let c64_i32_38 : BitVec 32 := 64#32
  let v174 : BitVec 32 := Scalar.addi c0_i32_37 c64_i32_38
  let c1_i32_39 : BitVec 32 := 1#32
  ⟨c0_i32_37, v174, c1_i32_39⟩
def k0_off8 (k0_t5 : Fin k0_t5_loop.trips) : Fin 1 → Nat :=
  let c0_i32_37 : BitVec 32 := 0#32
  let c1_i32_39 : BitVec 32 := 1#32
  let arg72 : BitVec 32 := Scf.iv c0_i32_37 c1_i32_39 k0_t5
  let c16_i32 : BitVec 32 := 16#32
  let v193 : BitVec 32 := Scalar.muli arg72 c16_i32
  let v194 : Index := Scalar.indexCast v193
  ![v194.toNat]
def k0_off9 (k0_t5 : Fin k0_t5_loop.trips) (c0_i32_72 : BitVec 32) : Fin 1 → Nat :=
  let c0_i32_37 : BitVec 32 := 0#32
  let c1_i32_39 : BitVec 32 := 1#32
  let arg72 : BitVec 32 := Scf.iv c0_i32_37 c1_i32_39 k0_t5
  let c16_i32_71 : BitVec 32 := 16#32
  let v218 : BitVec 32 := Scalar.muli arg72 c16_i32_71
  let v219 : BitVec 32 := Scalar.addi c0_i32_72 v218
  let v220 : Index := Scalar.indexCast v219
  ![v220.toNat]
@[reducible] def k0_t6_loop : Scf.Loop 32 :=
  let c0_i32_45 : BitVec 32 := 0#32
  let c64_i32_46 : BitVec 32 := 64#32
  let v179 : BitVec 32 := Scalar.addi c0_i32_45 c64_i32_46
  let c1_i32_47 : BitVec 32 := 1#32
  ⟨c0_i32_45, v179, c1_i32_47⟩
def k0_off10 (k0_t6 : Fin k0_t6_loop.trips) : Fin 1 → Nat :=
  let c0_i32_45 : BitVec 32 := 0#32
  let c1_i32_47 : BitVec 32 := 1#32
  let arg72 : BitVec 32 := Scf.iv c0_i32_45 c1_i32_47 k0_t6
  let c16_i32 : BitVec 32 := 16#32
  let v193 : BitVec 32 := Scalar.muli arg72 c16_i32
  let v194 : Index := Scalar.indexCast v193
  ![v194.toNat]
def k0_off11 (k0_t6 : Fin k0_t6_loop.trips) : Fin 1 → Nat :=
  let c1024_i32_68 : BitVec 32 := 1024#32
  let c0_i32_45 : BitVec 32 := 0#32
  let c1_i32_47 : BitVec 32 := 1#32
  let arg72 : BitVec 32 := Scf.iv c0_i32_45 c1_i32_47 k0_t6
  let c16_i32_67 : BitVec 32 := 16#32
  let v197 : BitVec 32 := Scalar.muli arg72 c16_i32_67
  let v198 : BitVec 32 := Scalar.addi c1024_i32_68 v197
  let v199 : Index := Scalar.indexCast v198
  ![v199.toNat]
@[reducible] def k0_t7_loop : Scf.Loop 32 :=
  let c0_i32_51 : BitVec 32 := 0#32
  let c64_i32_52 : BitVec 32 := 64#32
  let v183 : BitVec 32 := Scalar.addi c0_i32_51 c64_i32_52
  let c1_i32_53 : BitVec 32 := 1#32
  ⟨c0_i32_51, v183, c1_i32_53⟩
def k0_off12 (k0_t7 : Fin k0_t7_loop.trips) : Fin 1 → Nat :=
  let c0_i32_51 : BitVec 32 := 0#32
  let c1_i32_53 : BitVec 32 := 1#32
  let arg72 : BitVec 32 := Scf.iv c0_i32_51 c1_i32_53 k0_t7
  let c16_i32 : BitVec 32 := 16#32
  let v193 : BitVec 32 := Scalar.muli arg72 c16_i32
  let v194 : Index := Scalar.indexCast v193
  ![v194.toNat]
def k0_off13 (k0_t7 : Fin k0_t7_loop.trips) : Fin 1 → Nat :=
  let c1024_i32_68 : BitVec 32 := 1024#32
  let c0_i32_51 : BitVec 32 := 0#32
  let c1_i32_53 : BitVec 32 := 1#32
  let arg72 : BitVec 32 := Scf.iv c0_i32_51 c1_i32_53 k0_t7
  let c16_i32_67 : BitVec 32 := 16#32
  let v197 : BitVec 32 := Scalar.muli arg72 c16_i32_67
  let v198 : BitVec 32 := Scalar.addi c1024_i32_68 v197
  let v199 : Index := Scalar.indexCast v198
  ![v199.toNat]
@[reducible] def k0_t8_loop : Scf.Loop 32 :=
  let c0_i32_57 : BitVec 32 := 0#32
  let c64_i32_58 : BitVec 32 := 64#32
  let v187 : BitVec 32 := Scalar.addi c0_i32_57 c64_i32_58
  let c1_i32_59 : BitVec 32 := 1#32
  ⟨c0_i32_57, v187, c1_i32_59⟩
def k0_off14 (k0_t8 : Fin k0_t8_loop.trips) : Fin 1 → Nat :=
  let c0_i32_57 : BitVec 32 := 0#32
  let c1_i32_59 : BitVec 32 := 1#32
  let arg72 : BitVec 32 := Scf.iv c0_i32_57 c1_i32_59 k0_t8
  let c16_i32 : BitVec 32 := 16#32
  let v193 : BitVec 32 := Scalar.muli arg72 c16_i32
  let v194 : Index := Scalar.indexCast v193
  ![v194.toNat]
def k0_off15 (k0_t8 : Fin k0_t8_loop.trips) : Fin 1 → Nat :=
  let c1024_i32_68 : BitVec 32 := 1024#32
  let c0_i32_57 : BitVec 32 := 0#32
  let c1_i32_59 : BitVec 32 := 1#32
  let arg72 : BitVec 32 := Scf.iv c0_i32_57 c1_i32_59 k0_t8
  let c16_i32_67 : BitVec 32 := 16#32
  let v197 : BitVec 32 := Scalar.muli arg72 c16_i32_67
  let v198 : BitVec 32 := Scalar.addi c1024_i32_68 v197
  let v199 : Index := Scalar.indexCast v198
  ![v199.toNat]
@[reducible] def k0_t9_loop : Scf.Loop 32 :=
  let c0_i32_63 : BitVec 32 := 0#32
  let c64_i32_64 : BitVec 32 := 64#32
  let v191 : BitVec 32 := Scalar.addi c0_i32_63 c64_i32_64
  let c1_i32_65 : BitVec 32 := 1#32
  ⟨c0_i32_63, v191, c1_i32_65⟩
def k0_off16 (k0_t9 : Fin k0_t9_loop.trips) : Fin 1 → Nat :=
  let c0_i32_63 : BitVec 32 := 0#32
  let c1_i32_65 : BitVec 32 := 1#32
  let arg72 : BitVec 32 := Scf.iv c0_i32_63 c1_i32_65 k0_t9
  let c16_i32 : BitVec 32 := 16#32
  let v193 : BitVec 32 := Scalar.muli arg72 c16_i32
  let v194 : Index := Scalar.indexCast v193
  ![v194.toNat]
def k0_off17 (k0_t9 : Fin k0_t9_loop.trips) : Fin 1 → Nat :=
  let c1024_i32_68 : BitVec 32 := 1024#32
  let c0_i32_63 : BitVec 32 := 0#32
  let c1_i32_65 : BitVec 32 := 1#32
  let arg72 : BitVec 32 := Scf.iv c0_i32_63 c1_i32_65 k0_t9
  let c16_i32_67 : BitVec 32 := 16#32
  let v197 : BitVec 32 := Scalar.muli arg72 c16_i32_67
  let v198 : BitVec 32 := Scalar.addi c1024_i32_68 v197
  let v199 : Index := Scalar.indexCast v198
  ![v199.toNat]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x16384 : Shape := ⟨2, ![4096, 16384]⟩
abbrev S4096x4096 : Shape := ⟨2, ![4096, 4096]⟩
abbrev S1000000 : Shape := ⟨1, ![1000000]⟩
abbrev S_ : Shape := ⟨0, ![]⟩
abbrev S1000000x1 : Shape := ⟨2, ![1000000, 1]⟩
abbrev S1000000x2 : Shape := ⟨2, ![1000000, 2]⟩

abbrev nBuf : Space → Nat
  | .hbm => 159
  | .vmem => 0
  | .smem => 0
  | _ => 0

abbrev hbmTy0_0 (i : Nat) : BufTy := match i % 128 with
  | 0 => ⟨S4096x16384, .f32⟩
  | 1 => ⟨S4096x4096, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S1000000, .i32⟩
  | 9 => ⟨S1000000, .i32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x1, .i32⟩
  | 26 => ⟨S1000000x2, .i32⟩
  | 27 => ⟨S1000000, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x1, .i32⟩
  | 44 => ⟨S1000000x2, .i32⟩
  | 45 => ⟨S1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x1, .i32⟩
  | 62 => ⟨S1000000x2, .i32⟩
  | 63 => ⟨S1000000, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S_, .i32⟩
  | 72 => ⟨S1000000, .i32⟩
  | 73 => ⟨S1000000, .i1⟩
  | 74 => ⟨S_, .i32⟩
  | 75 => ⟨S1000000, .i32⟩
  | 76 => ⟨S1000000, .i32⟩
  | 77 => ⟨S1000000, .i32⟩
  | 78 => ⟨S1000000x1, .i32⟩
  | 79 => ⟨S1000000x1, .i32⟩
  | 80 => ⟨S1000000x2, .i32⟩
  | 81 => ⟨S1000000, .f32⟩
  | 82 => ⟨S1000000, .f32⟩
  | 83 => ⟨S1000000, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S1000000, .f32⟩
  | 106 => ⟨S1000000, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S_, .f32⟩
  | 115 => ⟨S1000000, .f32⟩
  | 116 => ⟨S1000000, .f32⟩
  | 117 => ⟨S1000000, .f32⟩
  | 118 => ⟨S_, .f32⟩
  | 119 => ⟨S_, .f32⟩
  | 120 => ⟨S1000000, .f32⟩
  | 121 => ⟨S1000000, .f32⟩
  | 122 => ⟨S1000000, .f32⟩
  | 123 => ⟨S1000000, .f32⟩
  | 124 => ⟨S_, .f32⟩
  | 125 => ⟨S1000000, .f32⟩
  | 126 => ⟨S1000000, .f32⟩
  | 127 => ⟨S1000000, .f32⟩
  | _ => ⟨S4096x16384, .f32⟩

abbrev hbmTy0_1 (i : Nat) : BufTy := match i % 128 with
  | 0 => ⟨S_, .f32⟩
  | 1 => ⟨S1000000, .f32⟩
  | 2 => ⟨S1000000, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S1000000, .f32⟩
  | 9 => ⟨S1000000, .f32⟩
  | 10 => ⟨S1000000, .f32⟩
  | 11 => ⟨S1000000, .f32⟩
  | 12 => ⟨S_, .f32⟩
  | 13 => ⟨S1000000, .f32⟩
  | 14 => ⟨S1000000, .f32⟩
  | 15 => ⟨S1000000, .f32⟩
  | 16 => ⟨S1000000, .f32⟩
  | 17 => ⟨S1000000, .f32⟩
  | 18 => ⟨S1000000, .f32⟩
  | 19 => ⟨S1000000, .f32⟩
  | 20 => ⟨S_, .f32⟩
  | 21 => ⟨S1000000, .f32⟩
  | 22 => ⟨S1000000, .f32⟩
  | 23 => ⟨S1000000, .f32⟩
  | 24 => ⟨S_, .f32⟩
  | 25 => ⟨S1000000, .f32⟩
  | 26 => ⟨S1000000, .f32⟩
  | 27 => ⟨S1000000, .f32⟩
  | 28 => ⟨S_, .f32⟩
  | 29 => ⟨S_, .f32⟩
  | 30 => ⟨S_, .f32⟩
  | _ => ⟨S4096x16384, .f32⟩

abbrev hbmTy (i : Nat) : BufTy := match i / 128 with
  | 0 => hbmTy0_0 i
  | 1 => hbmTy0_1 i
  | _ => ⟨S4096x16384, .f32⟩

abbrev bufTy : (tb : Table) → Fin (tcTables nBuf tb) → BufTy
  | .hbm, ⟨i, _⟩ => hbmTy i
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_c_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_c_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_13 : Ref sig .tc := ⟨.hbm, 71, rfl⟩
abbrev main_v47 : Ref sig .tc := ⟨.hbm, 72, rfl⟩
abbrev main_v48 : Ref sig .tc := ⟨.hbm, 73, rfl⟩
abbrev main_c_14 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_17 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_21 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_22 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_24 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_25 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_26 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_27 : Ref sig .tc := ⟨.hbm, 156, rfl⟩
abbrev main_v117 : Ref sig .tc := ⟨.hbm, 157, rfl⟩
abbrev main_v118 : Ref sig .tc := ⟨.hbm, 158, rfl⟩

abbrev nD : Nat := 1
abbrev τ : Topo := Topo.v7x

variable {F : FTy → Type} [FloatOps F]
-- ==== Proof.GatherBatch.lean ====
/-
  Two indirect gathers on one DMA semaphore. Each gather is a stream of one-row copies; the rows of both gathers are
  one counted batch of equal transfers (`Transfers.Batch`), so the two waits that follow need not be matched to one
  gather or the other: the first consumes half of the batch's units, the second drains it and hands every row back.
-/
module

public import Idealize.ShloMosaic.Lib.SparseCore.Stream
public import Idealize.ShloMosaic.Lib.Batch

@[expose] public section

noncomputable section

namespace Cert.Proof

open Idealize.ShloMosaic Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore

section

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- What is pending from transfer `j` on is the next `o` transfers and what is pending after them. -/
theorem pending_take {n : ℕ} (Φ : Fin n → sProp 𝕄) : ∀ (o j : ℕ) (h : j + o ≤ n),
    bigSep (pending j) Φ ⊢ iprop(bigSep Finset.univ (fun k : Fin o => Φ ⟨j + k.val, by omega⟩) ∗ bigSep (pending (j + o)) Φ)
  | 0, j, h => by
    iintro H
    isplitr
    · rw [Finset.univ_eq_empty, BI.bigSep_empty]; iempintro
    · iexact H
  | o + 1, j, h => by
    rw [bigSep_pending_step Φ j (by omega)]
    iintro ⟨H0, H⟩
    ihave H' := (pending_take Φ o (j + 1) (by omega)) $$ H
    icases H' with ⟨H1, H2⟩
    isplitr [H2]
    · rw [bigSep_univ_succ]
      isplitl [H0]
      · iapply (Entails.of_eq (congrArg Φ (Fin.ext (by simp)))) $$ H0
      iapply (Entails.of_eq (BI.bigSep_congr fun k _ => congrArg Φ (Fin.ext (by simp only [Fin.val_succ]; omega)))) $$ H1
    · iapply (Entails.of_eq (by rw [show j + 1 + o = j + (o + 1) by omega])) $$ H2

/-- Two families of `o` deliveries as one of `o + o`: the first family's, then the second's. -/
def pairD {o : ℕ} (A B : Fin o → sProp 𝕄) (t : Fin (o + o)) : sProp 𝕄 :=
  if h : t.val < o then A ⟨t.val, h⟩ else B ⟨t.val - o, by omega⟩

instance pairD_storable {o : ℕ} (A B : Fin o → sProp 𝕄) [∀ t, Storable (upEmb : UEmb _ 𝕄) (A t)] [∀ t, Storable (upEmb : UEmb _ 𝕄) (B t)]
    (t : Fin (o + o)) : Storable (upEmb : UEmb _ 𝕄) (pairD A B t) := by
  unfold pairD; split <;> infer_instance

theorem pairD_fst {o : ℕ} (A B : Fin o → sProp 𝕄) (k : Fin o) (h : 0 + k.val < o + o) : pairD A B ⟨0 + k.val, h⟩ = A k := by
  unfold pairD
  rw [dif_pos (by simp)]
  exact congrArg A (Fin.ext (by simp))

theorem pairD_snd {o : ℕ} (A B : Fin o → sProp 𝕄) (k : Fin o) (h : o + k.val < o + o) : pairD A B ⟨o + k.val, h⟩ = B k := by
  unfold pairD
  rw [dif_neg (by simp)]
  exact congrArg B (Fin.ext (by simp))

/-- All deliveries of the pair are all of the first family's and all of the second's. -/
theorem pairD_split {o : ℕ} (A B : Fin o → sProp 𝕄) :
    bigSep Finset.univ (pairD A B) ⊢ iprop(bigSep Finset.univ A ∗ bigSep Finset.univ B) := by
  rw [bigSep_pending_zero]
  iintro H
  ihave H' := (pending_take (pairD A B) o 0 (by omega)) $$ H
  icases H' with ⟨H1, H2⟩
  isplitl [H1]
  · iapply (Entails.of_eq (BI.bigSep_congr fun k _ => pairD_fst A B k _)) $$ H1
  · ihave H2' := (Entails.of_eq (by rw [Nat.zero_add] : bigSep (pending (0 + o)) (pairD A B) = bigSep (pending o) (pairD A B))) $$ H2
    ihave H3 := (pending_take (pairD A B) o o le_rfl) $$ H2'
    icases H3 with ⟨H4, -⟩
    iapply (Entails.of_eq (BI.bigSep_congr fun k _ => pairD_snd A B k _)) $$ H4

variable (c : Thread nD τ) {sp : Space} {s₀ s si : Shape} {e : EltTy} {a : Nat}

/-- What row `j` of a gather delivers: the destination's row written with the source's row that entry `j` of the list
    names, the list's entry back at its share, and the row's own piece of the source's share back. -/
def rowDeliv (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

instance rowDeliv_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowDeliv c src dst hg offs hn ho q qo fs fd fo r j) := by
  unfold rowDeliv; infer_instance

/-- All rows of a gather delivered are the destination written with the gather's payload and both shares whole. -/
theorem rowDeliv_join {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)} {fo : Buf (Elt F) (offs.view.loc c)}
    {r : Fin (s.size hg.axis') → Fin (s₀.size hg.axis)} :
    bigSep Finset.univ (rowDeliv (F := F) (Ix := Ix) (Name := Name) (U := U) (Lvl := Lvl) c src dst hg offs hn ho q qo fs fd fo r)
      ⊢ iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) := by
  have hen : Function.Bijective (fun j : Fin (s.size hg.axis') => si.rowMajor.symm (j.cast hn.symm)) :=
    si.rowMajor.symm.bijective.comp (finCongr hn.symm).bijective
  have hW : ∀ (k : Fin (s.size hg.axis')) (i : (s.rowShape hg.axis').Idx), src.view.read (Elt F) fs (hg.rowIdx (r k) i)
      = gatherPayload hg (src.view.read (Elt F) fs) r ((s.rowRect hg.axis' k).emb i) := fun k i => by
    unfold gatherPayload; rw [Shape.Gathers.idx_rowRect_emb]
  unfold rowDeliv
  have hrows := pointsTo_rows_write (Ix := Ix) (Name := Name) (U := U) (Lvl := Lvl) c dst.view hg.axis' fd
    (fun k i => src.view.read (Elt F) fs (hg.rowIdx (r k) i)) _ hW
  have hoffs := Entails.of_eq (pointsTo_entries (Ix := Ix) (Name := Name) (U := U) (Lvl := Lvl) (Val := Elt F) c offs.view
    (fun j : Fin (s.size hg.axis') => si.rowMajor.symm (j.cast hn.symm)) hen qo fo).symm
  have hsrc := Entails.of_eq (pointsTo_piecesOf (Ix := Ix) (Name := Name) (U := U) (Lvl := Lvl) (src.view.set) fs ho q).symm
  refine (Transfers.bigSep_sep_out _ _ _).trans ?_
  refine Entails.trans (sep_mono_left ((Transfers.bigSep_sep_out _ _ _))) ?_
  refine Entails.trans (sep_mono_right hsrc) ?_
  refine Entails.trans (sep_mono_left (sep_mono_right hoffs)) ?_
  refine Entails.trans (sep_mono_left (sep_mono_left hrows)) ?_
  iintro ⟨⟨Hd, Ho⟩, Hs⟩
  isplitl [Hd]; · iexact Hd
  isplitl [Hs] <;> iassumption

variable [Preorder Lvl] {Λ : Labels}
variable {defs : Defs nD τ sig (Elt F) Λ} (EC : UEmb Counters (MT nD τ sig Ix (Elt F) Name U Lvl)) (𝒱 : Variants) (bd : Option 𝒱.V)
variable {α : Type} {Q : α → sProp (MT nD τ sig Ix (Elt F) Name U Lvl)}

/-- Starting an indirect gather whose rows are the next transfers of a batch: given a share of the source, the
    destination outright, a share of the list (every word in range), and the batch with `j` transfers issued, the
    program continues with the batch `o` transfers further, `o` the number of rows. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} {j u : ℕ} (hj : j + s.size hg.axis' ≤ n) (hu : u ≤ j * N)
    (hD : ∀ k : Fin (s.size hg.axis'), rowDeliv c src dst hg offs hn ho q qo fs fd fo (rows (offs.view.read (Elt F) fo) hn hin) k ⊢ D ⟨j + k.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsum : ∑ j, (rd j).dst.view.dmaCredit = s.size hg.axis' * N :=
    (Finset.sum_congr rfl fun j _ => hN j).trans (by rw [Finset.sum_const, Finset.card_univ, Fintype.card_fin, smul_eq_mul])
  unfold Batch
  iintro ⟨Hs, Hd, Ho, ⟨%γ, %γ₀, %κ, #Hinv, HI, H0, Hcred⟩⟩ Hk
  ihave HI' := (pending_take (fun t => count EC (γ t) 0) (s.size hg.axis') j hj) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ i : Fin (s.size hg.axis'), iprop(inv κ (batchBody EC (c, SemLoc.dma sem) N D γ γ₀)
          ∗ ((((dst.view.loc c ↦[(dst.view.slice (s.rowRect hg.axis' i)).set]{fullShare} fd)
            ∗ (offs.view.loc c ↦[{offs.view.emb (S.entry i)}]{qo} fo))
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (fun x => src.view.read (Elt F) fs (hg.rowIdx (r i) x)) Finset.univ))
        ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [← hN i] at *
        iapply (batch_creditUpdate EC (⟨j + i.val, by omega⟩ : Fin n) (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end

end Cert.Proof
-- ==== Proof.Setup.lean ====
/-
  The program as the launch theorem sees it, the resource algebra of the proof, and the two assertions about a buffer
  that every later module states its resources with: `holds` (the buffer, outright, with given contents) and `anyAt`
  (the buffer, outright, with some contents).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.GatherBatch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- Where the counted batches' counters live. -/
abbrev EC : UEmb Counters (MT nD τ sig (HIx 1) (Elt F) ℕ UU ℕ) := countersEmb

/-- The vector subcore `(L 0, L 1)` of device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## A buffer with given contents -/

section Holds

variable (c : Thread nD τ) {sp : Space} {s : Shape} {e : EltTy}

/-- The buffer behind `m` is held outright and reads as `v`. -/
def holds (m : Memref sig c.2.kind sp s e) (v : s.Idx → Elt F e) : sProp 𝕄 :=
  iprop(∃ f : Buf (Elt F) (m.view.loc c), ⌜m.view.read (Elt F) f = v⌝ ∗ (m.view.loc c ↦[m.view.set]{fullShare} f))

instance holds_storable (m : Memref sig c.2.kind sp s e) (v : s.Idx → Elt F e) :
    Storable (upEmb : UEmb _ 𝕄) (holds c m v) := by unfold holds; infer_instance

/-- The buffer behind `m` is held outright, whatever it reads as. -/
def anyAt (m : Memref sig c.2.kind sp s e) : sProp 𝕄 :=
  iprop(∃ f : Buf (Elt F) (m.view.loc c), (m.view.loc c ↦[m.view.set]{fullShare} f))

theorem holds_any (m : Memref sig c.2.kind sp s e) (v : s.Idx → Elt F e) : holds (F := F) c m v ⊢ anyAt c m := by
  unfold holds anyAt
  iintro ⟨%f, -, H⟩
  iexists f; iexact H

/-- What the thread owes, with only waits at the level below every handshake recorded since `W`. -/
def Owe (O : CellTallies nD τ sig (HIx 1)) (W : Waits sig (HIx 1)) : sProp 𝕄 :=
  iprop(∃ W', ⌜∀ p ∈ W', p ∈ W ∨ p.2 = none⌝ ∗ owes c O W')

theorem owe_open {O : CellTallies nD τ sig (HIx 1)} {W : Waits sig (HIx 1)} :
    (Owe c O W : sProp 𝕄) ⊢ iprop(∃ W', ⌜∀ p ∈ W', p ∈ W ∨ p.2 = none⌝ ∗ owes c O W') := by
  unfold Owe; iintro H; iexact H

theorem owe_insert {O : CellTallies nD τ sig (HIx 1)} {W W' : Waits sig (HIx 1)} (sm : SemLoc sig)
    (h : ∀ p ∈ W', p ∈ W ∨ p.2 = none) :
    (owes c O (insert (sm, (default : HIx 1)) W') : sProp 𝕄) ⊢ Owe c O W := by
  unfold Owe
  iintro H
  iexists insert (sm, (default : HIx 1)) W'
  isplitr
  · ipureintro
    intro p hp
    rcases Finset.mem_insert.mp hp with rfl | hp
    · exact .inr rfl
    · exact h p hp
  · iexact H

end Holds

end Cert.Proof
-- ==== Proof.Copies.lean ====
/-
  One slot's eight index copies. Eight slices of eight index arrays are copied into eight staging buffers, all on one
  DMA semaphore, and the eight waits come later: one counted batch. The resources of the batch between two copies, and
  between two waits, are folded here behind three definitions, with one lemma per operation that moves between them.
-/
module

public import proofs.«01_k».proof.Proof.Setup

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section

variable (c : Thread nD τ)
variable (A : Fin 8 → Memref sig c.2.kind .hbm S1000000 .i32) (B : Fin 8 → Memref sig c.2.kind .vmem S1024 .i32)
variable (q : PosShare TreeShare) (fA : ∀ k, Buf (Elt F) ((A k).view.loc c))

/-- The 1024 entries from `off` on. -/
abbrev chunkRect (off : Fin 1 → ℕ) (h : ∀ a, off a + S1024.size a ≤ S1000000.size a) : Rect S1000000 :=
  Rect.unit (s := S1000000) off S1024.size h

/-- The 1024 entries of array `k` from `off` on, as the copy names them. -/
abbrev chunkOf (k : Fin 8) (off : Fin 1 → ℕ) (h : ∀ a, off a + S1024.size a ≤ S1000000.size a) :
    Memref sig c.2.kind .hbm S1024 .i32 := (A k).slice (chunkRect off h) (fun _ => rfl)

/-- What those entries are. -/
abbrev chunkVal (k : Fin 8) (off : Fin 1 → ℕ) (h : ∀ a, off a + S1024.size a ≤ S1000000.size a) : S1024.Idx → Elt F .i32 :=
  (chunkOf c A k off h).view.read (Elt F) (fA k)

/-- A share of each index array. -/
abbrev idxShares : sProp 𝕄 := bigSep Finset.univ fun k => ((A k).view.loc c ↦[(A k).view.set]{q} fA k)

/-- The slot at rest: its semaphore at zero, a share of each index array, the staging buffers with any contents. -/
def IdxIdle (sem : DmaSem sig) : sProp 𝕄 :=
  iprop(semVal (c, .dma sem) 0 ∗ idxShares c A q fA ∗ bigSep Finset.univ fun k => anyAt (F := F) c (B k))

/-- The slot with its copies landed: as at rest, the staging buffers holding the eight chunks. -/
def IdxReady (sem : DmaSem sig) (off : Fin 1 → ℕ) (h : ∀ a, off a + S1024.size a ≤ S1000000.size a) : sProp 𝕄 :=
  iprop(semVal (c, .dma sem) 0 ∗ idxShares c A q fA ∗ bigSep Finset.univ fun k => holds (F := F) c (B k) (chunkVal c A fA k off h))

/-- What copy `k` delivers. -/
def idxD (off : Fin 1 → ℕ) (h : ∀ a, off a + S1024.size a ≤ S1000000.size a) (k : Fin 8) : sProp 𝕄 :=
  iprop(holds (F := F) c (B k) (chunkVal c A fA k off h)
    ∗ ((A k).view.loc c ↦[(chunkOf c A k off h).view.set]{q} fA k))

instance idxD_storable (off : Fin 1 → ℕ) (h : ∀ a, off a + S1024.size a ≤ S1000000.size a) (k : Fin 8) :
    Storable (upEmb : UEmb _ 𝕄) (idxD c A B q fA off h k) := by unfold idxD; infer_instance

/-- What copy `k` takes. -/
def idxS (off : Fin 1 → ℕ) (h : ∀ a, off a + S1024.size a ≤ S1000000.size a) (k : Fin 8) : sProp 𝕄 :=
  iprop(((A k).view.loc c ↦[(chunkOf c A k off h).view.set]{q} fA k) ∗ anyAt (F := F) c (B k))

/-- The part of array `k` that copy `k` does not touch. -/
abbrev idxRest (off : Fin 1 → ℕ) (h : ∀ a, off a + S1024.size a ≤ S1000000.size a) (k : Fin 8) : sProp 𝕄 :=
  ((A k).view.loc c ↦[(A k).view.set \ (chunkOf c A k off h).view.set]{q} fA k)

/-- The slot with `j` copies started and none waited for. -/
def IdxIss (sem : DmaSem sig) (N : ℕ) (off : Fin 1 → ℕ) (h : ∀ a, off a + S1024.size a ≤ S1000000.size a) (j : ℕ) : sProp 𝕄 :=
  iprop(Batch EC c (.dma sem) (default : HIx 1) N (idxD c A B q fA off h) j 0
    ∗ bigSep (pending j) (idxS c A B q fA off h) ∗ bigSep Finset.univ (idxRest c A q fA off h))

/-- The slot with every copy started and `u` waited for. -/
def IdxWait (sem : DmaSem sig) (N : ℕ) (off : Fin 1 → ℕ) (h : ∀ a, off a + S1024.size a ≤ S1000000.size a) (u : ℕ) : sProp 𝕄 :=
  iprop(Batch EC c (.dma sem) (default : HIx 1) N (idxD c A B q fA off h) 8 (u * N)
    ∗ bigSep Finset.univ (idxRest c A q fA off h))

variable {A B q fA} {sem : DmaSem sig} {N : ℕ} {off : Fin 1 → ℕ} {h : ∀ a, off a + S1024.size a ≤ S1000000.size a}

/-- A share of an index array is the chunk's elements and the rest. -/
theorem idx_split (k : Fin 8) : ((A k).view.loc c ↦[(A k).view.set]{q} fA k : sProp 𝕄)
    = iprop(((A k).view.loc c ↦[(chunkOf c A k off h).view.set]{q} fA k) ∗ idxRest c A q fA off h k) :=
  BI.Entails.antisymm (pointsTo_split_subset (View.set_slice_subset _ _)).1 (pointsTo_split_subset (View.set_slice_subset _ _)).2

/-- At rest, the batch can be opened with nothing started. -/
theorem idx_open : IdxIdle c A B q fA sem ⊢ (|={Set.univ}=> IdxIss c A B q fA sem N off h 0 : sProp 𝕄) := by
  unfold IdxIdle IdxIss
  iintro ⟨Hv, HA, HB⟩
  imod (batch_alloc' EC c (default : HIx 1) N (idxD c A B q fA off h) (E := Set.univ)) $$ Hv with H
  imodintro
  isplitl [H]; · iexact H
  ihave HA' := (Entails.of_eq (BI.bigSep_congr fun k _ => idx_split (F := F) (off := off) (h := h) c k)) $$ HA
  ihave HA'' := Transfers.bigSep_sep_out _ _ _ $$ HA'
  icases HA'' with ⟨HA, HR⟩
  isplitr [HR]
  · rw [pending_zero]
    unfold idxS
    iapply Transfers.bigSep_sep_in
    isplitl [HA]; · iexact HA
    iexact HB
  · iexact HR

/-- With every copy started the slot is ready to be waited on. -/
theorem idx_full : IdxIss c A B q fA sem N off h 8 ⊢ IdxWait c A B q fA sem N off h 0 := by
  unfold IdxIss IdxWait
  iintro ⟨H, -, HR⟩
  isplitl [H]
  · rw [Nat.zero_mul]; iexact H
  · iexact HR

variable {α : Type} [FloatOps F] {Q : α → sProp (MT nD τ sig (HIx 1) (Elt F) ℕ UU ℕ)}

/-- Starting copy `j`. -/
theorem idx_start (j : Fin 8) {sem : DmaSem sig}
    {hsrc : (chunkOf c A j off h).view.WordExact} {hdst : (B j).view.WordExact}
    {hsem : DmaTarget.Typed (nD := nD) .hbm (.dma sem) (.here (B j))}
    (hN : (B j).view.dmaCredit = N)
    {k : PUnit.{1} → Prog (TpuEff nD τ sig (Elt F) Λ₀ c.2) α} :
    IdxIss c A B q fA sem N off h j.val
      ⊢ iprop((IdxIss c A B q fA sem N off h (j.val + 1) -∗ wp frame (wpE defs₀ 𝒱₀ c none) Set.univ (k ⟨⟩) Q)
          -∗ wp frame (wpE defs₀ 𝒱₀ c none) Set.univ
              (.op (.enqueueDma (chunkOf c A j off h) (.here (B j)) (.dma sem) hsrc hdst hsem) k) Q) := by
  unfold IdxIss
  rw [bigSep_pending_step _ j.val j.isLt]
  iintro ⟨H, ⟨HS, HP⟩, HR⟩ Hk
  unfold idxS anyAt
  icases HS with ⟨HA, ⟨%fd, HB⟩⟩
  iapply (wp_dmaBatch (src := chunkOf c A j off h) (via := .same) (dst := B j) (sm := .dma sem) (q := q) (fs := fA j) (fd := fd)
    (D := idxD c A B q fA off h) (j := j.val) (u := 0) EC 𝒱₀ c none (default : HIx 1) N hN subset_rfl j.isLt (Nat.zero_le _) (by
    unfold idxD holds
    iintro ⟨H1, H2⟩
    isplitl [H1]
    · iexists _
      isplitr
      rotate_left
      · iexact H1
      · ipureintro
        exact View.read_write_univ _ _
    · iexact H2)) $$ [HA HB H]
  · isplitl [HA]; · iexact HA
    isplitl [HB]; · iexact HB
    iexact H
  · iintro H
    iapply Hk
    isplitl [H]; · iexact H
    isplitl [HP]; · iexact HP
    iexact HR

variable {O : CellTallies nD τ sig (HIx 1)} {W : Waits sig (HIx 1)}

/-- Waiting for one more copy, not the last. -/
theorem idx_wait (u : ℕ) (hu : u < 7) {sem : DmaSem sig} {sp' : Space} {s' : Shape} {e' : EltTy}
    {srcw : Memref sig c.2.kind sp' s' e'} {sp : Space} {s : Shape} {e : EltTy} {dstw : Memref sig c.2.kind sp s e}
    {hsrc : srcw.view.WordExact} {hdst : dstw.view.WordExact}
    (hN : dstw.view.dmaCredit = N) (hN0 : 0 < N)
    {k : PUnit.{1} → Prog (TpuEff nD τ sig (Elt F) Λ₀ c.2) α} :
    iprop(MayWaits c (default : HIx 1) O ∗ IdxWait c A B q fA sem N off h u ∗ Owe c O W)
      ⊢ iprop((iprop(IdxWait c A B q fA sem N off h (u + 1) ∗ Owe c O W) -∗ wp frame (wpE defs₀ 𝒱₀ c none) Set.univ (k ⟨⟩) Q)
          -∗ wp frame (wpE defs₀ 𝒱₀ c none) Set.univ (.op (.waitDma2 sem srcw dstw hsrc hdst) k) Q) := by
  unfold IdxWait
  iintro ⟨#Hmw, ⟨H, HR⟩, HO⟩ Hk
  ihave HO' := owe_open c $$ HO
  icases HO' with ⟨%W', %hW, HO⟩
  ihave Hw := MayWaits.elim (SemLoc.dma sem) $$ Hmw
  iapply (wp_waitBatchO EC 𝒱₀ c none (default : HIx 1) (D := idxD c A B q fA off h) (u := u * N) hN (by nlinarith)) $$ [H HO Hw]
  · isplitl [H]; · iexact H
    isplitl [HO] <;> iassumption
  · iintro ⟨H, HO⟩
    iapply Hk
    isplitl [H HR]
    · isplitl [H]
      · rw [Nat.add_mul, Nat.one_mul]; iexact H
      · iexact HR
    · iapply (owe_insert c (.dma sem) hW) $$ HO

/-- Waiting for the last copy: the slot's chunks are in its staging buffers. -/
theorem idx_last {sem : DmaSem sig} {sp' : Space} {s' : Shape} {e' : EltTy}
    {srcw : Memref sig c.2.kind sp' s' e'} {sp : Space} {s : Shape} {e : EltTy} {dstw : Memref sig c.2.kind sp s e}
    {hsrc : srcw.view.WordExact} {hdst : dstw.view.WordExact}
    (hN : dstw.view.dmaCredit = N) (hN0 : 0 < N)
    {k : PUnit.{1} → Prog (TpuEff nD τ sig (Elt F) Λ₀ c.2) α} :
    iprop(MayWaits c (default : HIx 1) O ∗ IdxWait c A B q fA sem N off h 7 ∗ Owe c O W)
      ⊢ iprop((iprop(IdxReady c A B q fA sem off h ∗ Owe c O W) -∗ wp frame (wpE defs₀ 𝒱₀ c none) Set.univ (k ⟨⟩) Q)
          -∗ wp frame (wpE defs₀ 𝒱₀ c none) Set.univ (.op (.waitDma2 sem srcw dstw hsrc hdst) k) Q) := by
  unfold IdxWait
  iintro ⟨#Hmw, ⟨H, HR⟩, HO⟩ Hk
  ihave HO' := owe_open c $$ HO
  icases HO' with ⟨%W', %hW, HO⟩
  ihave Hw := MayWaits.elim (SemLoc.dma sem) $$ Hmw
  iapply (wp_waitBatchLastO EC 𝒱₀ c none (default : HIx 1) (D := idxD c A B q fA off h) (u := 7 * N) hN hN0 (by ring)) $$ [H HO Hw]
  · isplitl [H]; · iexact H
    isplitl [HO] <;> iassumption
  · iintro ⟨HD, Hv, HO⟩
    iapply Hk
    isplitl [HD Hv HR]
    · unfold IdxReady
      isplitl [Hv]; · iexact Hv
      unfold idxD
      ihave HD' := Transfers.bigSep_sep_out _ _ _ $$ HD
      icases HD' with ⟨HB, HA⟩
      isplitl [HA HR]
      · unfold idxShares
        iapply (Entails.of_eq (BI.bigSep_congr fun k _ => (idx_split (F := F) (off := off) (h := h) c k).symm))
        iapply Transfers.bigSep_sep_in
        isplitl [HA]; · iexact HA
        iexact HR
      · iexact HB
    · iapply (owe_insert c (.dma sem) hW) $$ HO

end

end Cert.Proof
-- ==== Proof.Gathers.lean ====
/-
  One slot's two gathers. Two lists of 2048 words name the entries of two tables; both gathers run on one DMA semaphore
  and the two waits come later. Their 4096 one-word copies are one counted batch. The resources at rest, between the
  starts and between the waits are folded here, with one lemma per operation.
-/
module

public import proofs.«01_k».proof.Proof.Setup

@[expose] public section

noncomputable section

namespace Cert.Proof

open Cert.KernelIdeal Cert.KernelIdeal.Gen

open Idealize.ShloMosaic Idealize.ShloMosaic.Transfers
open Idealize.ShloMosaic.SparseCore
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section

variable (c : Thread nD τ)
variable (T0 : Memref sig c.2.kind .hbm S67108864 .f32) (T1 : Memref sig c.2.kind .hbm S16777216 .f32)
variable (L0 L1 : Memref sig c.2.kind .vmem S2048 .i32) (D0 D1 : Memref sig c.2.kind .vmem S2048 .f32)
variable (q : PosShare TreeShare) (f0 : Buf (Elt F) (T0.view.loc c)) (f1 : Buf (Elt F) (T1.view.loc c))

/-- The tables as the gathers name them: all of each. -/
abbrev all0 : Memref sig c.2.kind .hbm S67108864 .f32 :=
  T0.slice (Rect.unit (s := S67108864) ![0] S67108864.size inb_S67108864_S67108864_0) (fun _ => rfl)
abbrev all1 : Memref sig c.2.kind .hbm S16777216 .f32 :=
  T1.slice (Rect.unit (s := S16777216) ![0] S16777216.size inb_S16777216_S16777216_0) (fun _ => rfl)

/-- Every word of the list is an index of the table. -/
abbrev In0 (v : S2048.Idx → Elt F .i32) : Prop := ∀ x, (v x).toNat < S67108864.size (gathers_S67108864_S2048).axis
abbrev In1 (v : S2048.Idx → Elt F .i32) : Prop := ∀ x, (v x).toNat < S16777216.size (gathers_S16777216_S2048).axis

/-- The entries of the first table that the list `v` names. -/
abbrev pick0 (v : S2048.Idx → Elt F .i32) (h : In0 (F := F) v) : S2048.Idx → Elt F .f32 :=
  gatherPayload gathers_S67108864_S2048 ((all0 c T0).view.read (Elt F) f0) (rows (si := S2048) v rfl h)
/-- The entries of the second table that the list `v` names. -/
abbrev pick1 (v : S2048.Idx → Elt F .i32) (h : In1 (F := F) v) : S2048.Idx → Elt F .f32 :=
  gatherPayload gathers_S16777216_S2048 ((all1 c T1).view.read (Elt F) f1) (rows (si := S2048) v rfl h)

abbrev tab0 : sProp 𝕄 := ((all0 c T0).view.loc c ↦[(all0 c T0).view.set]{q} f0)
abbrev tab1 : sProp 𝕄 := ((all1 c T1).view.loc c ↦[(all1 c T1).view.set]{q} f1)

/-- The slot at rest: its semaphore at zero, a share of each table, the two value buffers with any contents. -/
def GatIdle (sem : DmaSem sig) : sProp 𝕄 :=
  iprop(semVal (c, .dma sem) 0 ∗ tab0 c T0 q f0 ∗ tab1 c T1 q f1 ∗ anyAt (F := F) c D0 ∗ anyAt (F := F) c D1)

/-- The slot with its gathers landed: as at rest, the value buffers holding the named entries; the lists are free. -/
def GatReady (sem : DmaSem sig) (v0 v1 : S2048.Idx → Elt F .i32) (h0 : In0 (F := F) v0) (h1 : In1 (F := F) v1) : sProp 𝕄 :=
  iprop(semVal (c, .dma sem) 0 ∗ tab0 c T0 q f0 ∗ tab1 c T1 q f1
    ∗ holds c D0 (pick0 c T0 f0 v0 h0) ∗ holds c D1 (pick1 c T1 f1 v1 h1) ∗ anyAt (F := F) c L0 ∗ anyAt (F := F) c L1)

theorem pos0 : 0 < S2048.size (gathers_S67108864_S2048).axis' := by decide
theorem pos1 : 0 < S2048.size (gathers_S16777216_S2048).axis' := by decide

/-- What the rows of the first gather deliver, and those of the second. -/
def gatA (v0 : S2048.Idx → Elt F .i32) (h0 : In0 (F := F) v0) (l0 : Buf (Elt F) (L0.view.loc c)) (d0 : Buf (Elt F) (D0.view.loc c)) :
    Fin 2048 → sProp 𝕄 :=
  rowDeliv c (all0 c T0) D0 gathers_S67108864_S2048 L0 rfl pos0 q fullShare f0 d0 l0 (rows (si := S2048) v0 rfl h0)
def gatB (v1 : S2048.Idx → Elt F .i32) (h1 : In1 (F := F) v1) (l1 : Buf (Elt F) (L1.view.loc c)) (d1 : Buf (Elt F) (D1.view.loc c)) :
    Fin 2048 → sProp 𝕄 :=
  rowDeliv c (all1 c T1) D1 gathers_S16777216_S2048 L1 rfl pos1 q fullShare f1 d1 l1 (rows (si := S2048) v1 rfl h1)

instance gatA_storable (v0 : S2048.Idx → Elt F .i32) (h0 : In0 (F := F) v0) (l0 : Buf (Elt F) (L0.view.loc c))
    (d0 : Buf (Elt F) (D0.view.loc c)) (t : Fin 2048) : Storable (upEmb : UEmb _ 𝕄) (gatA c T0 L0 D0 q f0 v0 h0 l0 d0 t) :=
  rowDeliv_storable c _ _ _ _ _ _ _ _ _ _ _ _ _
instance gatB_storable (v1 : S2048.Idx → Elt F .i32) (h1 : In1 (F := F) v1) (l1 : Buf (Elt F) (L1.view.loc c))
    (d1 : Buf (Elt F) (D1.view.loc c)) (t : Fin 2048) : Storable (upEmb : UEmb _ 𝕄) (gatB c T1 L1 D1 q f1 v1 h1 l1 d1 t) :=
  rowDeliv_storable c _ _ _ _ _ _ _ _ _ _ _ _ _

/-- All rows of the first gather together, and all rows of the second. -/
theorem gatA_join (v0 : S2048.Idx → Elt F .i32) (h0 : In0 (F := F) v0) (l0 : Buf (Elt F) (L0.view.loc c))
    (d0 : Buf (Elt F) (D0.view.loc c)) : bigSep Finset.univ (gatA c T0 L0 D0 q f0 v0 h0 l0 d0)
      ⊢ iprop((D0.view.loc c ↦[D0.view.set]{fullShare} (D0.view.write (Elt F) d0 (pick0 c T0 f0 v0 h0) Finset.univ))
          ∗ tab0 c T0 q f0 ∗ (L0.view.loc c ↦[L0.view.set]{fullShare} l0)) :=
  rowDeliv_join (Name := ℕ) (U := UU) (Lvl := ℕ) (Ix := HIx 1) c (src := all0 c T0) (dst := D0) (hg := gathers_S67108864_S2048) (offs := L0)
    (hn := rfl) (ho := pos0) (q := q) (qo := fullShare)
theorem gatB_join (v1 : S2048.Idx → Elt F .i32) (h1 : In1 (F := F) v1) (l1 : Buf (Elt F) (L1.view.loc c))
    (d1 : Buf (Elt F) (D1.view.loc c)) : bigSep Finset.univ (gatB c T1 L1 D1 q f1 v1 h1 l1 d1)
      ⊢ iprop((D1.view.loc c ↦[D1.view.set]{fullShare} (D1.view.write (Elt F) d1 (pick1 c T1 f1 v1 h1) Finset.univ))
          ∗ tab1 c T1 q f1 ∗ (L1.view.loc c ↦[L1.view.set]{fullShare} l1)) :=
  rowDeliv_join (Name := ℕ) (U := UU) (Lvl := ℕ) (Ix := HIx 1) c (src := all1 c T1) (dst := D1) (hg := gathers_S16777216_S2048) (offs := L1)
    (hn := rfl) (ho := pos1) (q := q) (qo := fullShare)

/-- The slot with the first gather started. -/
def Gat1 (sem : DmaSem sig) (N : ℕ) (v0 v1 : S2048.Idx → Elt F .i32) (h0 : In0 (F := F) v0) (h1 : In1 (F := F) v1) : sProp 𝕄 :=
  iprop(∃ l0 l1 d0 d1, ⌜L1.view.read (Elt F) l1 = v1⌝
    ∗ Batch EC c (.dma sem) (default : HIx 1) N (pairD (gatA c T0 L0 D0 q f0 v0 h0 l0 d0) (gatB c T1 L1 D1 q f1 v1 h1 l1 d1)) 2048 0
    ∗ tab1 c T1 q f1 ∗ (L1.view.loc c ↦[L1.view.set]{fullShare} l1) ∗ (D1.view.loc c ↦[D1.view.set]{fullShare} d1))

/-- The slot with both gathers started and `u` units waited for. -/
def Gat2 (sem : DmaSem sig) (N : ℕ) (v0 v1 : S2048.Idx → Elt F .i32) (h0 : In0 (F := F) v0) (h1 : In1 (F := F) v1) (u : ℕ) : sProp 𝕄 :=
  iprop(∃ l0 l1 d0 d1,
    Batch EC c (.dma sem) (default : HIx 1) N (pairD (gatA c T0 L0 D0 q f0 v0 h0 l0 d0) (gatB c T1 L1 D1 q f1 v1 h1 l1 d1)) 4096 u)

variable {T0 T1 L0 L1 D0 D1 q f0 f1} {N : ℕ} {v0 v1 : S2048.Idx → Elt F .i32} {h0 : In0 (F := F) v0} {h1 : In1 (F := F) v1}
variable {α : Type} [FloatOps F] {Q : α → sProp (MT nD τ sig (HIx 1) (Elt F) ℕ UU ℕ)}

/-- Starting the first gather. -/
theorem gat_start0 {sem : DmaSem sig}
    {hp : c.2.kind = .scVector} {hsrc : (all0 c T0).view.WordExact} {he : EltTy.f32.bits = 32} {hsp : Space.hbm = .hbm ∨ Space.hbm = .shared}
    {hr : S67108864.StreamRows 0}
    (hN : ∀ j, (D0.slice (S2048.rowRect (gathers_S67108864_S2048).axis' j) (S2048.stride_rowRect _ j)).view.dmaCredit = N)
    {k : PUnit.{1} → Prog (TpuEff nD τ sig (Elt F) Λ₀ c.2) α} :
    iprop(GatIdle c T0 T1 D0 D1 q f0 f1 sem ∗ holds c L0 v0 ∗ holds c L1 v1)
      ⊢ iprop((Gat1 c T0 T1 L0 L1 D0 D1 q f0 f1 sem N v0 v1 h0 h1 -∗ wp frame (wpE defs₀ 𝒱₀ c none) Set.univ (k ⟨⟩) Q)
          -∗ wp frame (wpE defs₀ 𝒱₀ c none) Set.univ
              (enqueueIndirectGather hp (all0 c T0) D0 gathers_S67108864_S2048 L0 rfl sem hsrc he hsp hr >>= k) Q) := by
  unfold GatIdle holds anyAt
  iintro ⟨⟨Hv, HT0, HT1, ⟨%d0, HD0⟩, ⟨%d1, HD1⟩⟩, ⟨%l0, %e0, HL0⟩, ⟨%l1, %e1, HL1⟩⟩ Hk
  subst e0
  imod (batch_alloc' EC c (default : HIx 1) N (pairD (gatA c T0 L0 D0 q f0 _ h0 l0 d0) (gatB c T1 L1 D1 q f1 v1 h1 l1 d1))
    (E := Set.univ)) $$ Hv with H
  iapply (wp_gatherBatch c EC 𝒱₀ none (src := all0 c T0) (dst := D0) (hg := gathers_S67108864_S2048) (offs := L0) (q := q) (qo := fullShare)
    (fs := f0) (fd := d0) (fo := l0)
    (D := pairD (gatA c T0 L0 D0 q f0 _ h0 l0 d0) (gatB c T1 L1 D1 q f1 v1 h1 l1 d1)) (j := 0) (u := 0)
    (default : HIx 1) N hN pos0 h0 (by decide) (Nat.zero_le _)
    (fun k => Entails.of_eq (pairD_fst (gatA c T0 L0 D0 q f0 _ h0 l0 d0) (gatB c T1 L1 D1 q f1 v1 h1 l1 d1) k (by have h : k.val < 2048 := k.isLt; omega)).symm))
    $$ [HT0 HD0 HL0 H]
  · isplitl [HT0]; · iexact HT0
    isplitl [HD0]; · iexact HD0
    isplitl [HL0]; · iexact HL0
    iexact H
  · iintro H
    iapply Hk
    unfold Gat1
    iexists l0, l1, d0, d1
    isplitr
    · ipureintro; exact e1
    isplitl [H]; · iexact H
    isplitl [HT1]; · iexact HT1
    isplitl [HL1]; · iexact HL1
    iexact HD1

/-- Starting the second gather. -/
theorem gat_start1 {sem : DmaSem sig}
    {hp : c.2.kind = .scVector} {hsrc : (all1 c T1).view.WordExact} {he : EltTy.f32.bits = 32} {hsp : Space.hbm = .hbm ∨ Space.hbm = .shared}
    {hr : S16777216.StreamRows 0}
    (hN : ∀ j, (D1.slice (S2048.rowRect (gathers_S16777216_S2048).axis' j) (S2048.stride_rowRect _ j)).view.dmaCredit = N)
    {k : PUnit.{1} → Prog (TpuEff nD τ sig (Elt F) Λ₀ c.2) α} :
    Gat1 c T0 T1 L0 L1 D0 D1 q f0 f1 sem N v0 v1 h0 h1
      ⊢ iprop((Gat2 c T0 T1 L0 L1 D0 D1 q f0 f1 sem N v0 v1 h0 h1 0 -∗ wp frame (wpE defs₀ 𝒱₀ c none) Set.univ (k ⟨⟩) Q)
          -∗ wp frame (wpE defs₀ 𝒱₀ c none) Set.univ
              (enqueueIndirectGather hp (all1 c T1) D1 gathers_S16777216_S2048 L1 rfl sem hsrc he hsp hr >>= k) Q) := by
  unfold Gat1
  iintro ⟨%l0, %l1, %d0, %d1, %e1, H, HT1, HL1, HD1⟩ Hk
  subst e1
  iapply (wp_gatherBatch c EC 𝒱₀ none (src := all1 c T1) (dst := D1) (hg := gathers_S16777216_S2048) (offs := L1) (q := q) (qo := fullShare)
    (fs := f1) (fd := d1) (fo := l1)
    (D := pairD (gatA c T0 L0 D0 q f0 v0 h0 l0 d0) (gatB c T1 L1 D1 q f1 _ h1 l1 d1)) (j := 2048) (u := 0)
    (default : HIx 1) N hN pos1 h1 (by decide) (Nat.zero_le _)
    (fun k => Entails.of_eq (pairD_snd (gatA c T0 L0 D0 q f0 v0 h0 l0 d0) (gatB c T1 L1 D1 q f1 _ h1 l1 d1) k
      (by have h : k.val < 2048 := k.isLt; omega)).symm))
    $$ [HT1 HD1 HL1 H]
  · isplitl [HT1]; · iexact HT1
    isplitl [HD1]; · iexact HD1
    isplitl [HL1]; · iexact HL1
    iexact H
  · iintro H
    iapply Hk
    unfold Gat2
    iexists l0, l1, d0, d1
    iexact H

variable {O : CellTallies nD τ sig (HIx 1)} {W : Waits sig (HIx 1)}

/-- The first wait takes half the units. -/
theorem gat_wait {sem : DmaSem sig} {sp' : Space} {s' : Shape} {e' : EltTy}
    {srcw : Memref sig c.2.kind sp' s' e'} {sp : Space} {s : Shape} {e : EltTy} {dstw : Memref sig c.2.kind sp s e}
    {hsrc : srcw.view.WordExact} {hdst : dstw.view.WordExact}
    (hN : dstw.view.dmaCredit = 2048 * N)
    {k : PUnit.{1} → Prog (TpuEff nD τ sig (Elt F) Λ₀ c.2) α} :
    iprop(MayWaits c (default : HIx 1) O ∗ Gat2 c T0 T1 L0 L1 D0 D1 q f0 f1 sem N v0 v1 h0 h1 0 ∗ Owe c O W)
      ⊢ iprop((iprop(Gat2 c T0 T1 L0 L1 D0 D1 q f0 f1 sem N v0 v1 h0 h1 (2048 * N) ∗ Owe c O W)
            -∗ wp frame (wpE defs₀ 𝒱₀ c none) Set.univ (k ⟨⟩) Q)
          -∗ wp frame (wpE defs₀ 𝒱₀ c none) Set.univ (.op (.waitDma2 sem srcw dstw hsrc hdst) k) Q) := by
  unfold Gat2
  iintro ⟨#Hmw, ⟨%l0, %l1, %d0, %d1, H⟩, HO⟩ Hk
  ihave HO' := owe_open c $$ HO
  icases HO' with ⟨%W', %hW, HO⟩
  ihave Hw := MayWaits.elim (SemLoc.dma sem) $$ Hmw
  iapply (wp_waitBatchMulO EC 𝒱₀ c none (default : HIx 1) 2048 hN
    (D := pairD (gatA c T0 L0 D0 q f0 v0 h0 l0 d0) (gatB c T1 L1 D1 q f1 v1 h1 l1 d1)) (j := 4096) (u := 0) (by omega)) $$ [H HO Hw]
  · isplitl [H]; · iexact H
    isplitl [HO] <;> iassumption
  · iintro ⟨H, HO⟩
    iapply Hk
    isplitl [H]
    · iexists l0, l1, d0, d1
      rw [Nat.zero_add]; iexact H
    · iapply (owe_insert c (.dma sem) hW) $$ HO

/-- The second wait takes the rest, and everything comes back. -/
theorem gat_last {sem : DmaSem sig} {sp' : Space} {s' : Shape} {e' : EltTy}
    {srcw : Memref sig c.2.kind sp' s' e'} {sp : Space} {s : Shape} {e : EltTy} {dstw : Memref sig c.2.kind sp s e}
    {hsrc : srcw.view.WordExact} {hdst : dstw.view.WordExact}
    (hN : dstw.view.dmaCredit = 2048 * N) (hN0 : 0 < N)
    {k : PUnit.{1} → Prog (TpuEff nD τ sig (Elt F) Λ₀ c.2) α} :
    iprop(MayWaits c (default : HIx 1) O ∗ Gat2 c T0 T1 L0 L1 D0 D1 q f0 f1 sem N v0 v1 h0 h1 (2048 * N) ∗ Owe c O W)
      ⊢ iprop((iprop(GatReady c T0 T1 L0 L1 D0 D1 q f0 f1 sem v0 v1 h0 h1 ∗ Owe c O W)
            -∗ wp frame (wpE defs₀ 𝒱₀ c none) Set.univ (k ⟨⟩) Q)
          -∗ wp frame (wpE defs₀ 𝒱₀ c none) Set.univ (.op (.waitDma2 sem srcw dstw hsrc hdst) k) Q) := by
  unfold Gat2
  iintro ⟨#Hmw, ⟨%l0, %l1, %d0, %d1, H⟩, HO⟩ Hk
  ihave HO' := owe_open c $$ HO
  icases HO' with ⟨%W', %hW, HO⟩
  ihave Hw := MayWaits.elim (SemLoc.dma sem) $$ Hmw
  iapply (wp_waitBatchAllO EC 𝒱₀ c none (default : HIx 1) hN hN0
    (D := pairD (gatA c T0 L0 D0 q f0 v0 h0 l0 d0) (gatB c T1 L1 D1 q f1 v1 h1 l1 d1)) (u := 2048 * N) (by omega)) $$ [H HO Hw]
  · isplitl [H]; · iexact H
    isplitl [HO] <;> iassumption
  · iintro ⟨H, Hv, HO⟩
    iapply Hk
    isplitl [H Hv]
    · unfold GatReady holds anyAt
      ihave H' := pairD_split _ _ $$ H
      icases H' with ⟨HA, HB⟩
      ihave HA' := gatA_join c _ _ _ _ _ _ _ _ _ $$ HA
      ihave HB' := gatB_join c _ _ _ _ _ _ _ _ _ $$ HB
      icases HA' with ⟨HD0, HT0, HL0⟩
      icases HB' with ⟨HD1, HT1, HL1⟩
      isplitl [Hv]; · iexact Hv
      isplitl [HT0]; · iexact HT0
      isplitl [HT1]; · iexact HT1
      isplitl [HD0]
      · iexists _
        isplitr
        rotate_left
        · iexact HD0
        · ipureintro; exact View.read_write_univ _ _
      isplitl [HD1]
      · iexists _
        isplitr
        rotate_left
        · iexact HD1
        · ipureintro; exact View.read_write_univ _ _
      isplitl [HL0]
      · iexists l0; iexact HL0
      · iexists l1; iexact HL1
    · iapply (owe_insert c (.dma sem) hW) $$ HO

end

end Cert.Proof
-- ==== Proof.Tables.lean ====
/-
  One tile's buffers as variables, indexed by slot (the pipeline has four slots, each with its own buffers and
  semaphores), and a slot's index copies and gathers at one trip of the tile's loop.
-/
module

public import proofs.«01_k».proof.Proof.Copies
public import proofs.«01_k».proof.Proof.Gathers

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section

variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (q : Fin 4 → PosShare TreeShare) (fA : ∀ k, Buf (Elt F) ((A k).view.loc (thr d L)))

/-- Chunk offset of slot `t` at trip `n`. -/
abbrev offT (n : Fin k0_t1_loop.trips) (t : Fin 4) : Fin 1 → ℕ := k0_off1 L n (BitVec.ofNat 32 t.val)
abbrev offT_inb (n : Fin k0_t1_loop.trips) (t : Fin 4) : ∀ a, offT L n t a + S1024.size a ≤ S1000000.size a := k0_off1_inb L n t

/-- Slot `t`'s index copies at rest, under way at trip `n`, waited for, and landed. -/
abbrev II (t : Fin 4) : sProp 𝕄 := IdxIdle (thr d L) A (st t) (q t) fA (iS t).sem
abbrev IS (n : Fin k0_t1_loop.trips) (t : Fin 4) (j : ℕ) : sProp 𝕄 :=
  IdxIss (thr d L) A (st t) (q t) fA (iS t).sem 32768 (offT L n t) (offT_inb L n t) j
abbrev IW (n : Fin k0_t1_loop.trips) (t : Fin 4) (u : ℕ) : sProp 𝕄 :=
  IdxWait (thr d L) A (st t) (q t) fA (iS t).sem 32768 (offT L n t) (offT_inb L n t) u
abbrev IR (n : Fin k0_t1_loop.trips) (t : Fin 4) : sProp 𝕄 :=
  IdxReady (thr d L) A (st t) (q t) fA (iS t).sem (offT L n t) (offT_inb L n t)

/-- Every transfer into a vector subcore's buffer counts its bits. -/
theorem credit_bits {sp : Space} {s : Shape} {e : EltTy} (b : Memref sig .scVector sp s e) : b.view.dmaCredit = s.numel * e.bits := rfl

theorem credit_chunk (b : Memref sig .scVector .vmem S1024 .i32) : b.view.dmaCredit = 32768 := rfl

variable {α : Type} {Q : α → sProp (MT nD τ sig (HIx 1) (Elt F) ℕ UU ℕ)}

/-- Starting copy `j` of slot `t`. -/
theorem slot_start (n : Fin k0_t1_loop.trips) (t : Fin 4) (j : ℕ) (hj : j < 8)
    {hsrc : (chunkOf (thr d L) A ⟨j, hj⟩ (offT L n t) (offT_inb L n t)).view.WordExact} {hdst : (st t ⟨j, hj⟩).view.WordExact}
    {hsem : DmaTarget.Typed (nD := nD) .hbm (.dma (iS t).sem) (.here (p := (thr d L).2) (st t ⟨j, hj⟩))}
    {k : PUnit.{1} → Prog (TpuEff nD τ sig (Elt F) Λ₀ (thr d L).2) α} :
    IS d L A st iS q fA n t j
      ⊢ iprop((IS d L A st iS q fA n t (j + 1) -∗ wp frame (wpE defs₀ 𝒱₀ (thr d L) none) Set.univ (k ⟨⟩) Q)
          -∗ wp frame (wpE defs₀ 𝒱₀ (thr d L) none) Set.univ
              (.op (.enqueueDma (chunkOf (thr d L) A ⟨j, hj⟩ (offT L n t) (offT_inb L n t)) (.here (p := (thr d L).2) (st t ⟨j, hj⟩)) (.dma (iS t).sem)
                hsrc hdst hsem) k) Q) :=
  idx_start (thr d L) ⟨j, hj⟩ (credit_chunk _)

end

end Cert.Proof
-- ==== Proof.Fill.lean ====
/-
# Turning four streams of pairs into two lists of flat table positions

Each of the four slots runs the same loop over its eight staging buffers, sixteen lanes at a time. It is walked once, for
any staging buffers and any two list buffers, and carries what the lists hold so far.
-/
module

public import proofs.«01_k».proof.Proof.Tables
public import Idealize.ShloMosaic.Lib.WritesUnit
public import Idealize.ShloMosaic.Lib.Pipeline.Value

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The flat position, in the tiled rate table, of the pair `(u, i)`. -/
def encR (u i : BitVec 32) : BitVec 32 :=
  IntOp.addi (IntOp.addi (IntOp.addi (IntOp.muli (IntOp.shrsi .vector u 3#32) 131072#32) (IntOp.muli (IntOp.shrsi .vector i 7#32) 1024#32))
    (IntOp.muli (IntOp.andi u 7#32) 128#32)) (IntOp.andi i 127#32)

/-- The flat position, in the tiled link table, of the pair `(u, i)`. -/
def encL (u i : BitVec 32) : BitVec 32 :=
  IntOp.addi (IntOp.addi (IntOp.addi (IntOp.muli (IntOp.shrsi .vector u 3#32) 32768#32) (IntOp.muli (IntOp.shrsi .vector i 7#32) 1024#32))
    (IntOp.muli (IntOp.andi u 7#32) 128#32)) (IntOp.andi i 127#32)

/-- Place `y` of a list, in its first half, as a place of a staging buffer. -/
def loIdx (y : S2048.Idx) (h : (y 0).val < 1024) : S1024.Idx := fun a => ⟨(y 0).val, by obtain rfl : a = 0 := Subsingleton.elim a 0; exact h⟩
/-- Place `y` of a list, in its second half, as a place of a staging buffer. -/
def hiIdx (y : S2048.Idx) : S1024.Idx := fun a => ⟨(y 0).val - 1024, by
  obtain rfl : a = 0 := Subsingleton.elim a 0
  have h : (y 0).val < 2048 := (y 0).isLt
  show _ < 1024
  omega⟩

/-- The two halves of a list, from its four staging buffers. -/
def listOf (enc : BitVec 32 → BitVec 32 → BitVec 32) (U0 I0 U1 I1 : S1024.Idx → BitVec 32) : S2048.Idx → BitVec 32 := fun y =>
  if h : (y 0).val < 1024 then enc (U0 (loIdx y h)) (I0 (loIdx y h)) else enc (U1 (hiIdx y)) (I1 (hiIdx y))

/-- The list of rate positions and the list of link positions, from the eight chunks. -/
abbrev listR (V : Fin 8 → S1024.Idx → BitVec 32) : S2048.Idx → BitVec 32 := listOf encR (V 0) (V 1) (V 2) (V 3)
abbrev listL (V : Fin 8 → S1024.Idx → BitVec 32) : S2048.Idx → BitVec 32 := listOf encL (V 4) (V 5) (V 6) (V 7)

theorem listOf_lo (enc : BitVec 32 → BitVec 32 → BitVec 32) (U0 I0 U1 I1 : S1024.Idx → BitVec 32) (y : S2048.Idx) (x : S1024.Idx)
    (h : (y 0).val = (x 0).val) : listOf enc U0 I0 U1 I1 y = enc (U0 x) (I0 x) := by
  have hx : (x 0).val < 1024 := (x 0).isLt
  have e : loIdx y (by omega) = x := funext fun a => Fin.ext (by obtain rfl : a = 0 := Subsingleton.elim a 0; exact h)
  unfold listOf
  rw [dif_pos (by omega), e]

theorem listOf_hi (enc : BitVec 32 → BitVec 32 → BitVec 32) (U0 I0 U1 I1 : S1024.Idx → BitVec 32) (y : S2048.Idx) (x : S1024.Idx)
    (h : (y 0).val = 1024 + (x 0).val) : listOf enc U0 I0 U1 I1 y = enc (U1 x) (I1 x) := by
  have e : hiIdx y = x := funext fun a => Fin.ext (by obtain rfl : a = 0 := Subsingleton.elim a 0; show (y 0).val - 1024 = (x 0).val; omega)
  unfold listOf
  rw [dif_neg (by omega), e]

/-- Two stores of sixteen lanes, one in each half of a list, extend what is known of both halves. -/
theorem fill_val {Val : EltTy → Type} (v : View sig .scVector .vmem S2048 .i32) (b : v.ty.Contents Val) (k : Fin k0_t2_loop.trips)
    (E : S2048.Idx → Val .i32) (w0 w1 : S16.Idx → Val .i32) {h0 h1}
    (hw0 : ∀ y x, (y 0).val = 16 * k.val + (x 0).val → w0 x = E y)
    (hw1 : ∀ y x, (y 0).val = 1024 + 16 * k.val + (x 0).val → w1 x = E y)
    (hb : ∀ y, (y 0).val % 1024 < 16 * k.val → v.read Val b y = E y) :
    ∀ y, (y 0).val % 1024 < 16 * (k.val + 1) →
      v.read Val (v.writes Val b [(⟨Rect.unit (s := S2048) (k0_off3 k 1024#32) S16.size h1, w1⟩ : View.Piece Val S2048 .i32),
        ⟨Rect.unit (s := S2048) (k0_off3 k 0#32) S16.size h0, w0⟩]) y = E y := by
  intro y hy
  have hy2 : (y 0).val < 2048 := (y 0).isLt
  have hk : k.val < 64 := k.isLt
  have e1 : k0_off3 k 1024#32 = ![1024 + 16 * k.val] := k0_off3_eq k 1
  have e0 : k0_off3 k 0#32 = ![16 * k.val] := by rw [show k0_off3 k 0#32 = _ from k0_off3_eq k 0]; simp
  by_cases m1 : 1024 + 16 * k.val ≤ (y 0).val ∧ (y 0).val < 1024 + 16 * k.val + 16
  · let x : S16.Idx := fun a => ⟨(y 0).val - (1024 + 16 * k.val), by obtain rfl : a = 0 := Subsingleton.elim a 0; show _ < 16; omega⟩
    have hx : (y 0).val = 1024 + 16 * k.val + (x 0).val := by show _ = _ + ((y 0).val - (1024 + 16 * k.val)); omega
    rw [View.read_writes_cons_unit_of_mem v b h1 w1 _ y x e1 (fun a => by obtain rfl : a = 0 := Subsingleton.elim a 0; exact hx)]
    exact hw1 y x hx
  · rw [View.read_writes_cons_unit_of_not_mem v b h1 w1 _ y e1 0 (by show (y 0).val < 1024 + 16 * k.val ∨ 1024 + 16 * k.val + 16 ≤ _; omega)]
    by_cases m0 : 16 * k.val ≤ (y 0).val ∧ (y 0).val < 16 * k.val + 16
    · let x : S16.Idx := fun a => ⟨(y 0).val - (16 * k.val), by obtain rfl : a = 0 := Subsingleton.elim a 0; show _ < 16; omega⟩
      have hx : (y 0).val = 16 * k.val + (x 0).val := by show _ = _ + ((y 0).val - (16 * k.val)); omega
      rw [View.read_writes_cons_unit_of_mem v b h0 w0 _ y x e0 (fun a => by obtain rfl : a = 0 := Subsingleton.elim a 0; exact hx)]
      exact hw0 y x hx
    · rw [View.read_writes_cons_unit_of_not_mem v b h0 w0 _ y e0 0 (by show (y 0).val < 16 * k.val ∨ 16 * k.val + 16 ≤ _; omega)]
      exact hb y (by omega)

/-- Lane `x` of a load of sixteen lanes, as a place of the staging buffer. -/
def laneIdx (k : Fin k0_t2_loop.trips) (x : S16.Idx) : S1024.Idx := fun a => ⟨16 * k.val + (x 0).val, by
  obtain rfl : a = 0 := Subsingleton.elim a 0
  have h : (x 0).val < 16 := (x 0).isLt
  have hk : k.val < 64 := k.isLt
  show _ < 1024; omega⟩

/-- A load of sixteen lanes reads them. -/
theorem lanes_read {Val : EltTy → Type} {e : EltTy} (v : View sig .scVector .vmem S1024 e) (b : v.ty.Contents Val) (k : Fin k0_t2_loop.trips) {h}
    {W : S1024.Idx → Val e} (hW : v.read Val b = W) (x : S16.Idx) :
    v.readAt Val (Rect.unit (s := S1024) (k0_off2 k) S16.size h).toLoadRect b x = W (laneIdx k x) := by
  rw [← hW]
  refine congrArg (v.read Val b) (funext fun a => Fin.ext ?_)
  obtain rfl : a = 0 := Subsingleton.elim a 0
  show k0_off2 k 0 + 1 * (x 0).val = 16 * k.val + (x 0).val
  rw [k0_off2_eq k]; show 16 * k.val + 1 * (x 0).val = _; omega

theorem pay7_apply [FloatOps F] (a b : Vec F S16 .i32) (x : S16.Idx) : k0_pay7 (F := F) a b x = encR (a x) (b x) := by
  unfold k0_pay7; simp only [shapeCast_self]; rfl
theorem pay11_apply [FloatOps F] (a b : Vec F S16 .i32) (x : S16.Idx) :
    k0_pay11 (k0_pay8 (F := F) a) (k0_pay9 (F := F) b) (k0_pay10 (F := F) a) x = encR (a x) (b x) := by
  unfold k0_pay11 k0_pay8 k0_pay9 k0_pay10 k0_pay8; simp only [shapeCast_self]; rfl
theorem pay63_apply [FloatOps F] (a b : Vec F S16 .i32) (x : S16.Idx) :
    k0_pay63 (k0_pay13 (F := F) a b) (k0_pay14 (F := F) b) x = encL (a x) (b x) := by
  unfold k0_pay63 k0_pay13 k0_pay14 k0_pay12; simp only [shapeCast_self]; rfl
theorem pay64_apply [FloatOps F] (a b : Vec F S16 .i32) (x : S16.Idx) : k0_pay64 (F := F) a b x = encL (a x) (b x) := by
  unfold k0_pay64; simp only [shapeCast_self]; rfl

/-- Eight summands, written out. -/
theorem sep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

section
variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (B : Fin 8 → Memref sig .scVector .vmem S1024 .i32) (hB : ∀ k, (B k).IsWhole)
variable (f g : Memref sig .scVector .vmem S2048 .i32) (hf : f.IsWhole) (hg : g.IsWhole)

/-- The loop's region, over any staging buffers and lists. -/
abbrev fillBody (n : Fin k0_t1_loop.trips) := k0_t2_body (F := F) L T0 hT0 T1 hT1 (A 0) (hA 0) (A 1) (hA 1) (A 4) (hA 4) (A 5) (hA 5) (A 2) (hA 2) (A 3) (hA 3) (A 6) (hA 6) (A 7) (hA 7) X hX (B 0) (hB 0) (B 1) (hB 1) (B 2) (hB 2) (B 3) (hB 3) (B 4) (hB 4) (B 5) (hB 5) (B 6) (hB 6) (B 7) (hB 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) f hf g hg (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS n

/-- The staging buffers hold the chunks, and both lists agree with theirs where they have been written. -/
def FillInv (V : Fin 8 → S1024.Idx → BitVec 32) (k : ℕ) : sProp 𝕄 :=
  iprop((bigSep Finset.univ fun j => holds (F := F) (thr d L) (B j) (V j))
    ∗ ∃ bf : Buf (Elt F) (f.view.loc (thr d L)), ∃ bg : Buf (Elt F) (g.view.loc (thr d L)),
      ⌜(∀ y, (y 0).val % 1024 < 16 * k → f.view.read (Elt F) bf y = listR V y) ∧ (∀ y, (y 0).val % 1024 < 16 * k → g.view.read (Elt F) bg y = listL V y)⌝
        ∗ (f.view.loc (thr d L) ↦[f.view.set]{fullShare} bf) ∗ (g.view.loc (thr d L) ↦[g.view.set]{fullShare} bg))

set_option maxHeartbeats 1000000 in
/-- One trip. -/
theorem fill_trip (V : Fin 8 → S1024.Idx → BitVec 32) (n : Fin k0_t1_loop.trips) (k : Fin k0_t2_loop.trips) :
    FillInv (F := F) d L B f g V k.val
      ⊢ wp frame (wpE defs₀ 𝒱₀ (thr d L) none) Set.univ (fillBody (F := F) L T0 hT0 T1 hT1 A hA X hX st hst lA lB hlA hlB dA dB hdA hdB R hR iS gS cS B hB f g hf hg n k ())
        (fun _ => FillInv (F := F) d L B f g V (k.val + 1)) := by
  unfold fillBody k0_t2_body
  simp only [k0_part1_eq_skeleton, k0_part2_eq_skeleton]; unfold k0_part1_skel k0_part2_skel
  unfold FillInv
  rw [sep_eight]
  unfold holds
  iintro ⟨⟨⟨%b0, %e0, H0⟩, ⟨%b1, %e1, H1⟩, ⟨%b2, %e2, H2⟩, ⟨%b3, %e3, H3⟩, ⟨%b4, %e4, H4⟩, ⟨%b5, %e5, H5⟩, ⟨%b6, %e6, H6⟩, ⟨%b7, %e7, H7⟩⟩, %bf, %bg, ⟨%hbf, %hbg⟩, Hf, Hg⟩
  sl_exec
  rw [wp_ret]
  imodintro
  isplitl [H0 H1 H2 H3 H4 H5 H6 H7]
  · isplitl [H0]
    · iexists b0; isplitr
      · ipureintro; exact e0
      · iexact H0
    isplitl [H1]
    · iexists b1; isplitr
      · ipureintro; exact e1
      · iexact H1
    isplitl [H2]
    · iexists b2; isplitr
      · ipureintro; exact e2
      · iexact H2
    isplitl [H3]
    · iexists b3; isplitr
      · ipureintro; exact e3
      · iexact H3
    isplitl [H4]
    · iexists b4; isplitr
      · ipureintro; exact e4
      · iexact H4
    isplitl [H5]
    · iexists b5; isplitr
      · ipureintro; exact e5
      · iexact H5
    isplitl [H6]
    · iexists b6; isplitr
      · ipureintro; exact e6
      · iexact H6
    · iexists b7; isplitr
      · ipureintro; exact e7
      · iexact H7
  iexists _, _
  isplitr
  rotate_left
  · isplitl [Hf]
    · iexact Hf
    · iexact Hg
  · ipureintro
    refine ⟨fill_val (Val := Elt F) f.view bf k (listR V) _ _ ?_ ?_ hbf, fill_val (Val := Elt F) g.view bg k (listL V) _ _ ?_ ?_ hbg⟩
    · intro y x hx
      refine (pay7_apply (F := F) _ _ x).trans ?_
      rw [lanes_read (B 0).view b0 k e0 x, lanes_read (B 1).view b1 k e1 x]
      exact (listOf_lo encR _ _ _ _ y (laneIdx k x) hx).symm
    · intro y x hx
      refine (pay11_apply (F := F) _ _ x).trans ?_
      rw [lanes_read (B 2).view b2 k e2 x, lanes_read (B 3).view b3 k e3 x]
      exact (listOf_hi encR _ _ _ _ y (laneIdx k x) (hx.trans (Nat.add_assoc _ _ _))).symm
    · intro y x hx
      refine (pay63_apply (F := F) _ _ x).trans ?_
      rw [lanes_read (B 4).view b4 k e4 x, lanes_read (B 5).view b5 k e5 x]
      exact (listOf_lo encL _ _ _ _ y (laneIdx k x) hx).symm
    · intro y x hx
      refine (pay64_apply (F := F) _ _ x).trans ?_
      rw [lanes_read (B 6).view b6 k e6 x, lanes_read (B 7).view b7 k e7 x]
      exact (listOf_hi encL _ _ _ _ y (laneIdx k x) (hx.trans (Nat.add_assoc _ _ _))).symm

variable {α : Type} {Q : α → sProp (MT nD τ sig (HIx 1) (Elt F) ℕ UU ℕ)}

/-- The whole loop: both lists are filled, the staging buffers are as they were. -/
theorem fill_loop (V : Fin 8 → S1024.Idx → BitVec 32) (n : Fin k0_t1_loop.trips)
    {kk : Unit → Prog (TpuEff nD τ sig (Elt F) Λ₀ (thr d L).2) α} :
    iprop((bigSep Finset.univ fun j => holds (F := F) (thr d L) (B j) (V j)) ∗ anyAt (F := F) (thr d L) f ∗ anyAt (F := F) (thr d L) g)
      ⊢ iprop((iprop((bigSep Finset.univ fun j => holds (F := F) (thr d L) (B j) (V j)) ∗ holds (F := F) (thr d L) f (listR V) ∗ holds (F := F) (thr d L) g (listL V))
            -∗ wp frame (wpE defs₀ 𝒱₀ (thr d L) none) Set.univ (kk ()) Q)
          -∗ wp frame (wpE defs₀ 𝒱₀ (thr d L) none) Set.univ
            (Scf.Loop.for k0_t2_loop k0_t2_ok () (fillBody (F := F) L T0 hT0 T1 hT1 A hA X hX st hst lA lB hlA hlB dA dB hdA hdB R hR iS gS cS B hB f g hf hg n) >>= kk) Q) := by
  unfold anyAt
  iintro ⟨HB, ⟨%bf, Hf⟩, ⟨%bg, Hg⟩⟩ Hk
  iapply (Scf.wp_for_bind _ _ _ _ _ _ _ _ _ (fun k _ => FillInv (F := F) d L B f g V k)
    (fun k _ => fill_trip d L T0 hT0 T1 hT1 A hA X hX st hst lA lB hlA hlB dA dB hdA hdB R hR iS gS cS B hB f g hf hg V n k)) $$ [HB Hf Hg]
  · unfold FillInv
    isplitl [HB]; · iexact HB
    iexists bf, bg
    isplitr
    · ipureintro; exact ⟨fun y hy => absurd hy (by omega), fun y hy => absurd hy (by omega)⟩
    isplitl [Hf]; · iexact Hf
    iexact Hg
  · iintro %_ H
    iapply Hk
    unfold FillInv
    icases H with ⟨HB, %bf', %bg', ⟨%h1, %h2⟩, Hf, Hg⟩
    isplitl [HB]; · iexact HB
    isplitl [Hf]
    · unfold holds
      iexists bf'
      isplitr
      · ipureintro; exact funext fun y => h1 y (Nat.mod_lt _ (by decide))
      · iexact Hf
    · unfold holds
      iexists bg'
      isplitr
      · ipureintro; exact funext fun y => h2 y (Nat.mod_lt _ (by decide))
      · iexact Hg
end
end Cert.Proof
-- ==== Proof.Accum.lean ====
/-
# Adding a chunk's terms to the lane sums

Each of the four slots runs the same loop over its two value buffers, sixteen lanes at a time. It is walked once, for any
value buffers, and carries the lane sums.
-/
module

public import proofs.«01_k».proof.Proof.Fill

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Lane `x` of the sixteen values from `off` on, off the front of trip `k`. -/
def lanesAt {α : Type} (W : S2048.Idx → α) (o : Fin 2) (k : Fin k0_t6_loop.trips) : S16.Idx → α := fun x => W fun a => ⟨1024 * o.val + 16 * k.val + (x 0).val, by
  obtain rfl : a = 0 := Subsingleton.elim a 0
  have h : (x 0).val < 16 := (x 0).isLt
  have hk : k.val < 64 := k.isLt
  have ho : o.val < 2 := o.isLt
  show _ < 2048; omega⟩

/-- What one trip makes of the lane sums: the masked terms of sixteen edges are added. -/
def accStep [FloatOps F] (v2 : IVec S16 32) (v12 v27 : BitVec 32) (W0 W1 : S2048.Idx → F .f32) (k : Fin k0_t6_loop.trips) (acc : FVec F S16 .f32) : FVec F S16 .f32 :=
  k0_pay2 acc (k0_pay39 (lanesAt W1 0 k)) (k0_pay40 (lanesAt W1 1 k)) (k0_pay41 v2 v12 v27 0#32 1#32 k)
    (k0_pay42 (lanesAt W0 0 k) (lanesAt W0 1 k)) (k0_pay43 (lanesAt W0 0 k) (lanesAt W0 1 k)) (k0_pay44 (lanesAt W0 0 k) (lanesAt W0 1 k))

/-- The lane sums after `k` trips. -/
def accTo [FloatOps F] (v2 : IVec S16 32) (v12 v27 : BitVec 32) (W0 W1 : S2048.Idx → F .f32) (acc : FVec F S16 .f32) : ℕ → FVec F S16 .f32
  | 0 => acc
  | k + 1 => if h : k < k0_t6_loop.trips then accStep v2 v12 v27 W0 W1 ⟨k, h⟩ (accTo v2 v12 v27 W0 W1 acc k) else accTo v2 v12 v27 W0 W1 acc k

/-- A load of sixteen values of a value buffer reads them. -/
theorem lanes_read2 {Val : EltTy → Type} {e : EltTy} (v : View sig .scVector .vmem S2048 e) (b : v.ty.Contents Val) (o : Fin 2) (k : Fin k0_t6_loop.trips)
    {off : Fin 1 → ℕ} {h} (hoff : off = ![1024 * o.val + 16 * k.val])
    {W : S2048.Idx → Val e} (hW : v.read Val b = W) :
    v.readAt Val (Rect.unit (s := S2048) off S16.size h).toLoadRect b = lanesAt W o k := by
  subst hoff
  rw [← hW]
  refine funext fun x => congrArg (v.read Val b) (funext fun a => Fin.ext ?_)
  obtain rfl : a = 0 := Subsingleton.elim a 0
  show 1024 * o.val + 16 * k.val + 1 * (x 0).val = 1024 * o.val + 16 * k.val + (x 0).val; omega

section
variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (f g : Memref sig .scVector .vmem S2048 .f32) (hf : f.IsWhole) (hg : g.IsWhole) (v2 : IVec S16 32) (v12 v27 : BitVec 32)

/-- The loop's region, over any value buffers. -/
abbrev accBody := k0_t6_body (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) f hf g hg (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS v2 v12 v27 0#32

/-- The value buffers hold their values, and the lane sums are those of the trips so far. -/
def AccInv (W0 W1 : S2048.Idx → F .f32) (acc₀ : FVec F S16 .f32) (k : ℕ) (acc : FVec F S16 .f32) : sProp 𝕄 :=
  iprop(⌜acc = accTo v2 v12 v27 W0 W1 acc₀ k⌝ ∗ holds (F := F) (thr d L) f W0 ∗ holds (F := F) (thr d L) g W1)

set_option maxHeartbeats 1000000 in
/-- One trip. -/
theorem acc_trip (W0 W1 : S2048.Idx → F .f32) (acc₀ acc : FVec F S16 .f32) (k : Fin k0_t6_loop.trips) :
    AccInv (F := F) d L f g v2 v12 v27 W0 W1 acc₀ k.val acc
      ⊢ wp frame (wpE defs₀ 𝒱₀ (thr d L) none) Set.univ ((accBody (F := F) L T0 hT0 T1 hT1 A hA X hX st hst lA lB hlA hlB dA dB hdA hdB R hR iS gS cS f g hf hg v2 v12 v27) k acc)
        (AccInv (F := F) d L f g v2 v12 v27 W0 W1 acc₀ (k.val + 1)) := by
  unfold accBody k0_t6_body
  simp only [k0_part9_eq_skeleton]; unfold k0_part9_skel
  unfold AccInv holds
  iintro ⟨%ha, ⟨%b0, %e0, H0⟩, ⟨%b1, %e1, H1⟩⟩
  sl_exec
  rw [wp_ret]
  imodintro
  isplitr
  · ipureintro
    have k10 : k0_off10 k = ![1024 * (0 : Fin 2).val + 16 * k.val] := by rw [k0_off10_eq k]; simp
    have k11 : k0_off11 k = ![1024 * (1 : Fin 2).val + 16 * k.val] := by rw [k0_off11_eq k]; simp [Nat.add_comm]
    show k0_pay2 acc (k0_pay39 (g.view.readAt (Elt F) (Rect.unit (s := S2048) (k0_off10 k) S16.size (k0_off10_inb k)).toLoadRect b1)) (k0_pay40 (g.view.readAt (Elt F) (Rect.unit (s := S2048) (k0_off11 k) S16.size (k0_off11_inb k)).toLoadRect b1)) (k0_pay41 v2 v12 v27 0#32 1#32 k)
      (k0_pay42 (f.view.readAt (Elt F) (Rect.unit (s := S2048) (k0_off10 k) S16.size (k0_off10_inb k)).toLoadRect b0) (f.view.readAt (Elt F) (Rect.unit (s := S2048) (k0_off11 k) S16.size (k0_off11_inb k)).toLoadRect b0))
      (k0_pay43 (f.view.readAt (Elt F) (Rect.unit (s := S2048) (k0_off10 k) S16.size (k0_off10_inb k)).toLoadRect b0) (f.view.readAt (Elt F) (Rect.unit (s := S2048) (k0_off11 k) S16.size (k0_off11_inb k)).toLoadRect b0))
      (k0_pay44 (f.view.readAt (Elt F) (Rect.unit (s := S2048) (k0_off10 k) S16.size (k0_off10_inb k)).toLoadRect b0) (f.view.readAt (Elt F) (Rect.unit (s := S2048) (k0_off11 k) S16.size (k0_off11_inb k)).toLoadRect b0)) = _
    rw [lanes_read2 f.view b0 0 k k10 e0, lanes_read2 f.view b0 1 k k11 e0, lanes_read2 g.view b1 0 k k10 e1, lanes_read2 g.view b1 1 k k11 e1, ha]
    show _ = dite _ _ _
    rw [dif_pos k.isLt]
    rfl
  isplitl [H0]
  · iexists b0; isplitr
    · ipureintro; exact e0
    · iexact H0
  · iexists b1; isplitr
    · ipureintro; exact e1
    · iexact H1

variable {α : Type} {Q : α → sProp (MT nD τ sig (HIx 1) (Elt F) ℕ UU ℕ)}

/-- The whole loop: the chunk's terms are added, the value buffers are as they were. -/
theorem acc_loop (W0 W1 : S2048.Idx → F .f32) (acc : FVec F S16 .f32)
    {kk : FVec F S16 .f32 → Prog (TpuEff nD τ sig (Elt F) Λ₀ (thr d L).2) α} :
    iprop(holds (F := F) (thr d L) f W0 ∗ holds (F := F) (thr d L) g W1)
      ⊢ iprop((iprop(holds (F := F) (thr d L) f W0 ∗ holds (F := F) (thr d L) g W1)
            -∗ wp frame (wpE defs₀ 𝒱₀ (thr d L) none) Set.univ (kk (accTo v2 v12 v27 W0 W1 acc 64)) Q)
          -∗ wp frame (wpE defs₀ 𝒱₀ (thr d L) none) Set.univ (Scf.Loop.for k0_t6_loop k0_t6_ok acc (accBody (F := F) L T0 hT0 T1 hT1 A hA X hX st hst lA lB hlA hlB dA dB hdA hdB R hR iS gS cS f g hf hg v2 v12 v27) >>= kk) Q) := by
  iintro ⟨H0, H1⟩ Hk
  iapply (Scf.wp_for_bind _ _ _ _ _ _ _ _ _ (AccInv (F := F) d L f g v2 v12 v27 W0 W1 acc)
    (fun k a => acc_trip d L T0 hT0 T1 hT1 A hA X hX st hst lA lB hlA hlB dA dB hdA hdB R hR iS gS cS f g hf hg v2 v12 v27 W0 W1 acc a k)) $$ [H0 H1]
  · unfold AccInv
    isplitr
    · ipureintro; rfl
    isplitl [H0]; · iexact H0
    iexact H1
  · iintro %a H
    unfold AccInv
    icases H with ⟨%ha, H0, H1⟩
    rw [ha]
    iapply Hk
    isplitl [H0]; · iexact H0
    iexact H1
end
end Cert.Proof
-- ==== Proof.Slots.lean ====
/-
# A slot's cycle, one step at a time

A slot's index copies are started and waited for, its lists filled, its gathers started and waited for, its terms added.
Each step takes what the slot holds to what it holds next.
-/
module

public import proofs.«01_k».proof.Proof.Accum

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section
variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (q : Fin 4 → PosShare TreeShare) (fA : ∀ k, Buf (Elt F) ((A k).view.loc (thr d L)))
variable (f0 : Buf (Elt F) (T0.view.loc (thr d L))) (f1 : Buf (Elt F) (T1.view.loc (thr d L)))

/-- The chunk of array `k` that slot `t` takes at trip `n`, and the two lists made of the eight chunks. -/
abbrev CV (n : Fin k0_t1_loop.trips) (t : Fin 4) (k : Fin 8) : S1024.Idx → Elt F .i32 := chunkVal (thr d L) A fA k (offT L n t) (offT_inb L n t)
abbrev LR (n : Fin k0_t1_loop.trips) (t : Fin 4) : S2048.Idx → Elt F .i32 := listR (CV d L A fA n t)
abbrev LL (n : Fin k0_t1_loop.trips) (t : Fin 4) : S2048.Idx → Elt F .i32 := listL (CV d L A fA n t)

/-- Every list names entries of its table. -/
abbrev AllIn0 : Prop := ∀ n t, In0 (F := F) (LR d L A fA n t)
abbrev AllIn1 : Prop := ∀ n t, In1 (F := F) (LL d L A fA n t)
variable (h0 : AllIn0 d L A fA) (h1 : AllIn1 d L A fA)

/-- The table entries gathered for slot `t` at trip `n`. -/
abbrev P0 (n : Fin k0_t1_loop.trips) (t : Fin 4) : S2048.Idx → Elt F .f32 := pick0 (thr d L) T0 f0 (LR d L A fA n t) (h0 n t)
abbrev P1 (n : Fin k0_t1_loop.trips) (t : Fin 4) : S2048.Idx → Elt F .f32 := pick1 (thr d L) T1 f1 (LL d L A fA n t) (h1 n t)

/-- Slot `t`'s gathers at rest, the first and both started, and landed. -/
abbrev GI (t : Fin 4) : sProp 𝕄 := GatIdle (thr d L) T0 T1 (dA t) (dB t) (q t) f0 f1 (gS t).sem
abbrev G1 (n : Fin k0_t1_loop.trips) (t : Fin 4) : sProp 𝕄 :=
  Gat1 (thr d L) T0 T1 (lA t) (lB t) (dA t) (dB t) (q t) f0 f1 (gS t).sem 32 (LR d L A fA n t) (LL d L A fA n t) (h0 n t) (h1 n t)
abbrev G2 (n : Fin k0_t1_loop.trips) (t : Fin 4) (u : ℕ) : sProp 𝕄 :=
  Gat2 (thr d L) T0 T1 (lA t) (lB t) (dA t) (dB t) (q t) f0 f1 (gS t).sem 32 (LR d L A fA n t) (LL d L A fA n t) (h0 n t) (h1 n t) u
abbrev GR (n : Fin k0_t1_loop.trips) (t : Fin 4) : sProp 𝕄 :=
  GatReady (thr d L) T0 T1 (lA t) (lB t) (dA t) (dB t) (q t) f0 f1 (gS t).sem (LR d L A fA n t) (LL d L A fA n t) (h0 n t) (h1 n t)

/-- Slot `t`'s lists, with any contents and filled. -/
def LI (t : Fin 4) : sProp 𝕄 := iprop(anyAt (F := F) (thr d L) (lA t) ∗ anyAt (F := F) (thr d L) (lB t))
def LF (n : Fin k0_t1_loop.trips) (t : Fin 4) : sProp 𝕄 := iprop(holds (thr d L) (lA t) (LR d L A fA n t) ∗ holds (thr d L) (lB t) (LL d L A fA n t))

variable (O : CellTallies nD τ sig (HIx 1)) (W : Waits sig (HIx 1))

/-- What the thread owes, and that it may wait below every handshake. -/
def OM : sProp 𝕄 := iprop(MayWaits (thr d L) (default : HIx 1) O ∗ Owe (thr d L) O W)

variable {α : Type} {Q : α → sProp (MT nD τ sig (HIx 1) (Elt F) ℕ UU ℕ)}

/-- Opening the copies of slot `t`. -/
theorem slot_open (n : Fin k0_t1_loop.trips) (t : Fin 4) : II d L A st iS q fA t ⊢ (|={Set.univ}=> IS d L A st iS q fA n t 0 : sProp 𝕄) :=
  idx_open (thr d L)

/-- One more of slot `t`'s copies waited for, not the last. -/
theorem slot_wait (n : Fin k0_t1_loop.trips) (t : Fin 4) (u : ℕ) (hu : u < 7) {srcw : Memref sig .scVector .hbm S1024 .i32} {dstw : Memref sig .scVector .vmem S1024 .i32}
    {hsrc : srcw.view.WordExact} {hdst : dstw.view.WordExact} {k : PUnit.{1} → Prog (TpuEff nD τ sig (Elt F) Λ₀ (thr d L).2) α} :
    iprop(IW d L A st iS q fA n t u ∗ OM d L O W)
      ⊢ iprop((iprop(IW d L A st iS q fA n t (u + 1) ∗ OM d L O W) -∗ wp frame (wpE defs₀ 𝒱₀ (thr d L) none) Set.univ (k ⟨⟩) Q)
          -∗ wp frame (wpE defs₀ 𝒱₀ (thr d L) none) Set.univ (.op (.waitDma2 (iS t).sem srcw dstw hsrc hdst) k) Q) := by
  unfold OM
  iintro ⟨H, #Hmw, HO⟩ Hk
  iapply (idx_wait (thr d L) (A := A) (B := st t) (q := q t) (fA := fA) (N := 32768) (off := offT L n t) (h := offT_inb L n t) (O := O) (W := W) u hu
    (credit_chunk dstw) (by decide)) $$ [H HO]
  · isplitr; · iexact Hmw
    isplitl [H]; · iexact H
    iexact HO
  · iintro ⟨H, HO⟩
    iapply Hk
    isplitl [H]; · iexact H
    isplitr; · iexact Hmw
    iexact HO

/-- The last of slot `t`'s copies waited for. -/
theorem slot_last (n : Fin k0_t1_loop.trips) (t : Fin 4) {srcw : Memref sig .scVector .hbm S1024 .i32} {dstw : Memref sig .scVector .vmem S1024 .i32}
    {hsrc : srcw.view.WordExact} {hdst : dstw.view.WordExact} {k : PUnit.{1} → Prog (TpuEff nD τ sig (Elt F) Λ₀ (thr d L).2) α} :
    iprop(IW d L A st iS q fA n t 7 ∗ OM d L O W)
      ⊢ iprop((iprop(IR d L A st iS q fA n t ∗ OM d L O W) -∗ wp frame (wpE defs₀ 𝒱₀ (thr d L) none) Set.univ (k ⟨⟩) Q)
          -∗ wp frame (wpE defs₀ 𝒱₀ (thr d L) none) Set.univ (.op (.waitDma2 (iS t).sem srcw dstw hsrc hdst) k) Q) := by
  unfold OM
  iintro ⟨H, #Hmw, HO⟩ Hk
  iapply (idx_last (thr d L) (A := A) (B := st t) (q := q t) (fA := fA) (N := 32768) (off := offT L n t) (h := offT_inb L n t) (O := O) (W := W)
    (credit_chunk dstw) (by decide)) $$ [H HO]
  · isplitr; · iexact Hmw
    isplitl [H]; · iexact H
    iexact HO
  · iintro ⟨H, HO⟩
    iapply Hk
    isplitl [H]; · iexact H
    isplitr; · iexact Hmw
    iexact HO

/-- Filling slot `t`'s lists; its copies are at rest again. -/
theorem slot_fill (n : Fin k0_t1_loop.trips) (t : Fin 4) {kk : Unit → Prog (TpuEff nD τ sig (Elt F) Λ₀ (thr d L).2) α} :
    iprop(IR d L A st iS q fA n t ∗ LI (F := F) d L lA lB t)
      ⊢ iprop((iprop(II d L A st iS q fA t ∗ LF d L A lA lB fA n t) -∗ wp frame (wpE defs₀ 𝒱₀ (thr d L) none) Set.univ (kk ()) Q)
          -∗ wp frame (wpE defs₀ 𝒱₀ (thr d L) none) Set.univ (Scf.Loop.for k0_t2_loop k0_t2_ok () (fillBody (F := F) L T0 hT0 T1 hT1 A hA X hX st hst lA lB hlA hlB dA dB hdA hdB R hR iS gS cS (st t) (hst t) (lA t) (lB t) (hlA t) (hlB t) n) >>= kk) Q) := by
  unfold IR IdxReady LI
  iintro ⟨⟨Hv, HA, HB⟩, Hf, Hg⟩ Hk
  iapply (fill_loop d L T0 hT0 T1 hT1 A hA X hX st hst lA lB hlA hlB dA dB hdA hdB R hR iS gS cS (st t) (hst t) (lA t) (lB t) (hlA t) (hlB t) (CV d L A fA n t) n)
    $$ [HB Hf Hg]
  · isplitl [HB]; · iexact HB
    isplitl [Hf]; · iexact Hf
    iexact Hg
  · iintro ⟨HB, Hf, Hg⟩
    iapply Hk
    unfold II IdxIdle LF
    isplitr [Hf Hg]
    · isplitl [Hv]; · iexact Hv
      isplitl [HA]; · iexact HA
      iapply (show (bigSep Finset.univ fun j => holds (F := F) (thr d L) (st t j) (CV d L A fA n t j) : sProp 𝕄) ⊢ bigSep Finset.univ fun j => anyAt (F := F) (thr d L) (st t j)
        from BI.bigSep_mono fun j _ => holds_any (thr d L) (st t j) _) $$ HB
    · isplitl [Hf]; · iexact Hf
      iexact Hg

/-- Starting slot `t`'s gathers. -/
theorem slot_gat0 (n : Fin k0_t1_loop.trips) (t : Fin 4)
    {hp : (thr d L).2.kind = .scVector} {hsrc : (all0 (thr d L) T0).view.WordExact} {he : EltTy.f32.bits = 32} {hsp : Space.hbm = .hbm ∨ Space.hbm = .shared}
    {hr : S67108864.StreamRows 0} {k : PUnit.{1} → Prog (TpuEff nD τ sig (Elt F) Λ₀ (thr d L).2) α} :
    iprop(GI d L T0 T1 dA dB gS q f0 f1 t ∗ LF d L A lA lB fA n t)
      ⊢ iprop((G1 d L T0 T1 A lA lB dA dB gS q fA f0 f1 h0 h1 n t -∗ wp frame (wpE defs₀ 𝒱₀ (thr d L) none) Set.univ (k ⟨⟩) Q)
          -∗ wp frame (wpE defs₀ 𝒱₀ (thr d L) none) Set.univ (SparseCore.enqueueIndirectGather hp (all0 (thr d L) T0) (dA t) gathers_S67108864_S2048 (lA t) rfl (gS t).sem hsrc he hsp hr >>= k) Q) := by
  unfold LF
  exact gat_start0 (thr d L) (fun _ => rfl)

theorem slot_gat1 (n : Fin k0_t1_loop.trips) (t : Fin 4)
    {hp : (thr d L).2.kind = .scVector} {hsrc : (all1 (thr d L) T1).view.WordExact} {he : EltTy.f32.bits = 32} {hsp : Space.hbm = .hbm ∨ Space.hbm = .shared}
    {hr : S16777216.StreamRows 0} {k : PUnit.{1} → Prog (TpuEff nD τ sig (Elt F) Λ₀ (thr d L).2) α} :
    G1 d L T0 T1 A lA lB dA dB gS q fA f0 f1 h0 h1 n t
      ⊢ iprop((G2 d L T0 T1 A lA lB dA dB gS q fA f0 f1 h0 h1 n t 0 -∗ wp frame (wpE defs₀ 𝒱₀ (thr d L) none) Set.univ (k ⟨⟩) Q)
          -∗ wp frame (wpE defs₀ 𝒱₀ (thr d L) none) Set.univ (SparseCore.enqueueIndirectGather hp (all1 (thr d L) T1) (dB t) gathers_S16777216_S2048 (lB t) rfl (gS t).sem hsrc he hsp hr >>= k) Q) :=
  gat_start1 (thr d L) (fun _ => rfl)

/-- Waiting for slot `t`'s gathers. -/
theorem slot_gwait (n : Fin k0_t1_loop.trips) (t : Fin 4) {sp' : Space} {s' : Shape} {e' : EltTy} {srcw : Memref sig .scVector sp' s' e'} {dstw : Memref sig .scVector .vmem S2048 .f32}
    {hsrc : srcw.view.WordExact} {hdst : dstw.view.WordExact} {k : PUnit.{1} → Prog (TpuEff nD τ sig (Elt F) Λ₀ (thr d L).2) α} :
    iprop(G2 d L T0 T1 A lA lB dA dB gS q fA f0 f1 h0 h1 n t 0 ∗ OM d L O W)
      ⊢ iprop((iprop(G2 d L T0 T1 A lA lB dA dB gS q fA f0 f1 h0 h1 n t (2048 * 32) ∗ OM d L O W) -∗ wp frame (wpE defs₀ 𝒱₀ (thr d L) none) Set.univ (k ⟨⟩) Q)
          -∗ wp frame (wpE defs₀ 𝒱₀ (thr d L) none) Set.univ (.op (.waitDma2 (gS t).sem srcw dstw hsrc hdst) k) Q) := by
  unfold OM
  iintro ⟨H, #Hmw, HO⟩ Hk
  iapply (gat_wait (thr d L) (T0 := T0) (T1 := T1) (L0 := lA t) (L1 := lB t) (D0 := dA t) (D1 := dB t) (q := q t) (f0 := f0) (f1 := f1) (N := 32)
    (v0 := LR d L A fA n t) (v1 := LL d L A fA n t) (h0 := h0 n t) (h1 := h1 n t) (O := O) (W := W) (show dstw.view.dmaCredit = 2048 * 32 from rfl)) $$ [H HO]
  · isplitr; · iexact Hmw
    isplitl [H]; · iexact H
    iexact HO
  · iintro ⟨H, HO⟩
    iapply Hk
    isplitl [H]; · iexact H
    isplitr; · iexact Hmw
    iexact HO

theorem slot_glast (n : Fin k0_t1_loop.trips) (t : Fin 4) {sp' : Space} {s' : Shape} {e' : EltTy} {srcw : Memref sig .scVector sp' s' e'} {dstw : Memref sig .scVector .vmem S2048 .f32}
    {hsrc : srcw.view.WordExact} {hdst : dstw.view.WordExact} {k : PUnit.{1} → Prog (TpuEff nD τ sig (Elt F) Λ₀ (thr d L).2) α} :
    iprop(G2 d L T0 T1 A lA lB dA dB gS q fA f0 f1 h0 h1 n t (2048 * 32) ∗ OM d L O W)
      ⊢ iprop((iprop(GR d L T0 T1 A lA lB dA dB gS q fA f0 f1 h0 h1 n t ∗ OM d L O W) -∗ wp frame (wpE defs₀ 𝒱₀ (thr d L) none) Set.univ (k ⟨⟩) Q)
          -∗ wp frame (wpE defs₀ 𝒱₀ (thr d L) none) Set.univ (.op (.waitDma2 (gS t).sem srcw dstw hsrc hdst) k) Q) := by
  unfold OM
  iintro ⟨H, #Hmw, HO⟩ Hk
  iapply (gat_last (thr d L) (T0 := T0) (T1 := T1) (L0 := lA t) (L1 := lB t) (D0 := dA t) (D1 := dB t) (q := q t) (f0 := f0) (f1 := f1) (N := 32)
    (v0 := LR d L A fA n t) (v1 := LL d L A fA n t) (h0 := h0 n t) (h1 := h1 n t) (O := O) (W := W) (show dstw.view.dmaCredit = 2048 * 32 from rfl) (by decide)) $$ [H HO]
  · isplitr; · iexact Hmw
    isplitl [H]; · iexact H
    iexact HO
  · iintro ⟨H, HO⟩
    iapply Hk
    isplitl [H]; · iexact H
    isplitr; · iexact Hmw
    iexact HO

/-- Adding slot `t`'s terms; its gathers and lists are at rest again. -/
theorem slot_acc (n : Fin k0_t1_loop.trips) (t : Fin 4) (v2 : IVec S16 32) (v12 v27 : BitVec 32) (acc : FVec F S16 .f32)
    {kk : FVec F S16 .f32 → Prog (TpuEff nD τ sig (Elt F) Λ₀ (thr d L).2) α} :
    GR d L T0 T1 A lA lB dA dB gS q fA f0 f1 h0 h1 n t
      ⊢ iprop((iprop(GI d L T0 T1 dA dB gS q f0 f1 t ∗ LI (F := F) d L lA lB t)
            -∗ wp frame (wpE defs₀ 𝒱₀ (thr d L) none) Set.univ (kk (accTo v2 v12 v27 (P0 d L T0 A fA f0 h0 n t) (P1 d L T1 A fA f1 h1 n t) acc 64)) Q)
          -∗ wp frame (wpE defs₀ 𝒱₀ (thr d L) none) Set.univ (Scf.Loop.for k0_t6_loop k0_t6_ok acc (accBody (F := F) L T0 hT0 T1 hT1 A hA X hX st hst lA lB hlA hlB dA dB hdA hdB R hR iS gS cS (dA t) (dB t) (hdA t) (hdB t) v2 v12 v27) >>= kk) Q) := by
  unfold GR GatReady
  iintro ⟨Hv, HT0, HT1, H0, H1, HL0, HL1⟩ Hk
  iapply (acc_loop d L T0 hT0 T1 hT1 A hA X hX st hst lA lB hlA hlB dA dB hdA hdB R hR iS gS cS (dA t) (dB t) (hdA t) (hdB t) v2 v12 v27
    (P0 d L T0 A fA f0 h0 n t) (P1 d L T1 A fA f1 h1 n t) acc) $$ [H0 H1]
  · isplitl [H0]; · iexact H0
    iexact H1
  · iintro ⟨H0, H1⟩
    iapply Hk
    unfold GI GatIdle LI
    isplitr [HL0 HL1]
    · isplitl [Hv]; · iexact Hv
      isplitl [HT0]; · iexact HT0
      isplitl [HT1]; · iexact HT1
      isplitl [H0]
      · iapply (holds_any (thr d L) (dA t) _) $$ H0
      · iapply (holds_any (thr d L) (dB t) _) $$ H1
    · isplitl [HL0]; · iexact HL0
      iexact HL1

end
end Cert.Proof
-- ==== Proof.Parts.lean ====
/-
# The parts of one trip

A trip takes four slots through their cycle, interleaved. It is printed in parts; each is walked on its own.
-/
module

public import proofs.«01_k».proof.Proof.Slots

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The number of the chunk that slot `t` takes at trip `n` on the tile numbered `v1`. -/
def cidT (v1 : BitVec 32) (n : Fin k0_t1_loop.trips) (t : BitVec 32) : BitVec 32 :=
  Scalar.addi (Scalar.muli (Scalar.addi (Scalar.muli (Scf.iv 0#32 1#32 n) 4#32) t) 32#32) v1
/-- The first edge of that chunk: 1024 times its number, or the last place where 1024 edges are left. -/
def offB (v1 : BitVec 32) (n : Fin k0_t1_loop.trips) (t : BitVec 32) : BitVec 32 := Scalar.minsi (Scalar.muli (cidT v1 n t) 1024#32) 998976#32

section
variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (q : Fin 4 → PosShare TreeShare) (fA : ∀ k, Buf (Elt F) ((A k).view.loc (thr d L)))
variable (f0 : Buf (Elt F) (T0.view.loc (thr d L))) (f1 : Buf (Elt F) (T1.view.loc (thr d L)))
variable (h0 : AllIn0 d L A fA) (h1 : AllIn1 d L A fA)
variable (O : CellTallies nD τ sig (HIx 1)) (W : Waits sig (HIx 1))
variable {α : Type} {Q : α → sProp (MT nD τ sig (HIx 1) (Elt F) ℕ UU ℕ)}

/-- The first three copies of slot 0; the chunk numbers and their first edges. -/
theorem part13 (v1 : BitVec 32) (n : Fin k0_t1_loop.trips) {kk : (Σ' (_ : BitVec 32) (_ : BitVec 32) (_ : BitVec 32) (_ : BitVec 32) (_ : BitVec 32) (_ : BitVec 32) (_ : BitVec 32), BitVec 32) → Prog (TpuEff nD τ sig (Elt F) Λ₀ (thr d L).2) α} :
    iprop((IS d L A st iS q fA n 0 0))
      ⊢ iprop((iprop((IS d L A st iS q fA n 0 3)) -∗ wp frame (wpE defs₀ 𝒱₀ (thr d L) none) Set.univ (kk ⟨cidT v1 n 0#32, cidT v1 n 1#32, cidT v1 n 2#32, cidT v1 n 3#32, offB v1 n 0#32, offB v1 n 1#32, offB v1 n 2#32, offB v1 n 3#32⟩) Q)
          -∗ wp frame (wpE defs₀ 𝒱₀ (thr d L) none) Set.univ ((k0_part13 (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS v1 0#32 1#32 n) >>= kk) Q) := by
  simp only [k0_part13_eq_skeleton]; unfold k0_part13_skel
  simp only [Prog.bind_assoc, Prog.bind_lift, Prog.bind_op, Prog.pure_eq_ret, Prog.bind_ret]
  iintro H0 Hk
  iapply (slot_start d L A st iS q fA n 0 0 (by decide)) $$ H0; iintro H0
  iapply (slot_start d L A st iS q fA n 0 1 (by decide)) $$ H0; iintro H0
  iapply (slot_start d L A st iS q fA n 0 2 (by decide)) $$ H0; iintro H0
  iapply Hk
  iexact H0

/-- The rest of slot 0's copies, all of slot 1's, seven of slot 2's. -/
theorem part14 (n : Fin k0_t1_loop.trips) {kk : PUnit.{1} → Prog (TpuEff nD τ sig (Elt F) Λ₀ (thr d L).2) α} :
    iprop((IS d L A st iS q fA n 0 3) ∗ (IS d L A st iS q fA n 1 0) ∗ (IS d L A st iS q fA n 2 0))
      ⊢ iprop((iprop((IS d L A st iS q fA n 0 8) ∗ (IS d L A st iS q fA n 1 8) ∗ (IS d L A st iS q fA n 2 7)) -∗ wp frame (wpE defs₀ 𝒱₀ (thr d L) none) Set.univ (kk ⟨⟩) Q)
          -∗ wp frame (wpE defs₀ 𝒱₀ (thr d L) none) Set.univ ((k0_part14 (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS n) >>= kk) Q) := by
  simp only [k0_part14_eq_skeleton]; unfold k0_part14_skel
  simp only [Prog.bind_assoc, Prog.bind_lift, Prog.bind_op, Prog.pure_eq_ret, Prog.bind_ret]
  iintro ⟨H0, H1, H2⟩ Hk
  iapply (slot_start d L A st iS q fA n 0 3 (by decide)) $$ H0; iintro H0
  iapply (slot_start d L A st iS q fA n 0 4 (by decide)) $$ H0; iintro H0
  iapply (slot_start d L A st iS q fA n 0 5 (by decide)) $$ H0; iintro H0
  iapply (slot_start d L A st iS q fA n 0 6 (by decide)) $$ H0; iintro H0
  iapply (slot_start d L A st iS q fA n 0 7 (by decide)) $$ H0; iintro H0
  iapply (slot_start d L A st iS q fA n 1 0 (by decide)) $$ H1; iintro H1
  iapply (slot_start d L A st iS q fA n 1 1 (by decide)) $$ H1; iintro H1
  iapply (slot_start d L A st iS q fA n 1 2 (by decide)) $$ H1; iintro H1
  iapply (slot_start d L A st iS q fA n 1 3 (by decide)) $$ H1; iintro H1
  iapply (slot_start d L A st iS q fA n 1 4 (by decide)) $$ H1; iintro H1
  iapply (slot_start d L A st iS q fA n 1 5 (by decide)) $$ H1; iintro H1
  iapply (slot_start d L A st iS q fA n 1 6 (by decide)) $$ H1; iintro H1
  iapply (slot_start d L A st iS q fA n 1 7 (by decide)) $$ H1; iintro H1
  iapply (slot_start d L A st iS q fA n 2 0 (by decide)) $$ H2; iintro H2
  iapply (slot_start d L A st iS q fA n 2 1 (by decide)) $$ H2; iintro H2
  iapply (slot_start d L A st iS q fA n 2 2 (by decide)) $$ H2; iintro H2
  iapply (slot_start d L A st iS q fA n 2 3 (by decide)) $$ H2; iintro H2
  iapply (slot_start d L A st iS q fA n 2 4 (by decide)) $$ H2; iintro H2
  iapply (slot_start d L A st iS q fA n 2 5 (by decide)) $$ H2; iintro H2
  iapply (slot_start d L A st iS q fA n 2 6 (by decide)) $$ H2; iintro H2
  iapply Hk
  isplitl [H0]; · iexact H0
  isplitl [H1]; · iexact H1
  iexact H2

/-- The last copies; slot 0's are waited for, its lists filled, its first gather started. -/
theorem part15 (n : Fin k0_t1_loop.trips) {kk : PUnit.{1} → Prog (TpuEff nD τ sig (Elt F) Λ₀ (thr d L).2) α} :
    iprop((IS d L A st iS q fA n 0 8) ∗ (IS d L A st iS q fA n 2 7) ∗ (IS d L A st iS q fA n 3 0) ∗ (LI (F := F) d L lA lB 0) ∗ (GI d L T0 T1 dA dB gS q f0 f1 0) ∗ (OM (F := F) d L O W))
      ⊢ iprop((iprop((II d L A st iS q fA 0) ∗ (IS d L A st iS q fA n 2 8) ∗ (IS d L A st iS q fA n 3 8) ∗ (G1 d L T0 T1 A lA lB dA dB gS q fA f0 f1 h0 h1 n 0) ∗ (OM (F := F) d L O W)) -∗ wp frame (wpE defs₀ 𝒱₀ (thr d L) none) Set.univ (kk ⟨⟩) Q)
          -∗ wp frame (wpE defs₀ 𝒱₀ (thr d L) none) Set.univ ((k0_part15 (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS n) >>= kk) Q) := by
  simp only [k0_part15_eq_skeleton]; unfold k0_part15_skel
  simp only [Prog.bind_assoc, Prog.bind_lift, Prog.bind_op, Prog.pure_eq_ret, Prog.bind_ret]
  iintro ⟨H0, H2, H3, L0, K0, HO⟩ Hk
  iapply (slot_start d L A st iS q fA n 2 7 (by decide)) $$ H2; iintro H2
  iapply (slot_start d L A st iS q fA n 3 0 (by decide)) $$ H3; iintro H3
  iapply (slot_start d L A st iS q fA n 3 1 (by decide)) $$ H3; iintro H3
  iapply (slot_start d L A st iS q fA n 3 2 (by decide)) $$ H3; iintro H3
  iapply (slot_start d L A st iS q fA n 3 3 (by decide)) $$ H3; iintro H3
  iapply (slot_start d L A st iS q fA n 3 4 (by decide)) $$ H3; iintro H3
  iapply (slot_start d L A st iS q fA n 3 5 (by decide)) $$ H3; iintro H3
  iapply (slot_start d L A st iS q fA n 3 6 (by decide)) $$ H3; iintro H3
  iapply (slot_start d L A st iS q fA n 3 7 (by decide)) $$ H3; iintro H3
  ihave H0 := idx_full (thr d L) $$ H0
  iapply (slot_wait d L A st iS q fA O W n 0 0 (by decide)) $$ [H0 HO]
  · isplitl [H0]; · iexact H0
    iexact HO
  iintro ⟨H0, HO⟩
  iapply (slot_wait d L A st iS q fA O W n 0 1 (by decide)) $$ [H0 HO]
  · isplitl [H0]; · iexact H0
    iexact HO
  iintro ⟨H0, HO⟩
  iapply (slot_wait d L A st iS q fA O W n 0 2 (by decide)) $$ [H0 HO]
  · isplitl [H0]; · iexact H0
    iexact HO
  iintro ⟨H0, HO⟩
  iapply (slot_wait d L A st iS q fA O W n 0 3 (by decide)) $$ [H0 HO]
  · isplitl [H0]; · iexact H0
    iexact HO
  iintro ⟨H0, HO⟩
  iapply (slot_wait d L A st iS q fA O W n 0 4 (by decide)) $$ [H0 HO]
  · isplitl [H0]; · iexact H0
    iexact HO
  iintro ⟨H0, HO⟩
  iapply (slot_wait d L A st iS q fA O W n 0 5 (by decide)) $$ [H0 HO]
  · isplitl [H0]; · iexact H0
    iexact HO
  iintro ⟨H0, HO⟩
  iapply (slot_wait d L A st iS q fA O W n 0 6 (by decide)) $$ [H0 HO]
  · isplitl [H0]; · iexact H0
    iexact HO
  iintro ⟨H0, HO⟩
  iapply (slot_last d L A st iS q fA O W n 0) $$ [H0 HO]
  · isplitl [H0]; · iexact H0
    iexact HO
  iintro ⟨H0, HO⟩
  iapply (slot_fill d L T0 hT0 T1 hT1 A hA X hX st hst lA lB hlA hlB dA dB hdA hdB R hR iS gS cS q fA n 0) $$ [H0 L0]
  · isplitl [H0]; · iexact H0
    iexact L0
  iintro ⟨H0, L0⟩
  iapply (slot_gat0 d L T0 T1 A lA lB dA dB gS q fA f0 f1 h0 h1 n 0) $$ [K0 L0]
  · isplitl [K0]; · iexact K0
    iexact L0
  iintro K0
  iapply Hk
  isplitl [H0]; · iexact H0
  isplitl [H2]; · iexact H2
  isplitl [H3]; · iexact H3
  isplitl [K0]; · iexact K0
  iexact HO

/-- Slot 0's second gather; slot 1 up to its gathers; seven of slot 2's copies waited for. -/
theorem part16 (n : Fin k0_t1_loop.trips) {kk : PUnit.{1} → Prog (TpuEff nD τ sig (Elt F) Λ₀ (thr d L).2) α} :
    iprop((G1 d L T0 T1 A lA lB dA dB gS q fA f0 f1 h0 h1 n 0) ∗ (IS d L A st iS q fA n 1 8) ∗ (LI (F := F) d L lA lB 1) ∗ (GI d L T0 T1 dA dB gS q f0 f1 1) ∗ (IS d L A st iS q fA n 2 8) ∗ (OM (F := F) d L O W))
      ⊢ iprop((iprop((G2 d L T0 T1 A lA lB dA dB gS q fA f0 f1 h0 h1 n 0 0) ∗ (II d L A st iS q fA 1) ∗ (G2 d L T0 T1 A lA lB dA dB gS q fA f0 f1 h0 h1 n 1 0) ∗ (IW d L A st iS q fA n 2 7) ∗ (OM (F := F) d L O W)) -∗ wp frame (wpE defs₀ 𝒱₀ (thr d L) none) Set.univ (kk ⟨⟩) Q)
          -∗ wp frame (wpE defs₀ 𝒱₀ (thr d L) none) Set.univ ((k0_part16 (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS n) >>= kk) Q) := by
  simp only [k0_part16_eq_skeleton]; unfold k0_part16_skel
  simp only [Prog.bind_assoc, Prog.bind_lift, Prog.bind_op, Prog.pure_eq_ret, Prog.bind_ret]
  iintro ⟨K0, H1, L1, K1, H2, HO⟩ Hk
  iapply (slot_gat1 d L T0 T1 A lA lB dA dB gS q fA f0 f1 h0 h1 n 0) $$ K0; iintro K0
  ihave H1 := idx_full (thr d L) $$ H1
  iapply (slot_wait d L A st iS q fA O W n 1 0 (by decide)) $$ [H1 HO]
  · isplitl [H1]; · iexact H1
    iexact HO
  iintro ⟨H1, HO⟩
  iapply (slot_wait d L A st iS q fA O W n 1 1 (by decide)) $$ [H1 HO]
  · isplitl [H1]; · iexact H1
    iexact HO
  iintro ⟨H1, HO⟩
  iapply (slot_wait d L A st iS q fA O W n 1 2 (by decide)) $$ [H1 HO]
  · isplitl [H1]; · iexact H1
    iexact HO
  iintro ⟨H1, HO⟩
  iapply (slot_wait d L A st iS q fA O W n 1 3 (by decide)) $$ [H1 HO]
  · isplitl [H1]; · iexact H1
    iexact HO
  iintro ⟨H1, HO⟩
  iapply (slot_wait d L A st iS q fA O W n 1 4 (by decide)) $$ [H1 HO]
  · isplitl [H1]; · iexact H1
    iexact HO
  iintro ⟨H1, HO⟩
  iapply (slot_wait d L A st iS q fA O W n 1 5 (by decide)) $$ [H1 HO]
  · isplitl [H1]; · iexact H1
    iexact HO
  iintro ⟨H1, HO⟩
  iapply (slot_wait d L A st iS q fA O W n 1 6 (by decide)) $$ [H1 HO]
  · isplitl [H1]; · iexact H1
    iexact HO
  iintro ⟨H1, HO⟩
  iapply (slot_last d L A st iS q fA O W n 1) $$ [H1 HO]
  · isplitl [H1]; · iexact H1
    iexact HO
  iintro ⟨H1, HO⟩
  iapply (slot_fill d L T0 hT0 T1 hT1 A hA X hX st hst lA lB hlA hlB dA dB hdA hdB R hR iS gS cS q fA n 1) $$ [H1 L1]
  · isplitl [H1]; · iexact H1
    iexact L1
  iintro ⟨H1, L1⟩
  iapply (slot_gat0 d L T0 T1 A lA lB dA dB gS q fA f0 f1 h0 h1 n 1) $$ [K1 L1]
  · isplitl [K1]; · iexact K1
    iexact L1
  iintro K1
  iapply (slot_gat1 d L T0 T1 A lA lB dA dB gS q fA f0 f1 h0 h1 n 1) $$ K1; iintro K1
  ihave H2 := idx_full (thr d L) $$ H2
  iapply (slot_wait d L A st iS q fA O W n 2 0 (by decide)) $$ [H2 HO]
  · isplitl [H2]; · iexact H2
    iexact HO
  iintro ⟨H2, HO⟩
  iapply (slot_wait d L A st iS q fA O W n 2 1 (by decide)) $$ [H2 HO]
  · isplitl [H2]; · iexact H2
    iexact HO
  iintro ⟨H2, HO⟩
  iapply (slot_wait d L A st iS q fA O W n 2 2 (by decide)) $$ [H2 HO]
  · isplitl [H2]; · iexact H2
    iexact HO
  iintro ⟨H2, HO⟩
  iapply (slot_wait d L A st iS q fA O W n 2 3 (by decide)) $$ [H2 HO]
  · isplitl [H2]; · iexact H2
    iexact HO
  iintro ⟨H2, HO⟩
  iapply (slot_wait d L A st iS q fA O W n 2 4 (by decide)) $$ [H2 HO]
  · isplitl [H2]; · iexact H2
    iexact HO
  iintro ⟨H2, HO⟩
  iapply (slot_wait d L A st iS q fA O W n 2 5 (by decide)) $$ [H2 HO]
  · isplitl [H2]; · iexact H2
    iexact HO
  iintro ⟨H2, HO⟩
  iapply (slot_wait d L A st iS q fA O W n 2 6 (by decide)) $$ [H2 HO]
  · isplitl [H2]; · iexact H2
    iexact HO
  iintro ⟨H2, HO⟩
  iapply Hk
  isplitl [K0]; · iexact K0
  isplitl [H1]; · iexact H1
  isplitl [K1]; · iexact K1
  isplitl [H2]; · iexact H2
  iexact HO

/-- Slots 2 and 3 up to their gathers; slot 0's gathers waited for. -/
theorem part17 (n : Fin k0_t1_loop.trips) {kk : BitVec 32 → Prog (TpuEff nD τ sig (Elt F) Λ₀ (thr d L).2) α} :
    iprop((IW d L A st iS q fA n 2 7) ∗ (LI (F := F) d L lA lB 2) ∗ (GI d L T0 T1 dA dB gS q f0 f1 2) ∗ (IS d L A st iS q fA n 3 8) ∗ (LI (F := F) d L lA lB 3) ∗ (GI d L T0 T1 dA dB gS q f0 f1 3) ∗ (G2 d L T0 T1 A lA lB dA dB gS q fA f0 f1 h0 h1 n 0 0) ∗ (OM (F := F) d L O W))
      ⊢ iprop((iprop((II d L A st iS q fA 2) ∗ (G2 d L T0 T1 A lA lB dA dB gS q fA f0 f1 h0 h1 n 2 0) ∗ (II d L A st iS q fA 3) ∗ (G2 d L T0 T1 A lA lB dA dB gS q fA f0 f1 h0 h1 n 3 0) ∗ (GR d L T0 T1 A lA lB dA dB gS q fA f0 f1 h0 h1 n 0) ∗ (OM (F := F) d L O W)) -∗ wp frame (wpE defs₀ 𝒱₀ (thr d L) none) Set.univ (kk 0#32) Q)
          -∗ wp frame (wpE defs₀ 𝒱₀ (thr d L) none) Set.univ ((k0_part17 (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS n) >>= kk) Q) := by
  simp only [k0_part17_eq_skeleton]; unfold k0_part17_skel
  simp only [Prog.bind_assoc, Prog.bind_lift, Prog.bind_op, Prog.pure_eq_ret, Prog.bind_ret]
  iintro ⟨H2, L2, K2, H3, L3, K3, K0, HO⟩ Hk
  iapply (slot_last d L A st iS q fA O W n 2) $$ [H2 HO]
  · isplitl [H2]; · iexact H2
    iexact HO
  iintro ⟨H2, HO⟩
  iapply (slot_fill d L T0 hT0 T1 hT1 A hA X hX st hst lA lB hlA hlB dA dB hdA hdB R hR iS gS cS q fA n 2) $$ [H2 L2]
  · isplitl [H2]; · iexact H2
    iexact L2
  iintro ⟨H2, L2⟩
  iapply (slot_gat0 d L T0 T1 A lA lB dA dB gS q fA f0 f1 h0 h1 n 2) $$ [K2 L2]
  · isplitl [K2]; · iexact K2
    iexact L2
  iintro K2
  iapply (slot_gat1 d L T0 T1 A lA lB dA dB gS q fA f0 f1 h0 h1 n 2) $$ K2; iintro K2
  ihave H3 := idx_full (thr d L) $$ H3
  iapply (slot_wait d L A st iS q fA O W n 3 0 (by decide)) $$ [H3 HO]
  · isplitl [H3]; · iexact H3
    iexact HO
  iintro ⟨H3, HO⟩
  iapply (slot_wait d L A st iS q fA O W n 3 1 (by decide)) $$ [H3 HO]
  · isplitl [H3]; · iexact H3
    iexact HO
  iintro ⟨H3, HO⟩
  iapply (slot_wait d L A st iS q fA O W n 3 2 (by decide)) $$ [H3 HO]
  · isplitl [H3]; · iexact H3
    iexact HO
  iintro ⟨H3, HO⟩
  iapply (slot_wait d L A st iS q fA O W n 3 3 (by decide)) $$ [H3 HO]
  · isplitl [H3]; · iexact H3
    iexact HO
  iintro ⟨H3, HO⟩
  iapply (slot_wait d L A st iS q fA O W n 3 4 (by decide)) $$ [H3 HO]
  · isplitl [H3]; · iexact H3
    iexact HO
  iintro ⟨H3, HO⟩
  iapply (slot_wait d L A st iS q fA O W n 3 5 (by decide)) $$ [H3 HO]
  · isplitl [H3]; · iexact H3
    iexact HO
  iintro ⟨H3, HO⟩
  iapply (slot_wait d L A st iS q fA O W n 3 6 (by decide)) $$ [H3 HO]
  · isplitl [H3]; · iexact H3
    iexact HO
  iintro ⟨H3, HO⟩
  iapply (slot_last d L A st iS q fA O W n 3) $$ [H3 HO]
  · isplitl [H3]; · iexact H3
    iexact HO
  iintro ⟨H3, HO⟩
  iapply (slot_fill d L T0 hT0 T1 hT1 A hA X hX st hst lA lB hlA hlB dA dB hdA hdB R hR iS gS cS q fA n 3) $$ [H3 L3]
  · isplitl [H3]; · iexact H3
    iexact L3
  iintro ⟨H3, L3⟩
  iapply (slot_gat0 d L T0 T1 A lA lB dA dB gS q fA f0 f1 h0 h1 n 3) $$ [K3 L3]
  · isplitl [K3]; · iexact K3
    iexact L3
  iintro K3
  iapply (slot_gat1 d L T0 T1 A lA lB dA dB gS q fA f0 f1 h0 h1 n 3) $$ K3; iintro K3
  iapply (slot_gwait d L T0 T1 A lA lB dA dB gS q fA f0 f1 h0 h1 O W n 0) $$ [K0 HO]
  · isplitl [K0]; · iexact K0
    iexact HO
  iintro ⟨K0, HO⟩
  iapply (slot_glast d L T0 T1 A lA lB dA dB gS q fA f0 f1 h0 h1 O W n 0) $$ [K0 HO]
  · isplitl [K0]; · iexact K0
    iexact HO
  iintro ⟨K0, HO⟩
  iapply Hk
  isplitl [H2]; · iexact H2
  isplitl [K2]; · iexact K2
  isplitl [H3]; · iexact H3
  isplitl [K3]; · iexact K3
  isplitl [K0]; · iexact K0
  iexact HO

end
end Cert.Proof
-- ==== Proof.Trip.lean ====
/-
# One trip, and all of them

A trip adds four chunks' terms to the lane sums and leaves every slot at rest.
-/
module

public import proofs.«01_k».proof.Proof.Parts

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section
variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (q : Fin 4 → PosShare TreeShare) (fA : ∀ k, Buf (Elt F) ((A k).view.loc (thr d L)))
variable (f0 : Buf (Elt F) (T0.view.loc (thr d L))) (f1 : Buf (Elt F) (T1.view.loc (thr d L)))
variable (h0 : AllIn0 d L A fA) (h1 : AllIn1 d L A fA)
variable (v1 : BitVec 32) (v2 : IVec S16 32)

/-- The lane sums after trip `n`, from those before it. -/
def tripAcc (n : Fin k0_t1_loop.trips) (acc : FVec F S16 .f32) : FVec F S16 .f32 :=
  accTo v2 (cidT v1 n 3#32) (offB v1 n 3#32) (P0 d L T0 A fA f0 h0 n 3) (P1 d L T1 A fA f1 h1 n 3) (accTo v2 (cidT v1 n 2#32) (offB v1 n 2#32) (P0 d L T0 A fA f0 h0 n 2) (P1 d L T1 A fA f1 h1 n 2) (accTo v2 (cidT v1 n 1#32) (offB v1 n 1#32) (P0 d L T0 A fA f0 h0 n 1) (P1 d L T1 A fA f1 h1 n 1) (accTo v2 (cidT v1 n 0#32) (offB v1 n 0#32) (P0 d L T0 A fA f0 h0 n 0) (P1 d L T1 A fA f1 h1 n 0) (acc) 64) 64) 64) 64

/-- The lane sums after `n` trips. -/
def tileTo : ℕ → FVec F S16 .f32
  | 0 => k0_pay1
  | n + 1 => if h : n < k0_t1_loop.trips then tripAcc d L T0 T1 A fA f0 f1 h0 h1 v1 v2 ⟨n, h⟩ (tileTo n) else tileTo n

/-- A slot at rest. -/
def Rest (t : Fin 4) : sProp 𝕄 := iprop(II d L A st iS q fA t ∗ GI d L T0 T1 dA dB gS q f0 f1 t ∗ LI (F := F) d L lA lB t)

variable (O : CellTallies nD τ sig (HIx 1)) (W : Waits sig (HIx 1))

/-- Between trips: every slot is at rest and the lane sums are those of the trips so far. -/
def TripInv (n : ℕ) (acc : FVec F S16 .f32) : sProp 𝕄 :=
  iprop(⌜acc = tileTo d L T0 T1 A fA f0 f1 h0 h1 v1 v2 n⌝ ∗ OM (F := F) d L O W
    ∗ Rest d L T0 T1 A st lA lB dA dB iS gS q fA f0 f1 0 ∗ Rest d L T0 T1 A st lA lB dA dB iS gS q fA f0 f1 1
    ∗ Rest d L T0 T1 A st lA lB dA dB iS gS q fA f0 f1 2 ∗ Rest d L T0 T1 A st lA lB dA dB iS gS q fA f0 f1 3)

set_option maxHeartbeats 1000000 in
/-- One trip. -/
theorem one_trip (n : Fin k0_t1_loop.trips) (acc : FVec F S16 .f32) :
    TripInv d L T0 T1 A st lA lB dA dB iS gS q fA f0 f1 h0 h1 v1 v2 O W n.val acc
      ⊢ wp frame (wpE defs₀ 𝒱₀ (thr d L) none) Set.univ (k0_t1_body (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS v1 v2 n acc) (TripInv d L T0 T1 A st lA lB dA dB iS gS q fA f0 f1 h0 h1 v1 v2 O W (n.val + 1)) := by
  unfold k0_t1_body TripInv Rest
  iintro ⟨%ha, HO, ⟨I0, K0, L0⟩, ⟨I1, K1, L1⟩, ⟨I2, K2, L2⟩, ⟨I3, K3, L3⟩⟩
  imod (slot_open d L A st iS q fA n 0) $$ I0 with I0
  imod (slot_open d L A st iS q fA n 1) $$ I1 with I1
  imod (slot_open d L A st iS q fA n 2) $$ I2 with I2
  imod (slot_open d L A st iS q fA n 3) $$ I3 with I3
  iapply (part13 d L T0 hT0 T1 hT1 A hA X hX st hst lA lB hlA hlB dA dB hdA hdB R hR iS gS cS q fA v1 n) $$ [I0]
  · iexact I0
  iintro I0
  dsimp only
  iapply (part14 d L T0 hT0 T1 hT1 A hA X hX st hst lA lB hlA hlB dA dB hdA hdB R hR iS gS cS q fA n) $$ [I0 I1 I2]
  · isplitl [I0]; · iexact I0
    isplitl [I1]; · iexact I1
    iexact I2
  iintro ⟨I0, I1, I2⟩
  iapply (part15 d L T0 hT0 T1 hT1 A hA X hX st hst lA lB hlA hlB dA dB hdA hdB R hR iS gS cS q fA f0 f1 h0 h1 O W n) $$ [I0 I2 I3 L0 K0 HO]
  · isplitl [I0]; · iexact I0
    isplitl [I2]; · iexact I2
    isplitl [I3]; · iexact I3
    isplitl [L0]; · iexact L0
    isplitl [K0]; · iexact K0
    iexact HO
  iintro ⟨I0, I2, I3, K0, HO⟩
  iapply (part16 d L T0 hT0 T1 hT1 A hA X hX st hst lA lB hlA hlB dA dB hdA hdB R hR iS gS cS q fA f0 f1 h0 h1 O W n) $$ [K0 I1 L1 K1 I2 HO]
  · isplitl [K0]; · iexact K0
    isplitl [I1]; · iexact I1
    isplitl [L1]; · iexact L1
    isplitl [K1]; · iexact K1
    isplitl [I2]; · iexact I2
    iexact HO
  iintro ⟨K0, I1, K1, I2, HO⟩
  iapply (part17 d L T0 hT0 T1 hT1 A hA X hX st hst lA lB hlA hlB dA dB hdA hdB R hR iS gS cS q fA f0 f1 h0 h1 O W n) $$ [I2 L2 K2 I3 L3 K3 K0 HO]
  · isplitl [I2]; · iexact I2
    isplitl [L2]; · iexact L2
    isplitl [K2]; · iexact K2
    isplitl [I3]; · iexact I3
    isplitl [L3]; · iexact L3
    isplitl [K3]; · iexact K3
    isplitl [K0]; · iexact K0
    iexact HO
  iintro ⟨I2, K2, I3, K3, K0, HO⟩
  iapply (slot_acc d L T0 hT0 T1 hT1 A hA X hX st hst lA lB hlA hlB dA dB hdA hdB R hR iS gS cS q fA f0 f1 h0 h1 n 0 v2 (cidT v1 n 0#32) (offB v1 n 0#32) (acc)) $$ [K0]
  · iexact K0
  iintro ⟨K0, L0⟩
  iapply (slot_gwait d L T0 T1 A lA lB dA dB gS q fA f0 f1 h0 h1 O W n 1) $$ [K1 HO]
  · isplitl [K1]; · iexact K1
    iexact HO
  iintro ⟨K1, HO⟩
  iapply (slot_glast d L T0 T1 A lA lB dA dB gS q fA f0 f1 h0 h1 O W n 1) $$ [K1 HO]
  · isplitl [K1]; · iexact K1
    iexact HO
  iintro ⟨K1, HO⟩
  iapply (slot_acc d L T0 hT0 T1 hT1 A hA X hX st hst lA lB hlA hlB dA dB hdA hdB R hR iS gS cS q fA f0 f1 h0 h1 n 1 v2 (cidT v1 n 1#32) (offB v1 n 1#32) (accTo v2 (cidT v1 n 0#32) (offB v1 n 0#32) (P0 d L T0 A fA f0 h0 n 0) (P1 d L T1 A fA f1 h1 n 0) (acc) 64)) $$ [K1]
  · iexact K1
  iintro ⟨K1, L1⟩
  iapply (slot_gwait d L T0 T1 A lA lB dA dB gS q fA f0 f1 h0 h1 O W n 2) $$ [K2 HO]
  · isplitl [K2]; · iexact K2
    iexact HO
  iintro ⟨K2, HO⟩
  iapply (slot_glast d L T0 T1 A lA lB dA dB gS q fA f0 f1 h0 h1 O W n 2) $$ [K2 HO]
  · isplitl [K2]; · iexact K2
    iexact HO
  iintro ⟨K2, HO⟩
  iapply (slot_acc d L T0 hT0 T1 hT1 A hA X hX st hst lA lB hlA hlB dA dB hdA hdB R hR iS gS cS q fA f0 f1 h0 h1 n 2 v2 (cidT v1 n 2#32) (offB v1 n 2#32) (accTo v2 (cidT v1 n 1#32) (offB v1 n 1#32) (P0 d L T0 A fA f0 h0 n 1) (P1 d L T1 A fA f1 h1 n 1) (accTo v2 (cidT v1 n 0#32) (offB v1 n 0#32) (P0 d L T0 A fA f0 h0 n 0) (P1 d L T1 A fA f1 h1 n 0) (acc) 64) 64)) $$ [K2]
  · iexact K2
  iintro ⟨K2, L2⟩
  iapply (slot_gwait d L T0 T1 A lA lB dA dB gS q fA f0 f1 h0 h1 O W n 3) $$ [K3 HO]
  · isplitl [K3]; · iexact K3
    iexact HO
  iintro ⟨K3, HO⟩
  iapply (slot_glast d L T0 T1 A lA lB dA dB gS q fA f0 f1 h0 h1 O W n 3) $$ [K3 HO]
  · isplitl [K3]; · iexact K3
    iexact HO
  iintro ⟨K3, HO⟩
  iapply (slot_acc d L T0 hT0 T1 hT1 A hA X hX st hst lA lB hlA hlB dA dB hdA hdB R hR iS gS cS q fA f0 f1 h0 h1 n 3 v2 (cidT v1 n 3#32) (offB v1 n 3#32) (accTo v2 (cidT v1 n 2#32) (offB v1 n 2#32) (P0 d L T0 A fA f0 h0 n 2) (P1 d L T1 A fA f1 h1 n 2) (accTo v2 (cidT v1 n 1#32) (offB v1 n 1#32) (P0 d L T0 A fA f0 h0 n 1) (P1 d L T1 A fA f1 h1 n 1) (accTo v2 (cidT v1 n 0#32) (offB v1 n 0#32) (P0 d L T0 A fA f0 h0 n 0) (P1 d L T1 A fA f1 h1 n 0) (acc) 64) 64) 64)) $$ [K3]
  · iexact K3
  iintro ⟨K3, L3⟩
  rw [show ∀ (x : FVec F S16 .f32), (pure x : Prog (TpuEff nD τ sig (Elt F) Λ₀ (thr d L).2) (FVec F S16 .f32)) = Prog.ret x from fun _ => rfl, wp_ret]
  imodintro
  isplitr
  · ipureintro
    show _ = dite _ _ _
    rw [dif_pos n.isLt, ← ha]
    rfl
  isplitl [HO]; · iexact HO
  isplitl [I0 K0 L0]
  · isplitl [I0]; · iexact I0
    isplitl [K0]; · iexact K0
    iexact L0
  isplitl [I1 K1 L1]
  · isplitl [I1]; · iexact I1
    isplitl [K1]; · iexact K1
    iexact L1
  isplitl [I2 K2 L2]
  · isplitl [I2]; · iexact I2
    isplitl [K2]; · iexact K2
    iexact L2
  · isplitl [I3]; · iexact I3
    isplitl [K3]; · iexact K3
    iexact L3

variable {α : Type} {Q : α → sProp (MT nD τ sig (HIx 1) (Elt F) ℕ UU ℕ)}

/-- All trips: the lane sums are those of every chunk of the tile. -/
theorem all_trips {kk : FVec F S16 .f32 → Prog (TpuEff nD τ sig (Elt F) Λ₀ (thr d L).2) α} :
    iprop((OM (F := F) d L O W) ∗ Rest d L T0 T1 A st lA lB dA dB iS gS q fA f0 f1 0 ∗ Rest d L T0 T1 A st lA lB dA dB iS gS q fA f0 f1 1
        ∗ Rest d L T0 T1 A st lA lB dA dB iS gS q fA f0 f1 2 ∗ Rest d L T0 T1 A st lA lB dA dB iS gS q fA f0 f1 3)
      ⊢ iprop((iprop((OM (F := F) d L O W) ∗ Rest d L T0 T1 A st lA lB dA dB iS gS q fA f0 f1 0 ∗ Rest d L T0 T1 A st lA lB dA dB iS gS q fA f0 f1 1
            ∗ Rest d L T0 T1 A st lA lB dA dB iS gS q fA f0 f1 2 ∗ Rest d L T0 T1 A st lA lB dA dB iS gS q fA f0 f1 3)
            -∗ wp frame (wpE defs₀ 𝒱₀ (thr d L) none) Set.univ (kk (tileTo d L T0 T1 A fA f0 f1 h0 h1 v1 v2 k0_t1_loop.trips)) Q)
          -∗ wp frame (wpE defs₀ 𝒱₀ (thr d L) none) Set.univ (Scf.Loop.for k0_t1_loop k0_t1_ok (k0_pay1 (F := F)) (k0_t1_body (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS v1 v2) >>= kk) Q) := by
  iintro H Hk
  iapply (Scf.wp_for_bind _ _ _ _ _ _ _ _ _ (TripInv d L T0 T1 A st lA lB dA dB iS gS q fA f0 f1 h0 h1 v1 v2 O W)
    (fun n a => one_trip d L T0 hT0 T1 hT1 A hA X hX st hst lA lB hlA hlB dA dB hdA hdB R hR iS gS cS q fA f0 f1 h0 h1 v1 v2 O W n a)) $$ [H]
  · unfold TripInv
    isplitr
    · ipureintro; rfl
    iexact H
  · iintro %a H
    unfold TripInv
    icases H with ⟨%ha, H⟩
    rw [ha]
    iapply Hk $$ H

end
end Cert.Proof
-- ==== Proof.Tile.lean ====
/-
# The tile's program

All trips, then the sixteen lane sums are stored and copied out to the tile's row.
-/
module

public import proofs.«01_k».proof.Proof.Trip

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- Sixteen entries stored at once read back. -/
theorem read_store {sp : Space} {e : EltTy} (v : View sig .scVector sp S16 e) (f : v.ty.Contents (Elt F)) (h : ∀ a, (![0] : Fin 1 → ℕ) a + S16.size a ≤ S16.size a)
    (w : S16.Idx → Elt F e) : v.read (Elt F) (v.writes (Elt F) f [⟨Rect.unit ![0] S16.size h, w⟩]) = w := by
  funext y
  exact View.read_writes_cons_unit_of_mem v f h w [] y y rfl (fun a => by obtain rfl : a = 0 := Subsingleton.elim a 0; simp)

theorem read_copy {sp : Space} {e : EltTy} (v : View sig .scVector sp S16 e) (f : v.ty.Contents (Elt F))
    (w : S16.Idx → Elt F e) : v.read (Elt F) (v.writes (Elt F) f [⟨Rect.whole S16, w⟩]) = w := by
  funext y
  have h := View.read_writes_cons_emb v f (Rect.whole S16) w [] y
  rwa [Rect.emb_whole_apply] at h

section
variable [FloatOps F] (d : Dev nD) (L : grid0.Coords)
variable (T0 : Memref sig .scVector .hbm S67108864 .f32) (hT0 : T0.IsWhole) (T1 : Memref sig .scVector .hbm S16777216 .f32) (hT1 : T1.IsWhole)
variable (A : Fin 8 → Memref sig .scVector .hbm S1000000 .i32) (hA : ∀ k, (A k).IsWhole) (X : Memref sig .scVector .hbm S32x16 .f32) (hX : X.IsWhole)
variable (st : Fin 4 → Fin 8 → Memref sig .scVector .vmem S1024 .i32) (hst : ∀ t k, (st t k).IsWhole)
variable (lA lB : Fin 4 → Memref sig .scVector .vmem S2048 .i32) (hlA : ∀ t, (lA t).IsWhole) (hlB : ∀ t, (lB t).IsWhole)
variable (dA dB : Fin 4 → Memref sig .scVector .vmem S2048 .f32) (hdA : ∀ t, (dA t).IsWhole) (hdB : ∀ t, (dB t).IsWhole)
variable (R : Memref sig .scVector .vmem S16 .f32) (hR : R.IsWhole) (iS gS : Fin 4 → DmaSems sig S_) (cS : DmaSems sig S_)

variable (q : Fin 4 → PosShare TreeShare) (fA : ∀ k, Buf (Elt F) ((A k).view.loc (thr d L)))
variable (f0 : Buf (Elt F) (T0.view.loc (thr d L))) (f1 : Buf (Elt F) (T1.view.loc (thr d L)))
variable (h0 : AllIn0 d L A fA) (h1 : AllIn1 d L A fA)

variable (O : CellTallies nD τ sig (HIx 1)) (W : Waits sig (HIx 1))

/-- The tile's number as the program computes it, and the lane numbers. -/
abbrev wid : BitVec 32 := Scalar.addi (Scalar.muli (BitVec.ofNat 32 (L 1).val) 2#32) (BitVec.ofNat 32 (L 0).val)
abbrev lanes : IVec S16 32 := iota .scVector S16 32 [0] iota_S16_d0_w32_scVector

/-- The tile's row of the output, as the copy names it. -/
abbrev rowK : Memref sig .scVector .hbm S16 .f32 :=
  (X.slice (Rect.unit (s := S32x16) (k0_off18 L) S1x16.size (k0_off18_inb L)) (fun _ => rfl)).squeeze S16 squeezes_S1x16_S16

/-- The tile's sixteen sums. -/
def tileVal : FVec F S16 .f32 := tileTo d L T0 T1 A fA f0 f1 h0 h1 (wid L) lanes k0_t1_loop.trips

set_option maxHeartbeats 1000000 in
/-- The tile's program, from every slot at rest: the row holds the tile's sums, the slots are at rest again. -/
theorem tile_run :
    iprop((OM (F := F) d L O W) ∗ (Rest d L T0 T1 A st lA lB dA dB iS gS q fA f0 f1 0 ∗ Rest d L T0 T1 A st lA lB dA dB iS gS q fA f0 f1 1 ∗ Rest d L T0 T1 A st lA lB dA dB iS gS q fA f0 f1 2 ∗ Rest d L T0 T1 A st lA lB dA dB iS gS q fA f0 f1 3) ∗ anyAt (F := F) (thr d L) R ∗ anyAt (F := F) (thr d L) (rowK L X) ∗ semVal (thr d L, .dma cS.sem) 0)
      ⊢ wp frame (wpE defs₀ 𝒱₀ (thr d L) none) Set.univ (cc0_k (F := F) L T0 hT0 T1 hT1 (A 0) (hA 0) (A 1) (hA 1) (A 4) (hA 4) (A 5) (hA 5) (A 2) (hA 2) (A 3) (hA 3) (A 6) (hA 6) (A 7) (hA 7) X hX (st 0 0) (hst 0 0) (st 0 1) (hst 0 1) (st 0 2) (hst 0 2) (st 0 3) (hst 0 3) (st 0 4) (hst 0 4) (st 0 5) (hst 0 5) (st 0 6) (hst 0 6) (st 0 7) (hst 0 7) (st 1 0) (hst 1 0) (st 1 1) (hst 1 1) (st 1 2) (hst 1 2) (st 1 3) (hst 1 3) (st 1 4) (hst 1 4) (st 1 5) (hst 1 5) (st 1 6) (hst 1 6) (st 1 7) (hst 1 7) (st 2 0) (hst 2 0) (st 2 1) (hst 2 1) (st 2 2) (hst 2 2) (st 2 3) (hst 2 3) (st 2 4) (hst 2 4) (st 2 5) (hst 2 5) (st 2 6) (hst 2 6) (st 2 7) (hst 2 7) (st 3 0) (hst 3 0) (st 3 1) (hst 3 1) (st 3 2) (hst 3 2) (st 3 3) (hst 3 3) (st 3 4) (hst 3 4) (st 3 5) (hst 3 5) (st 3 6) (hst 3 6) (st 3 7) (hst 3 7) (lA 0) (hlA 0) (lB 0) (hlB 0) (lA 1) (hlA 1) (lB 1) (hlB 1) (lA 2) (hlA 2) (lB 2) (hlB 2) (lA 3) (hlA 3) (lB 3) (hlB 3) (dA 0) (hdA 0) (dB 0) (hdB 0) (dA 1) (hdA 1) (dB 1) (hdB 1) (dA 2) (hdA 2) (dB 2) (hdB 2) (dA 3) (hdA 3) (dB 3) (hdB 3) R hR (iS 0) (iS 1) (iS 2) (iS 3) (gS 0) (gS 1) (gS 2) (gS 3) cS) (fun _ => iprop((OM (F := F) d L O W) ∗ (Rest d L T0 T1 A st lA lB dA dB iS gS q fA f0 f1 0 ∗ Rest d L T0 T1 A st lA lB dA dB iS gS q fA f0 f1 1 ∗ Rest d L T0 T1 A st lA lB dA dB iS gS q fA f0 f1 2 ∗ Rest d L T0 T1 A st lA lB dA dB iS gS q fA f0 f1 3) ∗ anyAt (F := F) (thr d L) R
          ∗ holds (thr d L) (rowK L X) (tileVal d L T0 T1 A fA f0 f1 h0 h1) ∗ semVal (thr d L, .dma cS.sem) 0)) := by
  simp only [cc0_k_eq_skeleton]; unfold cc0_k_skel
  iintro ⟨HO, HR, HB, HX, Hv⟩
  iapply (all_trips d L T0 hT0 T1 hT1 A hA X hX st hst lA lB hlA hlB dA dB hdA hdB R hR iS gS cS q fA f0 f1 h0 h1 (wid L) lanes O W) $$ [HO HR]
  · isplitl [HO]; · iexact HO
    iexact HR
  iintro ⟨HO, HR⟩
  unfold anyAt
  icases HB with ⟨%fb, HB⟩
  icases HX with ⟨%fx, HX⟩
  unfold OM Owe
  icases HO with ⟨#Hmw, %W', %hW, HO⟩
  sl_exec
  rw [wp_ret]; imodintro
  isplitl [HO]
  · isplitr; · iexact Hmw
    iexists _
    isplitr; swap; · iexact HO
    ipureintro
    intro p hp
    rcases Finset.mem_insert.mp hp with h | h
    · exact .inr (h ▸ rfl)
    · exact hW p h
  isplitl [HR]; · iexact HR
  isplitl [HB]; · iexists _; iexact HB
  isplitl [HX]
  · unfold holds
    iexists _
    isplitr; swap; · iexact HX
    ipureintro
    unfold tile_run.sl.dma2 tile_run.sl.HB_1
    rw [read_copy]
    refine (read_store _ _ _ _).trans ?_
    unfold k0_pay6
    exact shapeCast_self _ _
  iexact Hv

end
end Cert.Proof
-- ==== Proof.Held.lean ====
/-
# A tile's buffers and semaphores

The four slots' buffers, by slot, and how what a tile owns is these and the rest.
-/
module

public import proofs.«01_k».proof.Proof.Tile

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The two tables, and the partial sums. -/
abbrev rateM : Memref sig .scVector .hbm S67108864 .f32 := Memref.whole main_v2_scv
abbrev linkM : Memref sig .scVector .hbm S16777216 .f32 := Memref.whole main_v5_scv
abbrev outM : Memref sig .scVector .hbm S32x16 .f32 := Memref.whole main_v6_scv
abbrev accM : Memref sig .scVector .vmem S16 .f32 := Memref.whole cc0_scratch48

/-- The eight index arrays, in the order a slot copies them. -/
abbrev idxM : Fin 8 → Memref sig .scVector .hbm S1000000 .i32 :=
  ![Memref.whole main_arg2_scv, Memref.whole main_arg3_scv, Memref.whole main_arg6_scv, Memref.whole main_arg7_scv, Memref.whole main_arg4_scv, Memref.whole main_arg5_scv, Memref.whole main_arg8_scv, Memref.whole main_arg9_scv]

/-- Slot `t`'s eight staging buffers. -/
abbrev stM : Fin 4 → Fin 8 → Memref sig .scVector .vmem S1024 .i32 :=
  ![![Memref.whole cc0_scratch0, Memref.whole cc0_scratch1, Memref.whole cc0_scratch2, Memref.whole cc0_scratch3, Memref.whole cc0_scratch4, Memref.whole cc0_scratch5, Memref.whole cc0_scratch6, Memref.whole cc0_scratch7],
    ![Memref.whole cc0_scratch8, Memref.whole cc0_scratch9, Memref.whole cc0_scratch10, Memref.whole cc0_scratch11, Memref.whole cc0_scratch12, Memref.whole cc0_scratch13, Memref.whole cc0_scratch14, Memref.whole cc0_scratch15],
    ![Memref.whole cc0_scratch16, Memref.whole cc0_scratch17, Memref.whole cc0_scratch18, Memref.whole cc0_scratch19, Memref.whole cc0_scratch20, Memref.whole cc0_scratch21, Memref.whole cc0_scratch22, Memref.whole cc0_scratch23],
    ![Memref.whole cc0_scratch24, Memref.whole cc0_scratch25, Memref.whole cc0_scratch26, Memref.whole cc0_scratch27, Memref.whole cc0_scratch28, Memref.whole cc0_scratch29, Memref.whole cc0_scratch30, Memref.whole cc0_scratch31]]

/-- Slot `t`'s two lists and two value buffers. -/
abbrev lsA : Fin 4 → Memref sig .scVector .vmem S2048 .i32 := ![Memref.whole cc0_scratch32, Memref.whole cc0_scratch34, Memref.whole cc0_scratch36, Memref.whole cc0_scratch38]
abbrev lsB : Fin 4 → Memref sig .scVector .vmem S2048 .i32 := ![Memref.whole cc0_scratch33, Memref.whole cc0_scratch35, Memref.whole cc0_scratch37, Memref.whole cc0_scratch39]
abbrev dvA : Fin 4 → Memref sig .scVector .vmem S2048 .f32 := ![Memref.whole cc0_scratch40, Memref.whole cc0_scratch42, Memref.whole cc0_scratch44, Memref.whole cc0_scratch46]
abbrev dvB : Fin 4 → Memref sig .scVector .vmem S2048 .f32 := ![Memref.whole cc0_scratch41, Memref.whole cc0_scratch43, Memref.whole cc0_scratch45, Memref.whole cc0_scratch47]

/-- Slot `t`'s two semaphores: the index copies', the gathers'. -/
abbrev iSem : Fin 4 → DmaSems sig S_ := ![cc0_scratch49, cc0_scratch50, cc0_scratch51, cc0_scratch52]
abbrev gSem : Fin 4 → DmaSems sig S_ := ![cc0_scratch53, cc0_scratch54, cc0_scratch55, cc0_scratch56]

theorem idxM_whole : ∀ k, (idxM k).IsWhole := by
  intro k; fin_cases k <;> exact Memref.isWhole_whole _
theorem stM_whole : ∀ t k, (stM t k).IsWhole := by
  intro t k; fin_cases t <;> fin_cases k <;> exact Memref.isWhole_whole _
theorem lsA_whole : ∀ t, (lsA t).IsWhole := by intro t; fin_cases t <;> exact Memref.isWhole_whole _
theorem lsB_whole : ∀ t, (lsB t).IsWhole := by intro t; fin_cases t <;> exact Memref.isWhole_whole _
theorem dvA_whole : ∀ t, (dvA t).IsWhole := by intro t; fin_cases t <;> exact Memref.isWhole_whole _
theorem dvB_whole : ∀ t, (dvB t).IsWhole := by intro t; fin_cases t <;> exact Memref.isWhole_whole _

/-! ## The buffers among the tile's own -/

abbrev BufIx : Type := (Fin 4 × Fin 8) ⊕ (Fin 4 ⊕ (Fin 4 ⊕ (Fin 4 ⊕ (Fin 4 ⊕ Unit))))

/-- Buffer `i` of the tile. -/
def bufRef : BufIx → Ref sig .scVector
  | .inl p => (stM p.1 p.2).view.ref
  | .inr (.inl t) => (lsA t).view.ref
  | .inr (.inr (.inl t)) => (lsB t).view.ref
  | .inr (.inr (.inr (.inl t))) => (dvA t).view.ref
  | .inr (.inr (.inr (.inr (.inl t)))) => (dvB t).view.ref
  | .inr (.inr (.inr (.inr (.inr _)))) => accM.view.ref

set_option synthInstance.maxSize 1000 in
set_option synthInstance.maxHeartbeats 200000 in
theorem bufRef_inj : ∀ i j : BufIx, bufRef i = bufRef j → i = j := by decide +kernel
theorem bufRef_space : ∀ i : BufIx, (bufRef i).space = .vmem := by decide +kernel

theorem owner_vmem {p : Proc τ} : ∀ {c : Fin τ.nSC} {j : Fin τ.nSub}, p = .scVector c j → ∀ r : Ref sig p.kind, r.space = .vmem → (p.devRef r).owner = .proc p := by
  rintro c j rfl ⟨sp, i, h⟩ hs
  obtain rfl : sp = .vmem := hs
  rfl

variable (d : Dev nD) (L : grid0.Coords)

def bufDev (i : BufIx) : DevRef τ sig := (Proc.scVector (cV L) (jV L)).devRef (bufRef i)

theorem bufDev_inj : Function.Injective (bufDev L) := fun i j h => bufRef_inj i j (Proc.devRef_injective _ h)
theorem bufDev_mem (i : BufIx) : bufDev L i ∈ SparseCore.Cfg.ownRefs (τ := τ) (sig := sig) (.scVector (cV L) (jV L)) :=
  SparseCore.Cfg.mem_ownRefs_of_owner (owner_vmem rfl _ (bufRef_space i))

/-- A family over a set is the members of an injective table and the rest. -/
theorem bigSep_table {α ι : Type} [DecidableEq α] [Fintype ι] [DecidableEq ι] (S : Finset α) (g : ι → α) (hg : Function.Injective g)
    (hS : ∀ i, g i ∈ S) (Φ : α → sProp 𝕄) :
    bigSep S Φ = iprop((bigSep Finset.univ fun i => Φ (g i)) ∗ bigSep (S \ Finset.univ.image g) Φ) := by
  rw [SparseCore.bigSep_sdiff_split' (t := Finset.univ.image g) (s := S) (by
    intro x hx; obtain ⟨i, -, rfl⟩ := Finset.mem_image.mp hx; exact hS i),
    SparseCore.bigSep_image_of_injOn (fun _ _ _ _ h => hg h)]

theorem anyAt_whole {sp : Space} {s : Shape} {e : EltTy} (m : Memref sig .scVector sp s e) (hm : m.IsWhole) :
    (anyAt (F := F) (thr d L) m : sProp 𝕄) = iprop(∃ f, ((d, (Proc.scVector (cV L) (jV L)).devRef m.view.ref) : Loc nD τ sig) ↦{fullShare} f) := by
  unfold anyAt
  rw [hm.set_eq_univ]

/-- What the tile owns beyond the buffers it names. -/
def otherBufs : sProp 𝕄 :=
  bigSep (SparseCore.Cfg.ownRefs (τ := τ) (sig := sig) (.scVector (cV L) (jV L)) \ Finset.univ.image (bufDev L)) fun b =>
    iprop(∃ f, ((d, b) : Loc nD τ sig) ↦{fullShare} f)

theorem own_bufs : (SparseCore.Cfg.ownBufs (thr d L) : sProp 𝕄) =
    iprop(((bigSep Finset.univ fun t => bigSep Finset.univ fun k => anyAt (F := F) (thr d L) (stM t k))
      ∗ (bigSep Finset.univ fun t => anyAt (F := F) (thr d L) (lsA t)) ∗ (bigSep Finset.univ fun t => anyAt (F := F) (thr d L) (lsB t))
      ∗ (bigSep Finset.univ fun t => anyAt (F := F) (thr d L) (dvA t)) ∗ (bigSep Finset.univ fun t => anyAt (F := F) (thr d L) (dvB t))
      ∗ anyAt (F := F) (thr d L) accM) ∗ otherBufs (F := F) d L) := by
  unfold SparseCore.Cfg.ownBufs otherBufs
  refine (bigSep_table _ (bufDev L) (bufDev_inj L) (bufDev_mem L) _).trans ?_
  congr 1
  rw [BI.bigSep_univ_sum, BI.bigSep_univ_sum, BI.bigSep_univ_sum, BI.bigSep_univ_sum, BI.bigSep_univ_sum, BI.bigSep_univ_prod,
    BI.bigSep_univ_of_subsingleton (())]
  refine congrArg₂ _ (BI.bigSep_congr fun t _ => BI.bigSep_congr fun k _ => (anyAt_whole d L _ (stM_whole t k)).symm) ?_
  refine congrArg₂ _ (BI.bigSep_congr fun t _ => (anyAt_whole d L _ (lsA_whole t)).symm) ?_
  refine congrArg₂ _ (BI.bigSep_congr fun t _ => (anyAt_whole d L _ (lsB_whole t)).symm) ?_
  refine congrArg₂ _ (BI.bigSep_congr fun t _ => (anyAt_whole d L _ (dvA_whole t)).symm) ?_
  refine congrArg₂ _ (BI.bigSep_congr fun t _ => (anyAt_whole d L _ (dvB_whole t)).symm) ?_
  exact (anyAt_whole d L accM (Memref.isWhole_whole _)).symm

/-! ## The semaphores among the tile's own -/

abbrev SemIx : Type := Fin 4 ⊕ (Fin 4 ⊕ Unit)

def semTab : SemIx → DmaSem sig
  | .inl t => (iSem t).sem
  | .inr (.inl t) => (gSem t).sem
  | .inr (.inr _) => cc0_scoped0.sem

theorem semTab_inj : ∀ i j : SemIx, semTab i = semTab j → i = j := by decide +kernel
theorem semTab_scoped : ∀ i : SemIx, (SemLoc.dma (semTab i) : SemLoc sig).isScoped .scVector = true := by decide +kernel

def semCell (i : SemIx) : GSem nD τ sig := (thr d L, .dma (semTab i))

theorem semCell_inj : Function.Injective (semCell d L) := fun i j h => semTab_inj i j (by
  have := congrArg Prod.snd h
  simpa [semCell] using this)
theorem semCell_mem (i : SemIx) : semCell d L i ∈ SparseCore.Cfg.ownCells (thr d L) :=
  SparseCore.Cfg.mem_ownCells.mpr ⟨rfl, semTab_scoped i⟩

def otherSems : sProp 𝕄 := bigSep (SparseCore.Cfg.ownCells (thr d L) \ Finset.univ.image (semCell d L)) fun g => semVal g 0

theorem own_sems : (SparseCore.Cfg.ownSems0 (thr d L) : sProp 𝕄) =
    iprop(((bigSep Finset.univ fun t => semVal (thr d L, .dma (iSem t).sem) 0) ∗ (bigSep Finset.univ fun t => semVal (thr d L, .dma (gSem t).sem) 0)
      ∗ semVal (thr d L, .dma cc0_scoped0.sem) 0) ∗ otherSems (F := F) d L) := by
  unfold SparseCore.Cfg.ownSems0 otherSems
  refine (bigSep_table _ (semCell d L) (semCell_inj d L) (semCell_mem d L) _).trans ?_
  congr 1
  rw [BI.bigSep_univ_sum, BI.bigSep_univ_sum, BI.bigSep_univ_of_subsingleton (())]
  rfl

end Cert.Proof
-- ==== Proof.Body.lean ====
/-
# The tile's task

A tile is handed, for each of its four slots, a share of every index array and of both tables, and its row of the output;
it hands the shares back and the row holding its sums.
-/
module

public import proofs.«01_k».proof.Proof.Held

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section
variable (m : (ℓ : Loc nD τ sig) → Buf (Elt F) ℓ) (w0 : ∀ d : Dev nD, Buf (Elt F) ((SparseCore.T d : Thread nD τ).loc main_v2))
  (w1 : ∀ d : Dev nD, Buf (Elt F) ((SparseCore.T d : Thread nD τ).loc main_v5))
variable (d : Dev nD) (L : grid0.Coords)

/-- The share of slot `t` of tile `(L 0, L 1)`. -/
def shareOf (c : Fin 2) (i : Fin 16) (t : Fin 4) : PosShare TreeShare := piece (piece (piece fullShare 1 c) 15 i) 3 t
abbrev slotShare (t : Fin 4) : PosShare TreeShare := shareOf (Fin.cast rfl (L 0)) (Fin.cast rfl (L 1)) t

/-- The contents of the index arrays and of the tables when the call is made. -/
abbrev idxC (k : Fin 8) : Buf (Elt F) ((idxM k).view.loc (thr d L)) := m ((idxM k).view.loc (thr d L))
abbrev rateC : Buf (Elt F) (rateM.view.loc (thr d L)) := w0 d
abbrev linkC : Buf (Elt F) (linkM.view.loc (thr d L)) := w1 d

/-- The shares the tile is handed, slot by slot. -/
def tileIn : sProp 𝕄 := iprop((bigSep Finset.univ fun t => idxShares (thr d L) idxM (slotShare L t) (idxC m d L))
  ∗ (bigSep Finset.univ fun t => tab0 (thr d L) rateM (slotShare L t) (rateC w0 d L))
  ∗ (bigSep Finset.univ fun t => tab1 (thr d L) linkM (slotShare L t) (linkC w1 d L)))

theorem sep_four (Φ : Fin 4 → sProp 𝕄) : iprop(Φ 0 ∗ Φ 1 ∗ Φ 2 ∗ Φ 3) = bigSep Finset.univ Φ :=
  (bigSep_univ_eq_bigSepL [0, 1, 2, 3] (by decide) (by decide) Φ).symm

/-- The four slots at rest, resource by resource. -/
theorem rests_eq [FloatOps F] (fA : ∀ k, Buf (Elt F) ((idxM k).view.loc (thr d L))) (f0 : Buf (Elt F) (rateM.view.loc (thr d L)))
    (f1 : Buf (Elt F) (linkM.view.loc (thr d L))) :
    (iprop(Rest d L rateM linkM idxM stM lsA lsB dvA dvB iSem gSem (slotShare L) fA f0 f1 0
      ∗ Rest d L rateM linkM idxM stM lsA lsB dvA dvB iSem gSem (slotShare L) fA f0 f1 1
      ∗ Rest d L rateM linkM idxM stM lsA lsB dvA dvB iSem gSem (slotShare L) fA f0 f1 2
      ∗ Rest d L rateM linkM idxM stM lsA lsB dvA dvB iSem gSem (slotShare L) fA f0 f1 3) : sProp 𝕄)
    = iprop(((bigSep Finset.univ fun t => semVal (thr d L, .dma (iSem t).sem) 0)
        ∗ (bigSep Finset.univ fun t => idxShares (thr d L) idxM (slotShare L t) fA)
        ∗ (bigSep Finset.univ fun t => bigSep Finset.univ fun k => anyAt (F := F) (thr d L) (stM t k)))
      ∗ ((bigSep Finset.univ fun t => semVal (thr d L, .dma (gSem t).sem) 0)
        ∗ (bigSep Finset.univ fun t => tab0 (thr d L) rateM (slotShare L t) f0)
        ∗ (bigSep Finset.univ fun t => tab1 (thr d L) linkM (slotShare L t) f1)
        ∗ (bigSep Finset.univ fun t => anyAt (F := F) (thr d L) (dvA t)) ∗ (bigSep Finset.univ fun t => anyAt (F := F) (thr d L) (dvB t)))
      ∗ ((bigSep Finset.univ fun t => anyAt (F := F) (thr d L) (lsA t)) ∗ (bigSep Finset.univ fun t => anyAt (F := F) (thr d L) (lsB t)))) := by
  rw [sep_four (Rest d L rateM linkM idxM stM lsA lsB dvA dvB iSem gSem (slotShare L) fA f0 f1)]
  unfold Rest LI
  simp only [II, GI, IdxIdle, GatIdle, bigSep_sep']

/-- Every list of every tile names entries of its table. -/
def ListsOK : Prop := ∀ (d : Dev nD) (L : grid0.Coords), AllIn0 d L idxM (idxC m d L) ∧ AllIn1 d L idxM (idxC m d L)

variable [FloatOps F]

/-- Tile `(L 0, L 1)`'s sixteen sums. -/
def tileSums (hm : ListsOK m) : FVec F S16 .f32 :=
  tileVal d L rateM linkM idxM (idxC m d L) (rateC w0 d L) (linkC w1 d L) (hm d L).1 (hm d L).2

/-- What a tile is handed and what it hands back. -/
def TP : sProp 𝕄 := iprop(tileIn m w0 w1 d L ∗ anyAt (F := F) (thr d L) (rowK L outM))
def TD (hm : ListsOK m) : sProp 𝕄 := iprop(tileIn m w0 w1 d L ∗ holds (thr d L) (rowK L outM) (tileSums m w0 w1 d L hm))

set_option maxHeartbeats 1000000 in
theorem tile_body (hF : (K (F := F)).Facts) (hm : ListsOK m) (O : CellTallies nD τ sig (HIx 1)) (W : Waits sig (HIx 1)) (hO : ∀ g, O g none = 0) :
    iprop(levAts (K (F := F)).L (K (F := F)).lev ∗ emp ∗ TP m w0 w1 d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_v2_scv) (Memref.isWhole_whole _) (Memref.whole main_v5_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_arg9_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) cc0_scratch49 cc0_scratch50 cc0_scratch51 cc0_scratch52 cc0_scratch53 cc0_scratch54 cc0_scratch55 cc0_scratch56 cc0_scoped0)
          fun _ => iprop(TD m w0 w1 d L hm ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), own_sems d L, own_bufs d L]
  unfold TP TD tileIn
  have key := tile_run d L rateM (Memref.isWhole_whole _) linkM (Memref.isWhole_whole _) idxM idxM_whole outM (Memref.isWhole_whole _) stM stM_whole lsA lsB lsA_whole lsB_whole dvA dvB dvA_whole dvB_whole accM (Memref.isWhole_whole _) iSem gSem cc0_scoped0 (slotShare L) (idxC m d L) (rateC w0 d L) (linkC w1 d L) (hm d L).1 (hm d L).2 O W
  rw [rests_eq d L] at key
  iintro ⟨#Hlv, -, ⟨⟨HI, H0, H1⟩, HX⟩, ⟨⟨Hst, HlA, HlB, HdA, HdB, HR⟩, Hob⟩, ⟨⟨HsI, HsG, Hsc⟩, Hos⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hwp := key $$ [HI H0 H1 HX Hst HlA HlB HdA HdB HR HsI HsG Hsc HO Hmw]
  · isplitl [HO Hmw]
    · unfold OM Owe
      isplitl [Hmw]; · iexact Hmw
      iexists W
      isplitr; · ipureintro; exact fun p hp => .inl hp
      iexact HO
    isplitr [HR HX Hsc]
    · isplitl [HsI HI Hst]
      · isplitl [HsI]; · iexact HsI
        isplitl [HI]; · iexact HI
        iexact Hst
      isplitl [HsG H0 H1 HdA HdB]
      · isplitl [HsG]; · iexact HsG
        isplitl [H0]; · iexact H0
        isplitl [H1]; · iexact H1
        isplitl [HdA]; · iexact HdA
        iexact HdB
      isplitl [HlA]; · iexact HlA
      iexact HlB
    isplitl [HR]; · iexact HR
    isplitl [HX]; · iexact HX
    iexact Hsc
  iapply (wp_wand frame _ _) $$ Hwp
  iintro %a ⟨HO, ⟨⟨HsI, HI, Hst⟩, ⟨HsG, H0, H1, HdA, HdB⟩, HlA, HlB⟩, HR, HX, Hsc⟩
  isplitl [HI H0 H1 HX]
  · isplitr [HX]
    · isplitl [HI]; · iexact HI
      isplitl [H0]; · iexact H0
      iexact H1
    iexact HX
  isplitl [Hst HlA HlB HdA HdB HR Hob]
  · isplitr [Hob]
    · isplitl [Hst]; · iexact Hst
      isplitl [HlA]; · iexact HlA
      isplitl [HlB]; · iexact HlB
      isplitl [HdA]; · iexact HdA
      isplitl [HdB]; · iexact HdB
      iexact HR
    iexact Hob
  isplitl [HsI HsG Hsc Hos]
  · isplitr [Hos]
    · isplitl [HsI]; · iexact HsI
      isplitl [HsG]; · iexact HsG
      iexact Hsc
    iexact Hos
  unfold OM Owe
  icases HO with ⟨-, HO⟩
  iexact HO

end
end Cert.Proof
-- ==== Proof.Shares.lean ====
/-
# Dealing the arrays to the tiles

Every index array and table is cut into one share per slot of every tile; the output is cut into its thirty-two rows,
one per tile, and joined again from what the tiles leave.
-/
module

public import proofs.«01_k».proof.Proof.Body

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The tile numbered `i` of core `c`. -/
def coordsL (c : Fin 2) (i : Fin 16) : grid0.Coords :=
  fun | 0 => c | 1 => i | ⟨_ + 2, h⟩ => absurd h (Nat.not_lt.2 (Nat.le_add_left _ _))

/-- A buffer held outright is held in one share per slot of every tile. -/
theorem share_split {ℓ : Loc nD τ sig} (I : Finset (Idx ℓ)) (f : Buf (Elt F) ℓ) :
    (ℓ ↦[I]{fullShare} f : sProp 𝕄)
      = bigSep Finset.univ fun c : Fin 2 => bigSep Finset.univ fun i : Fin 16 => bigSep Finset.univ fun t : Fin 4 => ℓ ↦[I]{shareOf c i t} f := by
  rw [pointsTo_pieces I f 1 fullShare]
  refine bigSep_congr fun c _ => ?_
  rw [pointsTo_pieces I f 15 _]
  refine bigSep_congr fun i _ => ?_
  rw [pointsTo_pieces I f 3 _]
  rfl

variable (m : (ℓ : Loc nD τ sig) → Buf (Elt F) ℓ) (d : Dev nD)

/-- The index arrays as the host names them, in the order a slot copies them. -/
abbrev idxH : Fin 8 → Ref sig .tc := ![main_arg2, main_arg3, main_arg6, main_arg7, main_arg4, main_arg5, main_arg8, main_arg9]

set_option maxHeartbeats 1000000 in
theorem idx_deal (k : Fin 8) :
    (bigSep Finset.univ fun c : Fin 2 => bigSep Finset.univ fun i : Fin 16 => bigSep Finset.univ fun t : Fin 4 =>
        ((idxM k).view.loc (thr d (coordsL c i)) ↦[(idxM k).view.set]{shareOf c i t} m ((idxM k).view.loc (thr d (coordsL c i))) : sProp 𝕄))
      = (((d, Proc.devRef .tc (idxH k)) : Loc nD τ sig) ↦{fullShare} m (d, Proc.devRef .tc (idxH k))) := by
  rw [share_split]
  refine bigSep_congr fun c _ => bigSep_congr fun i _ => bigSep_congr fun t _ => ?_
  rw [(idxM_whole k).set_eq_univ]
  fin_cases k <;> rfl

/-- All of a table is every entry. -/
theorem set_all0 (c : Thread nD τ) (T0 : Memref sig c.2.kind .hbm S67108864 .f32) (h : T0.IsWhole) : (all0 c T0).view.set = Finset.univ := by
  rw [← h.set_eq_univ]
  ext x
  constructor
  · exact fun hx => View.set_slice_subset _ _ hx
  · intro hx
    obtain ⟨y, -, rfl⟩ := Finset.mem_map.mp hx
    refine Finset.mem_map.mpr ⟨y, Finset.mem_univ _, congrArg T0.view.emb ?_⟩
    funext a
    fin_cases a
    exact Fin.ext (by show 0 + 1 * (y 0).val = (y 0).val; omega)

/-- All of the second table is every entry. -/
theorem set_all1 (c : Thread nD τ) (T1 : Memref sig c.2.kind .hbm S16777216 .f32) (h : T1.IsWhole) : (all1 c T1).view.set = Finset.univ := by
  rw [← h.set_eq_univ]
  ext x
  constructor
  · exact fun hx => View.set_slice_subset _ _ hx
  · intro hx
    obtain ⟨y, -, rfl⟩ := Finset.mem_map.mp hx
    refine Finset.mem_map.mpr ⟨y, Finset.mem_univ _, congrArg T1.view.emb ?_⟩
    funext a
    fin_cases a
    exact Fin.ext (by show 0 + 1 * (y 0).val = (y 0).val; omega)

variable (w0 : ∀ d : Dev nD, Buf (Elt F) ((SparseCore.T (τ := τ) d).loc main_v2)) (w1 : ∀ d : Dev nD, Buf (Elt F) ((SparseCore.T (τ := τ) d).loc main_v5))

theorem tab0_deal :
    (bigSep Finset.univ fun c : Fin 2 => bigSep Finset.univ fun i : Fin 16 => bigSep Finset.univ fun t : Fin 4 =>
        tab0 (thr d (coordsL c i)) rateM (slotShare (coordsL c i) t) (rateC w0 d (coordsL c i)))
      = (((d, Proc.devRef .tc main_v2) : Loc nD τ sig) ↦{fullShare} w0 d : sProp 𝕄) := by
  rw [share_split]
  refine bigSep_congr fun c _ => bigSep_congr fun i _ => bigSep_congr fun t _ => ?_
  unfold tab0
  rw [set_all0 (thr d (coordsL c i)) rateM (Memref.isWhole_whole _)]
  rfl

theorem tab1_deal :
    (bigSep Finset.univ fun c : Fin 2 => bigSep Finset.univ fun i : Fin 16 => bigSep Finset.univ fun t : Fin 4 =>
        tab1 (thr d (coordsL c i)) linkM (slotShare (coordsL c i) t) (linkC w1 d (coordsL c i)))
      = (((d, Proc.devRef .tc main_v5) : Loc nD τ sig) ↦{fullShare} w1 d : sProp 𝕄) := by
  rw [share_split]
  refine bigSep_congr fun c _ => bigSep_congr fun i _ => bigSep_congr fun t _ => ?_
  unfold tab1
  rw [set_all1 (thr d (coordsL c i)) linkM (Memref.isWhole_whole _)]
  rfl

/-- Two families of conjuncts in either order. -/
theorem sep_swap {I J : Type} [DecidableEq I] (s : Finset I) (t : Finset J) (Φ : I → J → sProp 𝕄) :
    (bigSep s fun i => bigSep t fun j => Φ i j) = bigSep t fun j => bigSep s fun i => Φ i j := by
  induction s using Finset.induction_on with
  | empty => simp only [bigSep_empty]; exact (bigSep_emp_const t).symm
  | insert a s ha ih =>
    rw [SparseCore.bigSep_insert' ha, ih, ← bigSep_sep']
    exact bigSep_congr fun j _ => (by rw [SparseCore.bigSep_insert' ha])

/-- What the tiles are given of the tables and the index arrays is those arrays whole. -/
theorem ins_deal :
    (bigSep Finset.univ fun c : Fin 2 => bigSep Finset.univ fun i : Fin 16 => tileIn m w0 w1 d (coordsL c i))
      = iprop((bigSep Finset.univ fun k : Fin 8 => (((d, Proc.devRef .tc (idxH k)) : Loc nD τ sig) ↦{fullShare} m (d, Proc.devRef .tc (idxH k)) : sProp 𝕄))
          ∗ (((d, Proc.devRef .tc main_v2) : Loc nD τ sig) ↦{fullShare} w0 d)
          ∗ (((d, Proc.devRef .tc main_v5) : Loc nD τ sig) ↦{fullShare} w1 d)) := by
  simp only [tileIn, bigSep_sep']
  refine congrArg₂ _ ?_ (congrArg₂ _ (tab0_deal d w0) (tab1_deal d w1))
  refine Eq.trans ?_ (bigSep_congr fun k _ => idx_deal m d k)
  refine Eq.trans (bigSep_congr fun c _ => ?_) (sep_swap _ _ _)
  refine Eq.trans (bigSep_congr fun i _ => ?_) (sep_swap _ _ _)
  exact sep_swap _ _ _

/-- Lane `y` of a tile's output row. -/
def rowAt (c : Fin 2) (i : Fin 16) (y : S16.Idx) : S32x16.Idx
  | ⟨0, _⟩ => (⟨2 * i.val + c.val, by omega⟩ : Fin 32)
  | ⟨1, _⟩ => (y 0 : Fin 16)

theorem row_emb (c : Fin 2) (i : Fin 16) (y : S16.Idx) : (rowK (coordsL c i) outM).view.emb y = rowAt c i y := by
  have hy : Shape.reshapeEquiv (s := S1x16) (s' := S16) (by rfl) y = (fun | ⟨0, _⟩ => (0 : Fin 1) | ⟨1, _⟩ => (y 0 : Fin 16)) := by
    apply Shape.reshapeEquiv_eq_of_rowMajor
    rw [Shape.rowMajor_val_one, Shape.rowMajor_val_two]
    show 0 * 16 + (y 0).val = (y 0).val
    omega
  have ho := k0_off18_eq (coordsL c i)
  show (Rect.unit (s := S32x16) (k0_off18 (coordsL c i)) S1x16.size (k0_off18_inb (coordsL c i))).emb (Shape.reshapeEquiv (s := S1x16) (s' := S16) (by rfl) y) = _
  rw [hy]
  funext a
  apply Fin.ext
  fin_cases a
  · show k0_off18 (coordsL c i) 0 + 1 * 0 = 2 * i.val + c.val
    rw [ho]
    show 2 * i.val + c.val + 1 * 0 = _
    omega
  · show k0_off18 (coordsL c i) 1 + 1 * (y 0).val = (y 0).val
    rw [ho]
    show 0 + 1 * (y 0).val = _
    omega

/-- The output built from one row per tile. -/
def outOf (v : Fin 2 → Fin 16 → FVec F S16 .f32) : FVec F S32x16 .f32 := fun x =>
  v ⟨(x 0).val % 2, Nat.mod_lt _ (by decide)⟩ ⟨(x 0).val / 2, by have : (x 0).val < 32 := (x 0).isLt; omega⟩ (fun | ⟨0, _⟩ => (x 1 : Fin 16))

theorem outOf_row (v : Fin 2 → Fin 16 → FVec F S16 .f32) (c : Fin 2) (i : Fin 16) (y : S16.Idx) : outOf v (rowAt c i y) = v c i y := by
  have h1 : (⟨(rowAt c i y 0).val % 2, Nat.mod_lt _ (by decide)⟩ : Fin 2) = c := Fin.ext (by show (2 * i.val + c.val) % 2 = c.val; omega)
  have h2 : (2 * i.val + c.val) / 2 = i.val := by omega
  unfold outOf
  rw [h1]
  congr 1
  · exact Fin.ext h2
  · funext a; fin_cases a; rfl

/-- The elements of one tile's output row. -/
def rowSet (p : Fin 2 × Fin 16) : Finset S32x16.Idx := (rowK (coordsL p.1 p.2) outM).view.set

theorem mem_rowSet (p : Fin 2 × Fin 16) (x : S32x16.Idx) : x ∈ rowSet p ↔ (x 0).val = 2 * p.2.val + p.1.val := by
  constructor
  · intro h
    obtain ⟨y, -, e⟩ := Finset.mem_map.mp h
    rw [row_emb] at e
    rw [← e]; rfl
  · intro h
    refine Finset.mem_map.mpr ⟨(fun | ⟨0, _⟩ => (x 1 : Fin 16)), Finset.mem_univ _, ?_⟩
    rw [row_emb]
    funext a
    apply Fin.ext
    fin_cases a
    · exact h.symm
    · rfl

theorem rows_cover : (Finset.univ : Finset (Fin 2 × Fin 16)).biUnion rowSet = Finset.univ := by
  ext x
  have hx : (x 0).val < 32 := (x 0).isLt
  refine ⟨fun _ => Finset.mem_univ _, fun _ => Finset.mem_biUnion.mpr ⟨(⟨(x 0).val % 2, Nat.mod_lt _ (by decide)⟩, ⟨(x 0).val / 2, by omega⟩), Finset.mem_univ _, ?_⟩⟩
  rw [mem_rowSet]
  show (x 0).val = 2 * ((x 0).val / 2) + (x 0).val % 2
  omega

theorem rows_apart : ∀ p ∈ (Finset.univ : Finset (Fin 2 × Fin 16)), ∀ p' ∈ (Finset.univ : Finset (Fin 2 × Fin 16)), p ≠ p' → Disjoint (rowSet p) (rowSet p') := by
  intro p _ p' _ hne
  refine Finset.disjoint_left.mpr fun x h h' => hne ?_
  rw [mem_rowSet] at h h'
  have := p.1.isLt; have := p'.1.isLt
  exact Prod.ext (Fin.ext (by omega)) (Fin.ext (by omega))

/-- The output is its rows. -/
theorem rows_cut (f : Buf (Elt F) ((d, Proc.devRef .tc main_v6) : Loc nD τ sig)) :
    (((d, Proc.devRef .tc main_v6) : Loc nD τ sig) ↦{fullShare} f : sProp 𝕄)
      = bigSep Finset.univ fun c : Fin 2 => bigSep Finset.univ fun i : Fin 16 =>
          ((d, Proc.devRef .tc main_v6) : Loc nD τ sig) ↦[((rowK (coordsL c i) outM).view.set : Finset S32x16.Idx)]{fullShare} f := by
  have e : (((d, Proc.devRef .tc main_v6) : Loc nD τ sig) ↦[(Finset.univ : Finset (Fin 2 × Fin 16)).biUnion rowSet]{fullShare} f : sProp 𝕄) = (((d, Proc.devRef .tc main_v6) : Loc nD τ sig) ↦{fullShare} f) :=
    congrArg (fun S : Finset S32x16.Idx => (((d, Proc.devRef .tc main_v6) : Loc nD τ sig) ↦[S]{fullShare} f : sProp 𝕄)) rows_cover
  refine e.symm.trans ?_
  refine Eq.trans (pointsTo_biUnion _ _ rows_apart) ?_
  exact BI.bigSep_univ_prod _

theorem row_give (f : Buf (Elt F) ((d, Proc.devRef .tc main_v6) : Loc nD τ sig)) (c : Fin 2) (i : Fin 16) :
    (((d, Proc.devRef .tc main_v6) : Loc nD τ sig) ↦[((rowK (coordsL c i) outM).view.set : Finset S32x16.Idx)]{fullShare} f : sProp 𝕄)
      ⊢ anyAt (F := F) (thr d (coordsL c i)) (rowK (coordsL c i) outM) := by
  unfold anyAt
  iintro H
  iexists f
  iexact H

theorem row_take (v : Fin 2 → Fin 16 → FVec F S16 .f32) (c : Fin 2) (i : Fin 16) :
    holds (thr d (coordsL c i)) (rowK (coordsL c i) outM) (v c i)
      ⊢ (((d, Proc.devRef .tc main_v6) : Loc nD τ sig) ↦[((rowK (coordsL c i) outM).view.set : Finset S32x16.Idx)]{fullShare} (outOf v : FVec F S32x16 .f32) : sProp 𝕄) := by
  unfold holds
  iintro ⟨%g, %hg, H⟩
  have e : (((d, Proc.devRef .tc main_v6) : Loc nD τ sig) ↦[((rowK (coordsL c i) outM).view.set : Finset S32x16.Idx)]{fullShare} (outOf v : FVec F S32x16 .f32) : sProp 𝕄)
      = ((rowK (coordsL c i) outM).view.loc (thr d (coordsL c i)) ↦[(rowK (coordsL c i) outM).view.set]{fullShare} g) := by
    refine pointsTo_congr fun x hx => ?_
    obtain ⟨y, -, rfl⟩ := Finset.mem_map.mp hx
    refine Eq.trans ?_ (congrFun hg y).symm
    refine Eq.trans (congrArg (outOf v) (row_emb c i y)) (outOf_row v c i y)
  rw [e]
  iexact H

theorem rows_give (f : Buf (Elt F) ((d, Proc.devRef .tc main_v6) : Loc nD τ sig)) :
    (((d, Proc.devRef .tc main_v6) : Loc nD τ sig) ↦{fullShare} f : sProp 𝕄)
      ⊢ bigSep Finset.univ fun c : Fin 2 => bigSep Finset.univ fun i : Fin 16 => anyAt (F := F) (thr d (coordsL c i)) (rowK (coordsL c i) outM) := by
  rw [rows_cut d f]
  refine bigSep_mono fun c _ => bigSep_mono fun i _ => row_give d f c i

theorem rows_take (v : Fin 2 → Fin 16 → FVec F S16 .f32) :
    (bigSep Finset.univ fun c : Fin 2 => bigSep Finset.univ fun i : Fin 16 => holds (thr d (coordsL c i)) (rowK (coordsL c i) outM) (v c i))
      ⊢ (((d, Proc.devRef .tc main_v6) : Loc nD τ sig) ↦{fullShare} (outOf v : FVec F S32x16 .f32) : sProp 𝕄) := by
  rw [rows_cut d (outOf v)]
  refine bigSep_mono fun c _ => bigSep_mono fun i _ => row_take d v c i

end Cert.Proof
-- ==== Proof.Launch.lean ====
/-
# The whole program's run

The TensorCore lays the two tables out, makes the one call and adds up what the tiles leave. Every execution ends, with
nothing faulting, the arguments as they were and every semaphore at zero; the result is the sum of the tiles' rows.
-/
module

public import proofs.«01_k».proof.Proof.Shares
public import Idealize.ShloMosaic.Lib.Pipeline.Frame

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

set_option maxRecDepth 100000 in
/-- What the launch asks of the semaphores and of the SparseCores' buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev EH : Emb UH 𝕄 := embL

instance anyAt_storable (c : Thread nD τ) {sp : Space} {s : Shape} {e : EltTy} (b : Memref sig c.2.kind sp s e) :
    Storable (upEmb : UEmb _ 𝕄) (anyAt (F := F) c b) := by unfold anyAt; infer_instance

section
variable (m : (ℓ : Loc nD τ sig) → Buf (Elt F) ℓ) (ρ : Dev nD → PrngReg) (w0 : ∀ d : Dev nD, Buf (Elt F) ((SparseCore.T d : Thread nD τ).loc main_v2))
  (w1 : ∀ d : Dev nD, Buf (Elt F) ((SparseCore.T d : Thread nD τ).loc main_v5))

instance tileIn_storable (d : Dev nD) (L : grid0.Coords) : Storable (upEmb : UEmb _ 𝕄) (tileIn m w0 w1 d L) := by
  unfold tileIn; infer_instance

variable [FloatOps F] (hm : ListsOK m)

instance TP_storable (d : Dev nD) (L : grid0.Coords) : Storable (upEmb : UEmb _ 𝕄) (TP m w0 w1 d L) := by
  unfold TP; infer_instance
instance TD_storable (d : Dev nD) (L : grid0.Coords) : Storable (upEmb : UEmb _ 𝕄) (TD m w0 w1 d L hm) := by
  unfold TD; infer_instance

attribute [local irreducible] TP TD tileIn

theorem nSub_zero : (K (F := F)).nSub 0 = 16 := rfl
theorem nCore_zero : (K (F := F)).nCore 0 = 2 := rfl

/-- What passes between the threads at the call: each core its tiles' shares and rows, and back. -/
def P : (K (F := F)).Pay (nD := nD) (Val := Elt F) (Name := ℕ) (U := UU) where
  st := fun q d c => match q with | 0 => bigSep Finset.univ fun i : Fin 16 => TP m w0 w1 d (coordsL (Fin.cast nCore_zero c) i)
  dn := fun q d c => match q with | 0 => bigSep Finset.univ fun i : Fin 16 => TD m w0 w1 d (coordsL (Fin.cast nCore_zero c) i) hm
  go := fun q d c i => match q with | 0 => TP m w0 w1 d (coordsL (Fin.cast nCore_zero c) (Fin.cast nSub_zero i))
  td := fun q d c i => match q with | 0 => TD m w0 w1 d (coordsL (Fin.cast nCore_zero c) (Fin.cast nSub_zero i)) hm
  x := fun _ _ => iprop(emp)

instance P_storable : (P m w0 w1 hm).IsStorable where
  st q d c := match q with
    | 0 => (inferInstance : BI.Storable (upEmb : UEmb _ 𝕄) (bigSep Finset.univ fun i : Fin 16 => TP m w0 w1 d (coordsL (Fin.cast nCore_zero c) i)))
  dn q d c := match q with
    | 0 => (inferInstance : BI.Storable (upEmb : UEmb _ 𝕄) (bigSep Finset.univ fun i : Fin 16 => TD m w0 w1 d (coordsL (Fin.cast nCore_zero c) i) hm))
  go q d c i := match q with
    | 0 => TP_storable m w0 w1 d (coordsL (Fin.cast nCore_zero c) (Fin.cast nSub_zero i))
  td q d c i := match q with
    | 0 => TD_storable m w0 w1 hm d (coordsL (Fin.cast nCore_zero c) (Fin.cast nSub_zero i))

theorem defs₀_vector (c : Fin τ.nSC) (s : Fin τ.nSub) :
    defs₀ (F := F) (.scVector c s) 0 ()
      = SparseCore.onTile hcore0 hsub0 (fun c s => cc0_k (coordsL c s) (Memref.whole main_v2_scv) (Memref.isWhole_whole _) (Memref.whole main_v5_scv) (Memref.isWhole_whole _) (Memref.whole main_arg2_scv) (Memref.isWhole_whole _) (Memref.whole main_arg3_scv) (Memref.isWhole_whole _) (Memref.whole main_arg4_scv) (Memref.isWhole_whole _) (Memref.whole main_arg5_scv) (Memref.isWhole_whole _) (Memref.whole main_arg6_scv) (Memref.isWhole_whole _) (Memref.whole main_arg7_scv) (Memref.isWhole_whole _) (Memref.whole main_arg8_scv) (Memref.isWhole_whole _) (Memref.whole main_arg9_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) (Memref.whole cc0_scratch32) (Memref.isWhole_whole _) (Memref.whole cc0_scratch33) (Memref.isWhole_whole _) (Memref.whole cc0_scratch34) (Memref.isWhole_whole _) (Memref.whole cc0_scratch35) (Memref.isWhole_whole _) (Memref.whole cc0_scratch36) (Memref.isWhole_whole _) (Memref.whole cc0_scratch37) (Memref.isWhole_whole _) (Memref.whole cc0_scratch38) (Memref.isWhole_whole _) (Memref.whole cc0_scratch39) (Memref.isWhole_whole _) (Memref.whole cc0_scratch40) (Memref.isWhole_whole _) (Memref.whole cc0_scratch41) (Memref.isWhole_whole _) (Memref.whole cc0_scratch42) (Memref.isWhole_whole _) (Memref.whole cc0_scratch43) (Memref.isWhole_whole _) (Memref.whole cc0_scratch44) (Memref.isWhole_whole _) (Memref.whole cc0_scratch45) (Memref.isWhole_whole _) (Memref.whole cc0_scratch46) (Memref.isWhole_whole _) (Memref.whole cc0_scratch47) (Memref.isWhole_whole _) (Memref.whole cc0_scratch48) (Memref.isWhole_whole _) cc0_scratch49 cc0_scratch50 cc0_scratch51 cc0_scratch52 cc0_scratch53 cc0_scratch54 cc0_scratch55 cc0_scratch56 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile does its task. -/
theorem tileObl (hF : (K (F := F)).Facts) : (K (F := F)).TileObl (D (F := F)) 𝒱 (P m w0 w1 hm) v₀ 0 := by
  intro d c i O W hO _ _
  simp only [show (P m w0 w1 hm).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m w0 w1 d (coordsL ⟨_, hci.1⟩ ⟨_, hci.2⟩) hF hm O W hO).trans (wp_mono frame _ _ fun _ => obl_post)

/-- A core's tiles share out what the core was given. -/
theorem vecSplit : (K (F := F)).VecSplit' (P m w0 w1 hm) 0 := by
  intro d c
  show (bigSep Finset.univ fun i : Fin 16 => TP m w0 w1 d (coordsL (Fin.cast nCore_zero c) i)) ⊢ |={Set.univ}=> iprop(
      (bigSep Finset.univ fun i : Fin 16 => TP m w0 w1 d (coordsL (Fin.cast nCore_zero c) i))
      ∗ ((bigSep Finset.univ fun i : Fin 16 => TD m w0 w1 d (coordsL (Fin.cast nCore_zero c) i) hm)
          -∗ (bigSep Finset.univ fun i : Fin 16 => TD m w0 w1 d (coordsL (Fin.cast nCore_zero c) i) hm)))
  iintro H; imodintro
  isplitl [H]; · iexact H
  iintro H; iexact H

theorem emps {I : Type} (s : Finset I) : (bigSep s fun _ => iprop(emp)) = (iprop(emp) : sProp 𝕄) := bigSep_emp_const s

/-- The certificate's ghost state at launch. -/
def u₀ : UU := (Rounds.initOf (K (F := F)).hsCells (K (F := F)).hsToks, 1)

theorem hu₀ : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun thr : Thread nD τ => bigSep Finset.univ fun q : Fin 1 => (P m w0 w1 hm).x q thr) := by
  unfold u₀
  iintro Hu
  ihave H := (ownU_pair (Rounds.initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P m w0 w1 hm).x q thr) = bigSep Finset.univ fun _ => iprop(emp) from
    bigSep_congr fun _ _ => bigSep_univ_of_subsingleton (0 : Fin 1), emps]
  iempintro

/-- What the call takes: the index arrays and the tables whole, and the output whatever it holds. -/
theorem st_eq (d : Dev nD) :
    (bigSep Finset.univ fun c : Fin ((K (F := F)).nCore 0) => (P m w0 w1 hm).st 0 d c)
      = iprop((bigSep Finset.univ fun c : Fin 2 => bigSep Finset.univ fun i : Fin 16 => tileIn m w0 w1 d (coordsL c i))
          ∗ bigSep Finset.univ fun c : Fin 2 => bigSep Finset.univ fun i : Fin 16 => anyAt (F := F) (thr d (coordsL c i)) (rowK (coordsL c i) outM)) := by
  show (bigSep Finset.univ fun c : Fin 2 => bigSep Finset.univ fun i : Fin 16 => TP m w0 w1 d (coordsL c i)) = _
  simp only [TP, bigSep_sep']

/-- What the call gives back: the same, the output at the tiles' sums. -/
theorem dn_eq (d : Dev nD) :
    (bigSep Finset.univ fun c : Fin ((K (F := F)).nCore 0) => (P m w0 w1 hm).dn 0 d c)
      = iprop((bigSep Finset.univ fun c : Fin 2 => bigSep Finset.univ fun i : Fin 16 => tileIn m w0 w1 d (coordsL c i))
          ∗ bigSep Finset.univ fun c : Fin 2 => bigSep Finset.univ fun i : Fin 16 => holds (thr d (coordsL c i)) (rowK (coordsL c i) outM) (tileSums m w0 w1 d (coordsL c i) hm)) := by
  show (bigSep Finset.univ fun c : Fin 2 => bigSep Finset.univ fun i : Fin 16 => TD m w0 w1 d (coordsL c i) hm) = _
  simp only [TD, bigSep_sep']

end

end Cert.Proof
-- ==== Proof.Main.lean ====
/-
# The TensorCore's part, and the program's run

Before the call the two tables are laid out; after it the thirty-two rows of sums are added up.
-/
module

public import proofs.«01_k».proof.Proof.Launch

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section
variable [FloatOps F]
/-- The lines of `@main` before the call, and those after it. -/
abbrev opsA : List (HloOp τ sig (Elt F)) :=
  [StableHlo.reshape main_arg0 main_v0 (rfl : (.f32 : EltTy) = .f32) shapeCasts_S4096x16384_S512x8x128x128,
   StableHlo.unary main_v0 main_v1 ((transpose S512x128x8x128 [0, 2, 1, 3] · transposes_S512x8x128x128_S512x128x8x128_0_2_1_3) : (⟨S512x8x128x128, .f32⟩ : BufTy).Contents (Elt F) → (⟨S512x128x8x128, .f32⟩ : BufTy).Contents (Elt F)),
   StableHlo.reshape main_v1 main_v2 (rfl : (.f32 : EltTy) = .f32) shapeCasts_S512x128x8x128_S67108864,
   StableHlo.reshape main_arg1 main_v3 (rfl : (.f32 : EltTy) = .f32) shapeCasts_S4096x4096_S512x8x32x128,
   StableHlo.unary main_v3 main_v4 ((transpose S512x32x8x128 [0, 2, 1, 3] · transposes_S512x8x32x128_S512x32x8x128_0_2_1_3) : (⟨S512x8x32x128, .f32⟩ : BufTy).Contents (Elt F) → (⟨S512x32x8x128, .f32⟩ : BufTy).Contents (Elt F)),
   StableHlo.reshape main_v4 main_v5 (rfl : (.f32 : EltTy) = .f32) shapeCasts_S512x32x8x128_S16777216]
abbrev opsB : List (HloOp τ sig (Elt F)) :=
  [StableHlo.nullary main_cst (constant S_ .f32 0x00000000#32),
   StableHlo.binary main_v6 main_cst main_v7 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))]

theorem main_lines (d : Dev nD) :
    main (F := F) d = StableHlo.seq opsA >>= fun _ => (sc (F := F)).run d 0 >>= fun _ => StableHlo.seq opsB >>= fun _ => pure ⟨⟩ := by
  rw [StableHlo.seq_bind_seqK, StableHlo.seq_bind_seqK]
  rfl

variable (m : (ℓ : Loc nD τ sig) → Buf (Elt F) ℓ) (ρ : Dev nD → PrngReg) (hm : ListsOK m)

/-- The arrays at launch, when the call is made, when it has returned, at the end. -/
def V0 (d : Dev nD) : Valuation τ sig (Elt F) := fun b => m (d, b)
def VA (d : Dev nD) : Valuation τ sig (Elt F) := StableHlo.after opsA (V0 m d)
abbrev w0 (d : Dev nD) : Buf (Elt F) ((SparseCore.T d : Thread nD τ).loc main_v2) := VA m d (Proc.devRef .tc main_v2)
abbrev w1 (d : Dev nD) : Buf (Elt F) ((SparseCore.T d : Thread nD τ).loc main_v5) := VA m d (Proc.devRef .tc main_v5)
def OUT (d : Dev nD) : FVec F S32x16 .f32 := outOf fun c i => tileSums m (w0 m) (w1 m) d (coordsL c i) hm
def VC (d : Dev nD) : Valuation τ sig (Elt F) := Function.update (VA m d) (Proc.devRef .tc main_v6) (OUT m hm d)
def VB (d : Dev nD) : Valuation τ sig (Elt F) := StableHlo.after opsB (VC m hm d)

abbrev uc : Finset (DevRef τ sig) := Pipeline.ucRefs τ sig

theorem hA : ∀ op ∈ opsA (F := F), op.bufs ⊆ uc := by
  intro op h
  refine Pipeline.sub_ucRefs op ?_
  simp only [opsA, List.mem_cons, List.not_mem_nil, or_false] at h
  rcases h with h | h | h | h | h | h <;> subst h <;> simp only [StableHlo.reshape_bufs_sub, StableHlo.unary_bufs_sub]
theorem hB : ∀ op ∈ opsB (F := F), op.bufs ⊆ uc := by
  intro op h
  refine Pipeline.sub_ucRefs op ?_
  simp only [opsB, List.mem_cons, List.not_mem_nil, or_false] at h
  rcases h with h | h <;> subst h <;> simp only [StableHlo.nullary_bufs_sub, StableHlo.binary_bufs_sub]
theorem freshA : ∀ op ∈ opsA (F := F), op.fresh = ∅ := by
  intro op h
  simp only [opsA, List.mem_cons, List.not_mem_nil, or_false] at h
  rcases h with h | h | h | h | h | h <;> subst h <;> rfl
theorem freshB : ∀ op ∈ opsB (F := F), op.fresh = ∅ := by
  intro op h
  simp only [opsB, List.mem_cons, List.not_mem_nil, or_false] at h
  rcases h with h | h <;> subst h <;> rfl

/-- The arrays the call touches. -/
def callRef : Fin 8 ⊕ Fin 3 → DevRef τ sig
  | .inl k => Proc.devRef .tc (idxH k)
  | .inr j => Proc.devRef .tc ((![main_v2, main_v5, main_v6] : Fin 3 → Ref sig .tc) j)

theorem callRef_inj : Function.Injective callRef := by decide
theorem callRef_mem : ∀ i, callRef i ∈ uc := by
  intro i
  refine Finset.mem_filter.mpr ⟨?_, ?_⟩
  · unfold StableHlo.tcRefs
    rcases i with k | j
    · exact Finset.mem_map.mpr ⟨idxH k, Finset.mem_univ _, rfl⟩
    · exact Finset.mem_map.mpr ⟨_, Finset.mem_univ _, rfl⟩
  · revert i; decide

theorem held_call (d : Dev nD) (W : Valuation τ sig (Elt F)) :
    (StableHlo.held (SparseCore.T d) uc W : sProp 𝕄)
      = iprop(((bigSep Finset.univ fun k : Fin 8 => ((d, Proc.devRef .tc (idxH k)) : Loc nD τ sig) ↦{fullShare} W (Proc.devRef .tc (idxH k)))
          ∗ (((d, Proc.devRef .tc main_v2) : Loc nD τ sig) ↦{fullShare} W (Proc.devRef .tc main_v2))
          ∗ (((d, Proc.devRef .tc main_v5) : Loc nD τ sig) ↦{fullShare} W (Proc.devRef .tc main_v5))
          ∗ (((d, Proc.devRef .tc main_v6) : Loc nD τ sig) ↦{fullShare} W (Proc.devRef .tc main_v6)))
        ∗ StableHlo.held (SparseCore.T d) (uc \ Finset.univ.image callRef) W) := by
  unfold StableHlo.held
  refine (bigSep_table uc callRef callRef_inj callRef_mem _).trans ?_
  rw [BI.bigSep_univ_sum, bigSep_univ_eq_bigSepL ([0, 1, 2] : List (Fin 3)) (by decide) (by decide)]
  rfl

omit [FloatOps F] in
theorem sepA (X Y Z : sProp 𝕄) : iprop((X ∗ Y) ∗ Z) = iprop(X ∗ Y ∗ Z) := equiv_iff.mp ⟨BI.sep_assoc, BI.sep_assoc'⟩

/-- What the lines before the call leave as it was. -/
theorem VA_keep (d : Dev nD) (r : Ref sig .tc) (hr : r ∉ [main_v0, main_v1, main_v2, main_v3, main_v4, main_v5]) :
    VA m d (Proc.devRef .tc r) = m (d, Proc.devRef .tc r) :=
  StableHlo.after_of_writes_sub opsA (V0 m d) (StableHlo.forall_writes_sub_of_map rfl) hr

theorem VA_idx (d : Dev nD) (k : Fin 8) : VA m d (Proc.devRef .tc (idxH k)) = m (d, Proc.devRef .tc (idxH k)) :=
  VA_keep m d _ (by revert k; decide)

theorem VC_out (d : Dev nD) : VC m hm d (Proc.devRef .tc main_v6) = OUT m hm d := Function.update_self _ _ _
theorem VC_keep (d : Dev nD) (b : DevRef τ sig) (h : b ≠ Proc.devRef .tc main_v6) : VC m hm d b = VA m d b := Function.update_of_ne h _ _
theorem VC_idx (d : Dev nD) (k : Fin 8) : VC m hm d (Proc.devRef .tc (idxH k)) = m (d, Proc.devRef .tc (idxH k)) :=
  (VC_keep m hm d _ (by revert k; decide)).trans (VA_idx m d k)

/-- The arrays when the call is made, as the call takes them. -/
theorem held_before (d : Dev nD) :
    (StableHlo.held (SparseCore.T d) uc (VA m d) : sProp 𝕄)
      = iprop((((bigSep Finset.univ fun c : Fin 2 => bigSep Finset.univ fun i : Fin 16 => tileIn m (w0 m) (w1 m) d (coordsL c i)))
          ∗ (((d, Proc.devRef .tc main_v6) : Loc nD τ sig) ↦{fullShare} VA m d (Proc.devRef .tc main_v6)))
        ∗ StableHlo.held (SparseCore.T d) (uc \ Finset.univ.image callRef) (VA m d)) := by
  rw [held_call, ins_deal]
  refine congrArg₂ _ ?_ rfl
  rw [sepA, sepA]
  exact congrArg₂ _ (bigSep_congr fun k _ => congrArg (fun f : Buf (Elt F) ((d, Proc.devRef .tc (idxH k)) : Loc nD τ sig) => (((d, Proc.devRef .tc (idxH k)) : Loc nD τ sig) ↦{fullShare} f : sProp 𝕄)) (VA_idx m d k)) rfl

/-- The arrays when the call has returned, from what it gave back. -/
theorem held_after (d : Dev nD) :
    (StableHlo.held (SparseCore.T d) uc (VC m hm d) : sProp 𝕄)
      = iprop((((bigSep Finset.univ fun c : Fin 2 => bigSep Finset.univ fun i : Fin 16 => tileIn m (w0 m) (w1 m) d (coordsL c i)))
          ∗ (((d, Proc.devRef .tc main_v6) : Loc nD τ sig) ↦{fullShare} OUT m hm d))
        ∗ StableHlo.held (SparseCore.T d) (uc \ Finset.univ.image callRef) (VA m d)) := by
  rw [held_call, ins_deal]
  rw [VC_out, VC_keep m hm d (Proc.devRef .tc main_v2) (by decide), VC_keep m hm d (Proc.devRef .tc main_v5) (by decide)]
  refine congrArg₂ _ ?_ ?_
  · rw [sepA, sepA]
    exact congrArg₂ _ (bigSep_congr fun k _ => congrArg (fun f : Buf (Elt F) ((d, Proc.devRef .tc (idxH k)) : Loc nD τ sig) => (((d, Proc.devRef .tc (idxH k)) : Loc nD τ sig) ↦{fullShare} f : sProp 𝕄)) (VC_idx m hm d k)) rfl
  · refine StableHlo.held_congr _ fun b hb => VC_keep m hm d b fun e => ?_
    exact (Finset.mem_sdiff.mp hb).2 (Finset.mem_image.mpr ⟨.inr 2, Finset.mem_univ _, e.symm⟩)

abbrev FIN (d : Dev nD) : sProp 𝕄 := StableHlo.held (SparseCore.T d) uc (VB m hm d)

/-- `@main` on a device's TensorCore. -/
theorem hmain (κ : GSem nD τ sig → ℕ) (d : Dev nD) :
    iprop((K (F := F)).ctx EH (P m (w0 m) (w1 m) hm) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [show (unscopedBufs d (fun b => m ((SparseCore.T d).loc b)) : sProp 𝕄) = StableHlo.held (SparseCore.T d) uc (V0 m d) from
    Pipeline.unscopedBufs_held d (V0 m d), main_lines]
  iintro ⟨#Hctx, Hst, ⟨Hb, Hheld, Hts, -⟩, -⟩
  iapply (StableHlo.wp_seq 𝒱 none Set.univ d uc (k := fun _ => (sc (F := F)).run d 0 >>= fun _ => StableHlo.seq opsB >>= fun _ => pure ⟨⟩) opsA hA freshA (V0 m d)) $$ [Hb Hheld]
  · isplitl [Hb] <;> iassumption
  iintro ⟨Hb, Hheld⟩
  ihave Hh := (show StableHlo.held d.tc uc (StableHlo.after opsA (V0 m d)) ⊢ _ from Entails.of_eq (held_before m d)) $$ Hheld
  icases Hh with ⟨⟨HI, Ho⟩, Hr⟩
  ihave Ho := (rows_give d _) $$ Ho
  rw [wp_bind]
  iapply ((K (F := F)).wp_run (D (F := F)) 𝒱 (EH := EH) (P := P m (w0 m) (w1 m) hm) κ d 0) $$ [Hst HI Ho Hb Hr Hts]
  isplitr; · iexact Hctx
  isplitl [Hst]; · iexact Hst
  isplitl [HI Ho]
  · rw [st_eq]
    isplitl [HI]; · iexact HI
    iexact Ho
  iintro ⟨Hst, Hdn⟩
  ihave Hdn' := (Entails.of_eq (dn_eq m (w0 m) (w1 m) hm d)) $$ Hdn
  icases Hdn' with ⟨HI, Ho⟩
  ihave Ho := (rows_take d (fun c i => tileSums m (w0 m) (w1 m) d (coordsL c i) hm)) $$ Ho
  ihave Hheld := (Entails.of_eq (held_after m hm d).symm) $$ [HI Ho Hr]
  · isplitr [Hr]
    · isplitl [HI]; · iexact HI
      iexact Ho
    iexact Hr
  iapply (StableHlo.wp_seq 𝒱 none Set.univ d uc (k := fun _ => pure ⟨⟩) opsB hB freshB (VC m hm d)) $$ [Hb Hheld]
  · isplitl [Hb] <;> iassumption
  iintro ⟨Hb, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ uc, s'.mem.mem (d, b) = VB m hm d b

theorem hfin (d : Dev nD) (s' : Phys nD τ sig (Elt F)) : iprop(FIN m hm d ∗ SI s') ⊢ (⌜fq m hm d s'⌝ : sProp 𝕄) := by
  unfold FIN StableHlo.held
  iintro ⟨H, HS⟩
  iapply (SI_pointsTo_bufs_agree uc (st := s') (c := d) (qs := fun _ => fullShare) (F := VB m hm d)) $$ [HS H]
  · isplitl [HS] <;> iassumption

/-- How the program ends. -/
def QC : PUnit × MemSt nD τ sig (Elt F) → Prop := fun r => (∀ d : Dev nD, ∀ b ∈ (uc : Finset (DevRef τ sig)), r.2.mem (d, b) = VB m hm d b) ∧ r.2.sem = fun _ => 0

theorem run_main [∀ e, Nonempty (Elt F e)] :
    θ_run (Cert.KernelIdeal.defs (F := F)) (Cert.KernelIdeal.threads (F := F)) ⟨m, fun _ => 0, ρ⟩ (QC m hm) :=
  SparseCore.Cfg.θ_run_sc_quiescent (K := K (F := F)) (D := D (F := F)) (𝒱 := 𝒱) (EH := EH) (P := P m (w0 m) (w1 m) hm) (A := ∅) facts v₀
    (fun q hq => match q with | 0 => nomatch hq)
    (fun q _ => match q with | 0 => tileObl m (w0 m) (w1 m) hm facts)
    (fun q _ => match q with | 0 => SparseCore.Cfg.VecSplit.of_plain (vecSplit m (w0 m) (w1 m) hm))
    m ρ main (fun _ => iprop(emp)) (FIN m hm) (u₀ (F := F)) (sep_elim_left.trans (hu₀ m (w0 m) (w1 m) hm)) (hmain m ρ hm) (fq m hm) (hfin m hm) (QC m hm) (fun _ h hz => ⟨h, hz⟩)

end

end Cert.Proof
-- ==== Proof.Range.lean ====
/-
# The index ranges

The precondition says that every index names a row and a column of its table. So every position the tiles compute is a
position of the flat table: that is what the gathers need.
-/
module

public import proofs.«01_k».proof.Proof.Main
public import proofs.«01_k».proof.Proof.Gen.Pre_in_range
public import Idealize.ShloMosaic.Lib.ReduceAll
public import Idealize.ShloMosaic.Lib.WordArith

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

theorem and_ones : ∀ a b : BitVec 1, IntOp.andi a b = 1#1 → a = 1#1 ∧ b = 1#1 := by decide

/-- A word that compares at least zero and below `n`, signed, is below `n`. -/
theorem word_bound (v n : BitVec 32) (hn : n.toNat < 2 ^ 31)
    (e : IntOp.andi (IntOp.cmpi .sge v 0#32) (IntOp.cmpi .slt v n) = 1#1) : v.toNat < n.toNat := by
  simp only [IntOp.cmpi, WordArith.andi_ofBool, WordArith.ofBool_eq_one_iff, Bool.and_eq_true, BitVec.sle_eq_decide, BitVec.slt_eq_decide,
    decide_eq_true_eq, BitVec.toInt_eq_toNat_cond, BitVec.toNat_ofNat, Nat.reducePow, Nat.reduceMod] at e
  omega

/-- Every index is in range. -/
structure Ranges (a2 a3 a4 a5 a6 a7 a8 a9 : IVec S1000000 32) : Prop where
  h2 : ∀ j, (a2 j).toNat < 4096
  h3 : ∀ j, (a3 j).toNat < 16384
  h4 : ∀ j, (a4 j).toNat < 4096
  h5 : ∀ j, (a5 j).toNat < 4096
  h6 : ∀ j, (a6 j).toNat < 4096
  h7 : ∀ j, (a7 j).toNat < 16384
  h8 : ∀ j, (a8 j).toNat < 4096
  h9 : ∀ j, (a9 j).toNat < 4096

instance : Subsingleton S_.Idx := ⟨fun a b => funext fun i => i.elim0⟩

/-- The precondition gives the ranges. -/
theorem ranges_of_pre [hP : Cert.Pre_in_range.Facts] [FloatOps F] (a0 : FVec F S4096x16384 .f32) (a1 : FVec F S4096x4096 .f32)
    (a2 a3 a4 a5 a6 a7 a8 a9 : IVec S1000000 32) (h : Cert.Pre_in_range.fn (F := F) a0 a1 a2 a3 a4 a5 a6 a7 a8 a9 = fun _ => 1#1) :
    Ranges a2 a3 a4 a5 a6 a7 a8 a9 := by
  have e := congrFun h (fun a => a.elim0)
  unfold Cert.Pre_in_range.fn Cert.Pre_in_range.fn_part1 Cert.Pre_in_range.fn_part2 Cert.Pre_in_range.fn_part3 at e
  dsimp only at e
  obtain ⟨e, e7⟩ := and_ones _ _ e
  obtain ⟨e, e3⟩ := and_ones _ _ e
  obtain ⟨e, e9⟩ := and_ones _ _ e
  obtain ⟨e, e8⟩ := and_ones _ _ e
  obtain ⟨e, e6⟩ := and_ones _ _ e
  obtain ⟨e, e5⟩ := and_ones _ _ e
  obtain ⟨e2, e4⟩ := and_ones _ _ e
  exact ⟨fun j => word_bound _ 4096#32 (by decide) (Host.reduce_andi_all _ _ _ _ _ e2 j),
    fun j => word_bound _ 16384#32 (by decide) (Host.reduce_andi_all _ _ _ _ _ e3 j),
    fun j => word_bound _ 4096#32 (by decide) (Host.reduce_andi_all _ _ _ _ _ e4 j),
    fun j => word_bound _ 4096#32 (by decide) (Host.reduce_andi_all _ _ _ _ _ e5 j),
    fun j => word_bound _ 4096#32 (by decide) (Host.reduce_andi_all _ _ _ _ _ e6 j),
    fun j => word_bound _ 16384#32 (by decide) (Host.reduce_andi_all _ _ _ _ _ e7 j),
    fun j => word_bound _ 4096#32 (by decide) (Host.reduce_andi_all _ _ _ _ _ e8 j),
    fun j => word_bound _ 4096#32 (by decide) (Host.reduce_andi_all _ _ _ _ _ e9 j)⟩

/-! ## The flat positions as numbers -/

theorem shr_toNat (x : BitVec 32) (s : ℕ) (hs : s < 32) (hx : x.toNat < 2 ^ 31) : (IntOp.shrsi .vector x (BitVec.ofNat 32 s)).toNat = x.toNat / 2 ^ s := by
  have hsn : (BitVec.ofNat 32 s).toNat = s := by rw [BitVec.toNat_ofNat]; exact Nat.mod_eq_of_lt (by omega)
  unfold IntOp.shrsi
  rw [if_pos (by rw [hsn]; exact hs), show x.sshiftRight' (BitVec.ofNat 32 s) = x.sshiftRight s by rw [BitVec.sshiftRight', hsn],
    BitVec.sshiftRight_eq_of_msb_false (by rw [BitVec.msb_eq_decide]; simp; omega), BitVec.toNat_ushiftRight, Nat.shiftRight_eq_div_pow]

theorem enc_toNat (c8 : BitVec 32) (u i : BitVec 32) (N : ℕ) (hN : N ≤ 16384) (hc : c8.toNat = 8 * N) (hu : u.toNat < 4096) (hi : i.toNat < N) :
    (IntOp.addi (IntOp.addi (IntOp.addi (IntOp.muli (IntOp.shrsi .vector u 3#32) c8) (IntOp.muli (IntOp.shrsi .vector i 7#32) 1024#32))
      (IntOp.muli (IntOp.andi u 7#32) 128#32)) (IntOp.andi i 127#32)).toNat
      = (u.toNat / 8) * (8 * N) + (i.toNat / 128) * 1024 + (u.toNat % 8) * 128 + i.toNat % 128 := by
  have h1 := shr_toNat u 3 (by decide) (by omega)
  have h2 := shr_toNat i 7 (by decide) (by omega)
  have h3 : (IntOp.andi u 7#32).toNat = u.toNat % 8 := by
    show (u &&& 7#32).toNat = _
    rw [BitVec.toNat_and]; exact Nat.and_two_pow_sub_one_eq_mod u.toNat 3
  have h4 : (IntOp.andi i 127#32).toNat = i.toNat % 128 := by
    show (i &&& 127#32).toNat = _
    rw [BitVec.toNat_and]; exact Nat.and_two_pow_sub_one_eq_mod i.toNat 7
  have h5 : (u.toNat / 8) * (8 * N) < 2 ^ 26 + 1 := by
    have : u.toNat / 8 ≤ 511 := by omega
    calc (u.toNat / 8) * (8 * N) ≤ 511 * (8 * 16384) := Nat.mul_le_mul this (by omega)
      _ < 2 ^ 26 + 1 := by decide
  simp only [IntOp.addi, IntOp.muli, BitVec.toNat_add, BitVec.toNat_mul, h3, h4, hc]
  rw [show (IntOp.shrsi .vector u 3#32).toNat = u.toNat / 8 from h1, show (IntOp.shrsi .vector i 7#32).toNat = i.toNat / 128 from h2]
  rw [Nat.mod_eq_of_lt (by omega : u.toNat / 8 * (8 * N) < 2 ^ 32)]
  have e1 : (1024#32 : BitVec 32).toNat = 1024 := rfl
  have e2 : (128#32 : BitVec 32).toNat = 128 := rfl
  rw [e1, e2]
  omega

theorem enc_lt (u i N : ℕ) (hN : N % 128 = 0) (hu : u < 4096) (hi : i < N) : (u / 8) * (8 * N) + (i / 128) * 1024 + (u % 8) * 128 + i % 128 < 4096 * N := by
  obtain ⟨M, rfl⟩ : ∃ M, N = 128 * M := ⟨N / 128, by omega⟩
  have h1 : (u / 8) * (8 * (128 * M)) ≤ 511 * (8 * (128 * M)) := Nat.mul_le_mul_right _ (by omega)
  have h2 : i / 128 < M := by omega
  omega

theorem encR_toNat (u i : BitVec 32) (hu : u.toNat < 4096) (hi : i.toNat < 16384) :
    (encR u i).toNat = (u.toNat / 8) * 131072 + (i.toNat / 128) * 1024 + (u.toNat % 8) * 128 + i.toNat % 128 :=
  enc_toNat 131072#32 u i 16384 (by decide) rfl hu hi
theorem encL_toNat (u i : BitVec 32) (hu : u.toNat < 4096) (hi : i.toNat < 4096) :
    (encL u i).toNat = (u.toNat / 8) * 32768 + (i.toNat / 128) * 1024 + (u.toNat % 8) * 128 + i.toNat % 128 :=
  enc_toNat 32768#32 u i 4096 (by decide) rfl hu hi
theorem encR_lt (u i : BitVec 32) (hu : u.toNat < 4096) (hi : i.toNat < 16384) : (encR u i).toNat < 67108864 := by
  rw [encR_toNat u i hu hi]; exact enc_lt u.toNat i.toNat 16384 (by decide) hu hi
theorem encL_lt (u i : BitVec 32) (hu : u.toNat < 4096) (hi : i.toNat < 4096) : (encL u i).toNat < 16777216 := by
  rw [encL_toNat u i hu hi]; exact enc_lt u.toNat i.toNat 4096 (by decide) hu hi

/-- The ranges of the launch memory's index arrays. -/
def RangesOK (m : (ℓ : Loc nD τ sig) → Buf (Elt F) ℓ) : Prop := ∀ d : Dev nD,
  Ranges (m ((SparseCore.T d : Thread nD τ).loc main_arg2)) (m ((SparseCore.T d : Thread nD τ).loc main_arg3)) (m ((SparseCore.T d : Thread nD τ).loc main_arg4)) (m ((SparseCore.T d : Thread nD τ).loc main_arg5))
    (m ((SparseCore.T d : Thread nD τ).loc main_arg6)) (m ((SparseCore.T d : Thread nD τ).loc main_arg7)) (m ((SparseCore.T d : Thread nD τ).loc main_arg8)) (m ((SparseCore.T d : Thread nD τ).loc main_arg9))

/-- In range, every list names entries of its table. -/
theorem lists_of_ranges (m : (ℓ : Loc nD τ sig) → Buf (Elt F) ℓ) (h : RangesOK m) : ListsOK m := by
  intro d L
  refine ⟨fun n t y => ?_, fun n t y => ?_⟩
  · show (listR (CV d L idxM (idxC m d L) n t) y).toNat < 67108864
    unfold listR listOf
    split
    · exact encR_lt _ _ ((h d).h2 _) ((h d).h3 _)
    · exact encR_lt _ _ ((h d).h6 _) ((h d).h7 _)
  · show (listL (CV d L idxM (idxC m d L) n t) y).toNat < 16777216
    unfold listL listOf
    split
    · exact encL_lt _ _ ((h d).h4 _) ((h d).h5 _)
    · exact encL_lt _ _ ((h d).h8 _) ((h d).h9 _)

end Cert.Proof
-- ==== Proof.Frames.lean ====
/-
# The frames

Each program, run on arguments in range, ends with nothing faulting, its arguments unchanged and every semaphore at zero.
The two programs have one text, so one run serves both.
-/
module

public import proofs.«01_k».proof.Proof.Range
public import proofs.«01_k».proof.Proof.Gen.Kernel
public import proofs.«01_k».proof.Proof.Gen.Kernel.Skeleton

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

section
variable [FloatOps F] (m : (ℓ : Loc nD τ sig) → Buf (Elt F) ℓ) (hm : ListsOK m)

/-- What the whole program leaves as it was. -/
theorem VB_keep (d : Dev nD) (r : Ref sig .tc) (hr : r ∉ [main_v0, main_v1, main_v2, main_v3, main_v4, main_v5]) (h6 : r ≠ main_v6) (h7 : r ∉ [main_cst, main_v7]) :
    VB m hm d (Proc.devRef .tc r) = m (d, Proc.devRef .tc r) :=
  (StableHlo.after_of_writes_sub opsB (VC m hm d) (StableHlo.forall_writes_sub_of_map rfl) h7).trans
    ((VC_keep m hm d _ fun e => h6 (Proc.devRef_injective _ e)).trans (VA_keep m d r hr))

theorem mem_uc (r : Ref sig .tc) (h : r.isScoped = false) : Proc.devRef (τ := τ) .tc r ∈ uc :=
  Finset.mem_filter.mpr ⟨Finset.mem_map.mpr ⟨r, Finset.mem_univ _, rfl⟩, fun h' => Bool.false_ne_true (h.symm.trans h')⟩

/-- At the end an argument is as it was at launch. -/
theorem end_arg (r : PUnit × MemSt nD τ sig (Elt F)) (h : QC m hm r) (d : Dev nD) (b : Ref sig .tc) (hs : b.isScoped = false)
    (hr : b ∉ [main_v0, main_v1, main_v2, main_v3, main_v4, main_v5]) (h6 : b ≠ main_v6) (h7 : b ∉ [main_cst, main_v7]) :
    r.2.mem (d, Proc.devRef .tc b) = m (d, Proc.devRef .tc b) :=
  (h.1 d _ (mem_uc b hs)).trans (VB_keep m hm d b hr h6 h7)

/-- At the end all ten arguments are as they were at launch. -/
theorem end_args (r : PUnit × MemSt nD τ sig (Elt F)) (h : QC m hm r) (d : Dev nD) :
    r.2.mem (d, Proc.devRef .tc main_arg0) = m (d, Proc.devRef .tc main_arg0) ∧ r.2.mem (d, Proc.devRef .tc main_arg1) = m (d, Proc.devRef .tc main_arg1)
    ∧ r.2.mem (d, Proc.devRef .tc main_arg2) = m (d, Proc.devRef .tc main_arg2) ∧ r.2.mem (d, Proc.devRef .tc main_arg3) = m (d, Proc.devRef .tc main_arg3)
    ∧ r.2.mem (d, Proc.devRef .tc main_arg4) = m (d, Proc.devRef .tc main_arg4) ∧ r.2.mem (d, Proc.devRef .tc main_arg5) = m (d, Proc.devRef .tc main_arg5)
    ∧ r.2.mem (d, Proc.devRef .tc main_arg6) = m (d, Proc.devRef .tc main_arg6) ∧ r.2.mem (d, Proc.devRef .tc main_arg7) = m (d, Proc.devRef .tc main_arg7)
    ∧ r.2.mem (d, Proc.devRef .tc main_arg8) = m (d, Proc.devRef .tc main_arg8) ∧ r.2.mem (d, Proc.devRef .tc main_arg9) = m (d, Proc.devRef .tc main_arg9) := by
  refine ⟨?_, ?_, ?_, ?_, ?_, ?_, ?_, ?_, ?_, ?_⟩ <;>
    exact end_arg m hm r h d _ (by decide) (by decide) (by decide) (by decide)
end

/-- The precondition, of the idealised program's launch memory. -/
theorem ideal_lists [hP : Cert.Pre_in_range.Facts] (m : (ℓ : Loc nD τ sig) → Buf (Elt Ideal) ℓ) (h : Cert.Pre_KernelIdeal m) : RangesOK m :=
  fun d => ranges_of_pre (F := Ideal) _ _ _ _ _ _ _ _ _ _ (h d)
/-- The precondition, of the program's own launch memory. -/
theorem kernel_lists [hP : Cert.Pre_in_range.Facts] (m : (ℓ : Loc nD τ sig) → Buf (Elt Bits) ℓ) (h : Cert.Pre_Kernel m) : RangesOK m :=
  fun d => ranges_of_pre (F := Bits) _ _ _ _ _ _ _ _ _ _ (h d)

/-- The idealised program's frame. -/
theorem frame_ideal [hP : Cert.Pre_in_range.Facts] : Cert.quiescent_KernelIdeal := fun m ρ hpre =>
  (θ_run Cert.KernelIdeal.defs _ _).mono (fun r h => ⟨fun c => end_args m _ r h c, h.2⟩)
    (run_main (F := Ideal) m ρ (lists_of_ranges m (ideal_lists m hpre)))

/-- The program's own frame. -/
theorem frame_kernel [hP : Cert.Pre_in_range.Facts] : Cert.quiescent_Kernel := fun m ρ hpre =>
  (θ_run Cert.KernelIdeal.defs _ _).mono (fun r h => ⟨fun c => end_args (F := Bits) m _ r h c, h.2⟩)
    (run_main (F := Bits) m ρ (lists_of_ranges m (kernel_lists m hpre)))

end Cert.Proof
-- ==== Proof.RefRun.lean ====
/-
# The reference's run

The reference is a straight line of host operations: it leaves its arguments as they were, and there is no semaphore.
-/
module

public import proofs.«01_k».proof.Defs
public import proofs.«01_k».proof.Proof.Gen.ReferenceIdeal
public import proofs.«01_k».proof.Proof.Gen.ReferenceIdeal.Run

@[expose] public section

noncomputable section

namespace Cert.Proof

open Idealize.ShloMosaic Idealize.SL.Sem

/-- There is no semaphore to be away from zero. -/
theorem ref_sems (s : GSem Cert.ReferenceIdeal.nD Cert.ReferenceIdeal.τ Cert.ReferenceIdeal.sig → ℤ) : s = fun _ => 0 := by
  funext g
  obtain ⟨c, sm⟩ := g
  cases sm with
  | reg i => exact i.elim0
  | dma i => exact i.elim0

/-- The reference's frame. -/
theorem frame_ref : Cert.quiescent_ReferenceIdeal (hReferenceIdeal := Cert.ReferenceIdeal.Gen.facts) := fun m g _ =>
  (θ_run _ _ _).mono (fun r h => ⟨fun c => (h c).2, ref_sems r.2.sem⟩) (Cert.ReferenceIdeal.Value.run (F := Ideal) m g)

end Cert.Proof

end
-- ==== Proof.Layout.lean ====
/-
# The tables as the call finds them

Before the call each table is cut into tiles of 8 rows and 128 columns, laid out one after another. The flat position that the
kernel computes of a pair is where the pair's entry then lies.
-/
module

public import proofs.«01_k».proof.Proof.Main
public import Idealize.ShloMosaic.Lib.Pointwise.Index
public import Idealize.ShloMosaic.Lib.Pipeline.Value

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- The rate table, tiled and flattened, read at the flat position of `(u, i)`. -/
theorem rate_tile {α : Type} (a : S4096x16384.Idx → α) (u : Fin 4096) (i : Fin 16384) (k : S67108864.Idx)
    (hk : (k 0).val = (u.val / 8) * 131072 + (i.val / 128) * 1024 + (u.val % 8) * 128 + i.val % 128) :
    shapeCast S67108864 (transpose S512x128x8x128 [0, 2, 1, 3] (shapeCast S512x8x128x128 a shapeCasts_S4096x16384_S512x8x128x128) transposes_S512x8x128x128_S512x128x8x128_0_2_1_3) shapeCasts_S512x128x8x128_S67108864 k = a (ix2 (n0 := 4096) (n1 := 16384) u i) := by
  have hu := u.isLt
  have hi := i.isLt
  rw [shapeCast_apply _ _ k (ix4 (n0 := 512) (n1 := 128) (n2 := 8) (n3 := 128) ⟨u.val / 8, by omega⟩ ⟨i.val / 128, by omega⟩ ⟨u.val % 8, by omega⟩ ⟨i.val % 128, by omega⟩)
    (by
      rw [Shape.rowMajor_val_four, Shape.rowMajor_val_one]
      show ((u.val / 8 * 128 + i.val / 128) * 8 + u.val % 8) * 128 + i.val % 128 = (k 0).val
      rw [hk]; omega)]
  rw [transpose_apply _ _ _ _ (ix4 (n0 := 512) (n1 := 8) (n2 := 128) (n3 := 128) ⟨u.val / 8, by omega⟩ ⟨u.val % 8, by omega⟩ ⟨i.val / 128, by omega⟩ ⟨i.val % 128, by omega⟩)
    (by intro x; fin_cases x <;> rfl)]
  rw [shapeCast_apply _ _ _ (ix2 (n0 := 4096) (n1 := 16384) u i)
    (by
      rw [Shape.rowMajor_val_four, Shape.rowMajor_val_two]
      show u.val * 16384 + i.val = ((u.val / 8 * 8 + u.val % 8) * 128 + i.val / 128) * 128 + i.val % 128
      omega)]

/-- The link table, tiled and flattened, read at the flat position of `(u, i)`. -/
theorem link_tile {α : Type} (a : S4096x4096.Idx → α) (u : Fin 4096) (i : Fin 4096) (k : S16777216.Idx)
    (hk : (k 0).val = (u.val / 8) * 32768 + (i.val / 128) * 1024 + (u.val % 8) * 128 + i.val % 128) :
    shapeCast S16777216 (transpose S512x32x8x128 [0, 2, 1, 3] (shapeCast S512x8x32x128 a shapeCasts_S4096x4096_S512x8x32x128) transposes_S512x8x32x128_S512x32x8x128_0_2_1_3) shapeCasts_S512x32x8x128_S16777216 k = a (ix2 (n0 := 4096) (n1 := 4096) u i) := by
  have hu := u.isLt
  have hi := i.isLt
  rw [shapeCast_apply _ _ k (ix4 (n0 := 512) (n1 := 32) (n2 := 8) (n3 := 128) ⟨u.val / 8, by omega⟩ ⟨i.val / 128, by omega⟩ ⟨u.val % 8, by omega⟩ ⟨i.val % 128, by omega⟩)
    (by
      rw [Shape.rowMajor_val_four, Shape.rowMajor_val_one]
      show ((u.val / 8 * 32 + i.val / 128) * 8 + u.val % 8) * 128 + i.val % 128 = (k 0).val
      rw [hk]; omega)]
  rw [transpose_apply _ _ _ _ (ix4 (n0 := 512) (n1 := 8) (n2 := 32) (n3 := 128) ⟨u.val / 8, by omega⟩ ⟨u.val % 8, by omega⟩ ⟨i.val / 128, by omega⟩ ⟨i.val % 128, by omega⟩)
    (by intro x; fin_cases x <;> rfl)]
  rw [shapeCast_apply _ _ _ (ix2 (n0 := 4096) (n1 := 4096) u i)
    (by
      rw [Shape.rowMajor_val_four, Shape.rowMajor_val_two]
      show u.val * 4096 + i.val = ((u.val / 8 * 8 + u.val % 8) * 32 + i.val / 128) * 128 + i.val % 128
      omega)]

section
variable [FloatOps F] (m : (ℓ : Loc nD τ sig) → Buf (Elt F) ℓ)

/-- The tables that the call is handed. -/
theorem w0_eq (d : Dev nD) : w0 m d = shapeCast S67108864 (transpose S512x128x8x128 [0, 2, 1, 3] (shapeCast S512x8x128x128
    (m (d, Proc.devRef .tc main_arg0)) shapeCasts_S4096x16384_S512x8x128x128) transposes_S512x8x128x128_S512x128x8x128_0_2_1_3) shapeCasts_S512x128x8x128_S67108864 := by
  show StableHlo.after opsA (V0 m d) (Proc.devRef .tc main_v2) = _
  after_results_simp
  rfl
theorem w1_eq (d : Dev nD) : w1 m d = shapeCast S16777216 (transpose S512x32x8x128 [0, 2, 1, 3] (shapeCast S512x8x32x128
    (m (d, Proc.devRef .tc main_arg1)) shapeCasts_S4096x4096_S512x8x32x128) transposes_S512x8x32x128_S512x32x8x128_0_2_1_3) shapeCasts_S512x32x8x128_S16777216 := by
  show StableHlo.after opsA (V0 m d) (Proc.devRef .tc main_v5) = _
  after_results_simp
  rfl
end

end Cert.Proof
-- ==== Proof.Softplus.lean ====
/-
  The softplus of the kernel and of the reference, over the extended reals: both take log(1 + z), for z = exp(-|x|), to be the
  same four-term series in t = z / (z + 2), the kernel by nested multiplication, the reference as a sum of powers.
-/
module

public import Idealize.ShloMosaic.PureOps.Ideal.Laws

@[expose] public section

noncomputable section

namespace Cert.Proof

open Idealize.ShloMosaic

/-- The literals, as the extended reals that their words denote. -/
abbrev cZ : EReal := Ideal.ofBits .f32 0x00000000#32
abbrev c2 : EReal := Ideal.ofBits .f32 0x40000000#32
abbrev c3 : EReal := Ideal.ofBits .f32 0x3F2AAAAB#32
abbrev c5 : EReal := Ideal.ofBits .f32 0x3ECCCCCD#32
abbrev c7 : EReal := Ideal.ofBits .f32 0x3E924925#32

theorem cZ_eq : cZ = 0 := by simp [cZ, Ideal.ofBits, Ideal.ieee]
theorem c2_eq : c2 = ((2 : ℝ) : EReal) := by simp [c2, Ideal.ofBits, Ideal.ieee, -EReal.coe_mul]; norm_num
theorem c3_real : ∃ r : ℝ, c3 = (r : EReal) := by simp [c3, Ideal.ofBits, Ideal.ieee, -EReal.coe_mul]
theorem c5_real : ∃ r : ℝ, c5 = (r : EReal) := by simp [c5, Ideal.ofBits, Ideal.ieee, -EReal.coe_mul]
theorem c7_real : ∃ r : ℝ, c7 = (r : EReal) := by simp [c7, Ideal.ofBits, Ideal.ieee, -EReal.coe_mul]

/-- `z / (z + 2)` for `z = exp(-|x|)`, as the kernel writes it. -/
def ratioK (x : EReal) : EReal :=
  Ideal.div (Ideal.exp (cZ - max x (-x))) (Ideal.exp (cZ - max x (-x)) + c2)

/-- The same as the reference writes it. -/
def ratioR (x : EReal) : EReal := Ideal.div (Ideal.exp (-max x (-x))) (Ideal.exp (-max x (-x)) + c2)

/-- The kernel's softplus. -/
def softK (x : EReal) : EReal :=
  max x cZ + ratioK x * (c2 + ratioK x * ratioK x * (c3 + ratioK x * ratioK x * (c5 + ratioK x * ratioK x * c7)))

/-- The reference's softplus. -/
def softR (x : EReal) : EReal :=
  max x cZ + (c2 * ratioR x + c3 * (ratioR x * ratioR x * ratioR x) + c5 * (ratioR x * (ratioR x * ratioR x * (ratioR x * ratioR x)))
    + c7 * (ratioR x * (ratioR x * ratioR x) * (ratioR x * ratioR x * (ratioR x * ratioR x))))

theorem ratio_eq (x : EReal) : ratioK x = ratioR x := by
  unfold ratioK ratioR
  rw [cZ_eq, zero_sub]

/-- The exponential of minus a size is a real number that is not negative. -/
theorem exp_size (x : EReal) : ∃ z : ℝ, 0 ≤ z ∧ Ideal.exp (-max x (-x)) = (z : EReal) := by
  induction x using EReal.rec with
  | bot => exact ⟨0, le_refl 0, by simp⟩
  | top => exact ⟨0, le_refl 0, by simp⟩
  | coe r =>
    refine ⟨Real.exp (-max r (-r)), (Real.exp_pos _).le, ?_⟩
    rw [← EReal.coe_neg, ← EReal.coe_strictMono.monotone.map_max, ← EReal.coe_neg, Ideal.exp_coe]

/-- The quotient is a real number, whatever `x` is. -/
theorem ratio_real (x : EReal) : ∃ t : ℝ, ratioR x = (t : EReal) := by
  obtain ⟨z, hz, e⟩ := exp_size x
  refine ⟨z * (1 / (z + 2)), ?_⟩
  unfold ratioR
  rw [e, c2_eq, ← EReal.coe_add, Ideal.div_coe (by positivity), ← EReal.coe_mul]

/-- The two softplus functions are one. -/
theorem soft_eq (x : EReal) : softK x = softR x := by
  obtain ⟨t, ht⟩ := ratio_real x
  obtain ⟨b, hb⟩ := c3_real
  obtain ⟨c, hc⟩ := c5_real
  obtain ⟨e, he⟩ := c7_real
  unfold softK softR
  rw [ratio_eq, ht, hb, hc, he, c2_eq]
  refine congrArg (max x cZ + ·) ?_
  simp only [← EReal.coe_mul, ← EReal.coe_add]
  refine congrArg _ ?_
  ring

end Cert.Proof
-- ==== Proof.Sums.lean ====
/-
# Adding up by chunks

The million edges are cut into chunks of 1024; a chunk that would run over the end is moved back and its first places left out.
Added up in the order of tiles, lanes, chunks and groups, the places are each counted once.
-/
module

public import Mathlib.Algebra.BigOperators.Intervals
public import Mathlib.Algebra.BigOperators.Fin

@[expose] public section

namespace Cert.Proof

variable {M : Type*} [AddCommMonoid M]

/-- A sum over `a * b` numbers, by quotient and remainder. -/
theorem sum_split (a b : ℕ) (h : ℕ → M) :
    (∑ i ∈ Finset.range a, ∑ j ∈ Finset.range b, h (b * i + j)) = ∑ k ∈ Finset.range (b * a), h k := by
  induction a with
  | zero => simp
  | succ a ih => rw [Finset.sum_range_succ, ih, Nat.mul_succ, Finset.sum_range_add]

/-- Where chunk `c` begins. -/
abbrev offN (c : ℕ) : ℕ := min (c * 1024) 998976

/-- The number of edges before chunk `c`. -/
abbrev seen (c : ℕ) : ℕ := min (c * 1024) 1000000

/-- Place `j` of chunk `c` counts if no chunk before has it. -/
def part (f : ℕ → M) (c j : ℕ) : M := if c * 1024 ≤ offN c + j then f (offN c + j) else 0

/-- A chunk adds the edges that it is the first to see. -/
theorem chunk_sum (f : ℕ → M) (c : ℕ) :
    (∑ j ∈ Finset.range 1024, part f c j) = ∑ e ∈ Finset.Ico (seen c) (seen (c + 1)), f e := by
  unfold part
  rw [← Finset.sum_filter]
  refine Finset.sum_nbij (fun j => offN c + j) ?_ ?_ ?_ ?_
  · intro j hj
    simp only [Finset.mem_filter, Finset.mem_range] at hj
    simp only [Finset.mem_Ico]
    simp only [offN, seen] at *
    omega
  · intro a _ b _ h
    exact Nat.add_left_cancel h
  · intro e he
    simp only [Finset.coe_Ico, Set.mem_Ico] at he
    refine ⟨e - offN c, ?_, ?_⟩
    · simp only [Finset.coe_filter, Finset.mem_range, Set.mem_ofPred_eq]
      simp only [offN, seen] at *
      omega
    · show offN c + (e - offN c) = e
      simp only [offN, seen] at *
      omega
  · intro j _
    rfl

/-- All the chunks together add every edge once. -/
theorem chunks_sum (f : ℕ → M) (n : ℕ) :
    (∑ c ∈ Finset.range n, ∑ j ∈ Finset.range 1024, part f c j) = ∑ e ∈ Finset.range (seen n), f e := by
  induction n with
  | zero => simp
  | succ n ih =>
    rw [Finset.sum_range_succ, ih, chunk_sum, Finset.range_eq_Ico, Finset.range_eq_Ico,
      Finset.sum_Ico_consecutive _ (Nat.zero_le _) (by simp only [seen]; omega)]

/-- Tile `w` of 32 takes the chunks `32 q + w`, lane `l` of 16 the places `16 g + l` of each: in all, every edge once. -/
theorem tiles_sum (f : ℕ → M) :
    (∑ w ∈ Finset.range 32, ∑ l ∈ Finset.range 16, ∑ q ∈ Finset.range 32, ∑ g ∈ Finset.range 64, part f (32 * q + w) (16 * g + l))
      = ∑ e ∈ Finset.range 1000000, f e := by
  have h1 : ∀ c, (∑ l ∈ Finset.range 16, ∑ g ∈ Finset.range 64, part f c (16 * g + l)) = ∑ j ∈ Finset.range 1024, part f c j := fun c => by
    rw [Finset.sum_comm]
    exact sum_split 64 16 (part f c)
  have h2 : ∀ w, (∑ l ∈ Finset.range 16, ∑ q ∈ Finset.range 32, ∑ g ∈ Finset.range 64, part f (32 * q + w) (16 * g + l))
      = ∑ q ∈ Finset.range 32, ∑ j ∈ Finset.range 1024, part f (32 * q + w) j := fun w => by
    rw [Finset.sum_comm]
    exact Finset.sum_congr rfl fun q _ => h1 _
  rw [Finset.sum_congr rfl fun w _ => h2 w, Finset.sum_comm, sum_split 32 32 (fun c => ∑ j ∈ Finset.range 1024, part f c j)]
  exact chunks_sum f 1024

end Cert.Proof
-- ==== Proof.Term.lean ====
/-
# The lane sums over the extended reals

A trip of the innermost loop adds to each lane the softplus terms of one edge, or nothing where the place is masked out.
-/
module

public import proofs.«01_k».proof.Proof.Accum
public import proofs.«01_k».proof.Proof.Softplus
public import proofs.«01_k».proof.Proof.Sums
public import Idealize.ShloMosaic.Lib.Pointwise.Index
public import Idealize.ShloMosaic.Lib.WordCmp
public import Idealize.ShloMosaic.Lib.WordArith
public import Idealize.ShloMosaic.Lib.Pipeline.Value

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- Place `j` of the half `o` of a value buffer. -/
def half (o : Fin 2) (j : ℕ) : S2048.Idx := ix1 (n0 := 2048) ⟨(1024 * o.val + j) % 2048, Nat.mod_lt _ (by decide)⟩

theorem lanesAt_half {α : Type} (W : S2048.Idx → α) (o : Fin 2) (k : Fin k0_t6_loop.trips) (x : S16.Idx) :
    lanesAt W o k x = W (half o (16 * k.val + (x 0).val)) := by
  have h : (x 0).val < 16 := (x 0).isLt
  have hk : k.val < 64 := k.isLt
  have ho : o.val < 2 := o.isLt
  refine congrArg W (funext fun a => Fin.ext ?_)
  obtain rfl : a = 0 := Subsingleton.elim a 0
  show 1024 * o.val + 16 * k.val + (x 0).val = (1024 * o.val + (16 * k.val + (x 0).val)) % 2048
  omega

/-- The kernel's terms of the edge at place `j`: rate and link. -/
def termK (W0 W1 : S2048.Idx → EReal) (j : ℕ) : EReal :=
  softK (W0 (half 1 j) - W0 (half 0 j)) + softK (W1 (half 1 j) - W1 (half 0 j))

/-- One trip, lane by lane. -/
theorem accStep_ideal (v2 : IVec S16 32) (v12 v27 : BitVec 32) (W0 W1 : S2048.Idx → EReal) (k : Fin k0_t6_loop.trips) (acc : FVec Ideal S16 .f32) (x : S16.Idx) :
    accStep (F := Ideal) v2 v12 v27 W0 W1 k acc x
      = acc x + (if k0_pay41 v2 v12 v27 0#32 1#32 k x = 1#1 then termK W0 W1 (16 * k.val + (x 0).val) else cZ) := by
  unfold accStep termK
  rw [← lanesAt_half W0 1 k x, ← lanesAt_half W0 0 k x, ← lanesAt_half W1 1 k x, ← lanesAt_half W1 0 k x]
  unfold k0_pay2 k0_pay39 k0_pay40 k0_pay44 k0_pay43 k0_pay42
  simp only [shapeCast_self]
  show _ + ite _ _ _ = _ + ite _ _ _
  refine congrArg (acc x + ·) (if_congr Iff.rfl ?_ rfl)
  rfl

/-- The mask of trip `k`, as a statement about numbers: the place is in the chunk's own part. -/
theorem mask_iff (c : ℕ) (hc : c < 1024) (v12 v27 : BitVec 32) (h12 : v12.toNat = c) (h27 : v27.toNat = offN c) (k : Fin k0_t6_loop.trips) (x : S16.Idx) :
    k0_pay41 (iota .scVector S16 32 [0] iota_S16_d0_w32_scVector) v12 v27 0#32 1#32 k x = 1#1 ↔ c * 1024 ≤ offN c + (16 * k.val + (x 0).val) := by
  have hx : (x 0).val < 16 := (x 0).isLt
  have hk : k.val < 64 := k.isLt
  have ho : offN c ≤ 998976 := Nat.min_le_right _ _
  have eA : (IntOp.addi (Scalar.addi v27 (Scalar.muli (Scf.iv 0#32 1#32 k.val) 16#32)) (BitVec.ofNat 32 (x 0).val)).toNat
      = offN c + (16 * k.val + (x 0).val) := by
    show (v27 + (0#32 + BitVec.ofNat 32 k.val * 1#32) * 16#32 + BitVec.ofNat 32 (x 0).val).toNat = _
    simp only [BitVec.toNat_add, BitVec.toNat_mul, BitVec.toNat_ofNat, h27]
    omega
  have eB : (Scalar.muli v12 1024#32).toNat = c * 1024 := by
    show (v12 * 1024#32).toNat = _
    simp only [BitVec.toNat_mul, BitVec.toNat_ofNat, h12]
    omega
  unfold k0_pay41
  show IntOp.andi (IntOp.cmpi .sge (IntOp.addi (Scalar.addi v27 (Scalar.muli (Scf.iv 0#32 1#32 k.val) 16#32)) (iota .scVector S16 32 [0] iota_S16_d0_w32_scVector x)) (Scalar.muli v12 1024#32))
    (IntOp.cmpi .slt (IntOp.addi (Scalar.addi v27 (Scalar.muli (Scf.iv 0#32 1#32 k.val) 16#32)) (iota .scVector S16 32 [0] iota_S16_d0_w32_scVector x)) 1000000#32) = 1#1 ↔ _
  rw [iota_single_apply, WordCmp.cmpi_sge_of_lt (by rw [eA]; omega) (by rw [eB]; omega), WordCmp.cmpi_slt_of_lt (by rw [eA]; omega) (by decide),
    eA, eB, WordCmp.andi_ofBool, WordCmp.ofBool_eq_one_iff, Bool.and_eq_true, decide_eq_true_iff, decide_eq_true_iff]
  show _ ∧ offN c + (16 * k.val + (x 0).val) < 1000000 ↔ _
  constructor
  · exact fun h => h.1
  · intro h
    exact ⟨h, by omega⟩

/-- The innermost loop, lane by lane: the terms of the lane's places in the chunk's own part are added. -/
theorem accTo_ideal (c : ℕ) (hc : c < 1024) (v12 v27 : BitVec 32) (h12 : v12.toNat = c) (h27 : v27.toNat = offN c) (W0 W1 : S2048.Idx → EReal)
    (f : ℕ → EReal) (hf : ∀ j, j < 1024 → termK W0 W1 j = f (offN c + j)) (acc : FVec Ideal S16 .f32) (x : S16.Idx) (n : ℕ) (hn : n ≤ 64) :
    accTo (F := Ideal) (iota .scVector S16 32 [0] iota_S16_d0_w32_scVector) v12 v27 W0 W1 acc n x
      = acc x + ∑ g ∈ Finset.range n, part f c (16 * g + (x 0).val) := by
  have hx : (x 0).val < 16 := (x 0).isLt
  induction n with
  | zero => show acc x = _; simp
  | succ n ih =>
    have hn' : n < k0_t6_loop.trips := hn
    rw [Finset.sum_range_succ, ← add_assoc, ← ih (by omega)]
    show (dite _ _ _ : FVec Ideal S16 .f32) x = _
    rw [dif_pos hn', accStep_ideal]
    refine congrArg (_ + ·) ?_
    unfold part
    refine if_congr (mask_iff c hc v12 v27 h12 h27 ⟨n, hn'⟩ x) (hf (16 * n + (x 0).val) (by omega)) cZ_eq

end Cert.Proof
-- ==== Proof.Picks.lean ====
/-
# What the gathers bring

Each gathered word is the entry of a table that an edge names: its negative pair's in the second half, its positive pair's in
the first.
-/
module

public import proofs.«01_k».proof.Proof.Range
public import proofs.«01_k».proof.Proof.Layout
public import proofs.«01_k».proof.Proof.Term

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

/-- Edge `e`, as a place of the index arrays. -/
def eix (e : ℕ) : S1000000.Idx := ix1 (n0 := 1000000) ⟨min e 999999, by omega⟩

/-- The cell of a table that a pair of words names. -/
def cellR (u i : BitVec 32) : S4096x16384.Idx := ix2 (n0 := 4096) (n1 := 16384) ⟨min u.toNat 4095, by omega⟩ ⟨min i.toNat 16383, by omega⟩
def cellL (u i : BitVec 32) : S4096x4096.Idx := ix2 (n0 := 4096) (n1 := 4096) ⟨min u.toNat 4095, by omega⟩ ⟨min i.toNat 4095, by omega⟩

section
variable (d : Dev nD) (L : grid0.Coords)

/-- A place of a list, counted in row-major order, is itself. -/
theorem rows_at {z : ℕ} (v : S2048.Idx → Elt F .i32) (h : ∀ x, (v x).toNat < z) (y : S2048.Idx) (k : Fin 2048) (hk : k.val = (y 0).val) :
    (SparseCore.rows (F := F) (si := S2048) (o := 2048) v rfl h k).val = (v y).toNat := by
  have e : S2048.rowMajor.symm (k.cast rfl) = y := by
    rw [Equiv.symm_apply_eq]
    refine Fin.ext ?_
    rw [Shape.rowMajor_val_one]
    exact hk
  show (v (S2048.rowMajor.symm (k.cast rfl))).toNat = _
  rw [e]

/-- A gathered word is the table's entry at the position that the list names. -/
theorem pick0_at (f0 : Buf (Elt F) (rateM.view.loc (thr d L))) (v : S2048.Idx → Elt F .i32) (h : In0 (F := F) v) (y : S2048.Idx)
    (k : S67108864.Idx) (hk : (k 0).val = (v y).toNat) :
    pick0 (thr d L) rateM f0 v h y = (f0 : S67108864.Idx → Elt F .f32) k := by
  refine congrArg (f0 : S67108864.Idx → Elt F .f32) (funext fun a => Fin.ext ?_)
  obtain rfl : a = (0 : Fin 1) := Subsingleton.elim (α := Fin 1) a 0
  show 0 + 1 * ((gathers_S67108864_S2048).idx (SparseCore.rows (F := F) (si := S2048) v rfl h) y 0).val = (k 0).val
  have e := Shape.Gathers.idx_axis gathers_S67108864_S2048 (SparseCore.rows (F := F) (si := S2048) v rfl h) y
  have e2 : ((gathers_S67108864_S2048).idx (SparseCore.rows (F := F) (si := S2048) v rfl h) y 0).val = (v y).toNat :=
    (congrArg Fin.val e).trans (rows_at v h y _ rfl)
  omega

theorem pick1_at (f1 : Buf (Elt F) (linkM.view.loc (thr d L))) (v : S2048.Idx → Elt F .i32) (h : In1 (F := F) v) (y : S2048.Idx)
    (k : S16777216.Idx) (hk : (k 0).val = (v y).toNat) :
    pick1 (thr d L) linkM f1 v h y = (f1 : S16777216.Idx → Elt F .f32) k := by
  refine congrArg (f1 : S16777216.Idx → Elt F .f32) (funext fun a => Fin.ext ?_)
  obtain rfl : a = (0 : Fin 1) := Subsingleton.elim (α := Fin 1) a 0
  show 0 + 1 * ((gathers_S16777216_S2048).idx (SparseCore.rows (F := F) (si := S2048) v rfl h) y 0).val = (k 0).val
  have e := Shape.Gathers.idx_axis gathers_S16777216_S2048 (SparseCore.rows (F := F) (si := S2048) v rfl h) y
  have e2 : ((gathers_S16777216_S2048).idx (SparseCore.rows (F := F) (si := S2048) v rfl h) y 0).val = (v y).toNat :=
    (congrArg Fin.val e).trans (rows_at v h y _ rfl)
  omega

/-- The chunk that slot `t` of the tile takes at trip `n`. -/
def chunkNo (n : ℕ) (t : ℕ) : ℕ := 32 * (4 * n + t) + (2 * (L 1).val + (L 0).val)

theorem offT_at (n : Fin k0_t1_loop.trips) (t : Fin 4) : offT L n t 0 = offN (chunkNo L n.val t.val) := by
  have e : offT L n t = _ := k0_off1_eq L n t
  rw [e]
  show min _ _ = min _ _
  unfold chunkNo
  omega

section
variable (m : (ℓ : Loc nD τ sig) → Buf (Elt F) ℓ)

/-- The eight index arrays, in the order the tile names them. -/
abbrev edges : Fin 8 → S1000000.Idx → Elt F .i32 :=
  ![m ((SparseCore.T d : Thread nD τ).loc main_arg2), m ((SparseCore.T d : Thread nD τ).loc main_arg3), m ((SparseCore.T d : Thread nD τ).loc main_arg6), m ((SparseCore.T d : Thread nD τ).loc main_arg7),
    m ((SparseCore.T d : Thread nD τ).loc main_arg4), m ((SparseCore.T d : Thread nD τ).loc main_arg5), m ((SparseCore.T d : Thread nD τ).loc main_arg8), m ((SparseCore.T d : Thread nD τ).loc main_arg9)]

/-- Place `x` of a chunk is the entry of edge `offset + x`. -/
theorem chunk_at (n : Fin k0_t1_loop.trips) (t : Fin 4) (k : Fin 8) (x : S1024.Idx) :
    CV d L idxM (idxC m d L) n t k x = edges d m k (eix (offN (chunkNo L n.val t.val) + (x 0).val)) := by
  have hx : (x 0).val < 1024 := (x 0).isLt
  have ho : offN (chunkNo L n.val t.val) ≤ 998976 := Nat.min_le_right _ _
  have e : ∀ z : S1000000.Idx, (z 0).val = offT L n t 0 + 1 * (x 0).val → z = eix (offN (chunkNo L n.val t.val) + (x 0).val) := by
    intro z hz
    refine funext fun a => Fin.ext ?_
    obtain rfl : a = 0 := Subsingleton.elim a 0
    show (z 0).val = min _ 999999
    rw [hz, offT_at]
    omega
  fin_cases k
  · exact congrArg (edges d m 0) (e _ rfl)
  · exact congrArg (edges d m 1) (e _ rfl)
  · exact congrArg (edges d m 2) (e _ rfl)
  · exact congrArg (edges d m 3) (e _ rfl)
  · exact congrArg (edges d m 4) (e _ rfl)
  · exact congrArg (edges d m 5) (e _ rfl)
  · exact congrArg (edges d m 6) (e _ rfl)
  · exact congrArg (edges d m 7) (e _ rfl)

variable [FloatOps F]

/-- The tables' entries that edge `e` names: `o = 0` its positive pair, `o = 1` its negative. -/
def rateAt (o : Fin 2) (e : ℕ) : F .f32 :=
  (m ((SparseCore.T d : Thread nD τ).loc main_arg0) : S4096x16384.Idx → F .f32) (cellR (edges d m (![0, 2] o) (eix e)) (edges d m (![1, 3] o) (eix e)))
def linkAt (o : Fin 2) (e : ℕ) : F .f32 :=
  (m ((SparseCore.T d : Thread nD τ).loc main_arg1) : S4096x4096.Idx → F .f32) (cellL (edges d m (![4, 6] o) (eix e)) (edges d m (![5, 7] o) (eix e)))

/-- The rate table at the position computed of a pair in range. -/
theorem rate_enc (u i : BitVec 32) (hu : u.toNat < 4096) (hi : i.toNat < 16384) (k : S67108864.Idx) (hk : (k 0).val = (encR u i).toNat) :
    (rateC (w0 m) d L : S67108864.Idx → F .f32) k = (m ((SparseCore.T d : Thread nD τ).loc main_arg0) : S4096x16384.Idx → F .f32) (cellR u i) := by
  rw [encR_toNat u i hu hi] at hk
  have e := rate_tile (m (d, Proc.devRef .tc main_arg0) : S4096x16384.Idx → F .f32) ⟨u.toNat, hu⟩ ⟨i.toNat, hi⟩ k hk
  refine (congrFun (w0_eq m d) k).trans (e.trans ?_)
  refine congrArg (m ((SparseCore.T d : Thread nD τ).loc main_arg0) : S4096x16384.Idx → F .f32) ?_
  unfold cellR
  refine congrArg₂ (ix2 (n0 := 4096) (n1 := 16384)) (Fin.ext ?_) (Fin.ext ?_)
  · show u.toNat = min _ _; omega
  · show i.toNat = min _ _; omega

theorem link_enc (u i : BitVec 32) (hu : u.toNat < 4096) (hi : i.toNat < 4096) (k : S16777216.Idx) (hk : (k 0).val = (encL u i).toNat) :
    (linkC (w1 m) d L : S16777216.Idx → F .f32) k = (m ((SparseCore.T d : Thread nD τ).loc main_arg1) : S4096x4096.Idx → F .f32) (cellL u i) := by
  rw [encL_toNat u i hu hi] at hk
  have e := link_tile (m (d, Proc.devRef .tc main_arg1) : S4096x4096.Idx → F .f32) ⟨u.toNat, hu⟩ ⟨i.toNat, hi⟩ k hk
  refine (congrFun (w1_eq m d) k).trans (e.trans ?_)
  refine congrArg (m ((SparseCore.T d : Thread nD τ).loc main_arg1) : S4096x4096.Idx → F .f32) ?_
  unfold cellL
  refine congrArg₂ (ix2 (n0 := 4096) (n1 := 4096)) (Fin.ext ?_) (Fin.ext ?_)
  · show u.toNat = min _ _; omega
  · show i.toNat = min _ _; omega

/-- Place `j` of a half of a list is the position of an edge's pair. -/
theorem list_half (enc : BitVec 32 → BitVec 32 → BitVec 32) (U0 I0 U1 I1 : S1024.Idx → BitVec 32) (o : Fin 2) (j : ℕ) (hj : j < 1024) :
    listOf enc U0 I0 U1 I1 (half o j) = enc (![U0, U1] o (ix1 (n0 := 1024) ⟨j, hj⟩)) (![I0, I1] o (ix1 (n0 := 1024) ⟨j, hj⟩)) := by
  fin_cases o
  · exact listOf_lo enc U0 I0 U1 I1 (half 0 j) (ix1 (n0 := 1024) ⟨j, hj⟩) (by show (1024 * 0 + j) % 2048 = j; omega)
  · exact listOf_hi enc U0 I0 U1 I1 (half 1 j) (ix1 (n0 := 1024) ⟨j, hj⟩) (by show (1024 * 1 + j) % 2048 = 1024 + j; omega)

theorem listR_half (n : Fin k0_t1_loop.trips) (t : Fin 4) (o : Fin 2) (j : ℕ) (hj : j < 1024) :
    LR d L idxM (idxC m d L) n t (half o j) = encR (edges d m (![0, 2] o) (eix (offN (chunkNo L n.val t.val) + j))) (edges d m (![1, 3] o) (eix (offN (chunkNo L n.val t.val) + j))) := by
  refine (list_half encR _ _ _ _ o j hj).trans ?_
  fin_cases o
  · exact congrArg₂ encR (chunk_at d L m n t 0 (ix1 (n0 := 1024) ⟨j, hj⟩)) (chunk_at d L m n t 1 (ix1 (n0 := 1024) ⟨j, hj⟩))
  · exact congrArg₂ encR (chunk_at d L m n t 2 (ix1 (n0 := 1024) ⟨j, hj⟩)) (chunk_at d L m n t 3 (ix1 (n0 := 1024) ⟨j, hj⟩))

theorem listL_half (n : Fin k0_t1_loop.trips) (t : Fin 4) (o : Fin 2) (j : ℕ) (hj : j < 1024) :
    LL d L idxM (idxC m d L) n t (half o j) = encL (edges d m (![4, 6] o) (eix (offN (chunkNo L n.val t.val) + j))) (edges d m (![5, 7] o) (eix (offN (chunkNo L n.val t.val) + j))) := by
  refine (list_half encL _ _ _ _ o j hj).trans ?_
  fin_cases o
  · exact congrArg₂ encL (chunk_at d L m n t 4 (ix1 (n0 := 1024) ⟨j, hj⟩)) (chunk_at d L m n t 5 (ix1 (n0 := 1024) ⟨j, hj⟩))
  · exact congrArg₂ encL (chunk_at d L m n t 6 (ix1 (n0 := 1024) ⟨j, hj⟩)) (chunk_at d L m n t 7 (ix1 (n0 := 1024) ⟨j, hj⟩))

/-- What the gathers bring to place `j` of half `o`. -/
theorem P0_half (hr : RangesOK m) (h0 : AllIn0 d L idxM (idxC m d L)) (n : Fin k0_t1_loop.trips) (t : Fin 4) (o : Fin 2) (j : ℕ) (hj : j < 1024) :
    P0 d L rateM idxM (idxC m d L) (rateC (w0 m) d L) h0 n t (half o j) = rateAt d m o (offN (chunkNo L n.val t.val) + j) := by
  have hk : (LR d L idxM (idxC m d L) n t (half o j)).toNat < 67108864 := h0 n t (half o j)
  have hu : ∀ x, (edges d m (![0, 2] o) x).toNat < 4096 := by fin_cases o; exacts [(hr d).h2, (hr d).h6]
  have hi : ∀ x, (edges d m (![1, 3] o) x).toNat < 16384 := by fin_cases o; exacts [(hr d).h3, (hr d).h7]
  refine (pick0_at d L _ _ _ (half o j) (ix1 (n0 := 67108864) ⟨_, hk⟩) rfl).trans ?_
  have e := congrArg BitVec.toNat (listR_half d L m n t o j hj)
  exact rate_enc d L m _ _ (hu _) (hi _) _ e

theorem P1_half (hr : RangesOK m) (h1 : AllIn1 d L idxM (idxC m d L)) (n : Fin k0_t1_loop.trips) (t : Fin 4) (o : Fin 2) (j : ℕ) (hj : j < 1024) :
    P1 d L linkM idxM (idxC m d L) (linkC (w1 m) d L) h1 n t (half o j) = linkAt d m o (offN (chunkNo L n.val t.val) + j) := by
  have hk : (LL d L idxM (idxC m d L) n t (half o j)).toNat < 16777216 := h1 n t (half o j)
  have hu : ∀ x, (edges d m (![4, 6] o) x).toNat < 4096 := by fin_cases o; exacts [(hr d).h4, (hr d).h8]
  have hi : ∀ x, (edges d m (![5, 7] o) x).toNat < 4096 := by fin_cases o; exacts [(hr d).h5, (hr d).h9]
  refine (pick1_at d L _ _ _ (half o j) (ix1 (n0 := 16777216) ⟨_, hk⟩) rfl).trans ?_
  have e := congrArg BitVec.toNat (listL_half d L m n t o j hj)
  exact link_enc d L m _ _ (hu _) (hi _) _ e
end
end

end Cert.Proof
-- ==== Proof.TileSum.lean ====
/-
# The tiles' sums over the extended reals

A tile's lane adds the softplus terms of the edges that the lane meets first. All lanes of all tiles together add those of
every edge once.
-/
module

public import proofs.«01_k».proof.Proof.Picks

@[expose] public section

noncomputable section

namespace Cert.Proof

open Cert.KernelIdeal Cert.KernelIdeal.Gen

open Idealize.ShloMosaic Idealize.ShloMosaic.Transfers
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

section
variable (m : (ℓ : Loc nD τ sig) → Buf (Elt Ideal) ℓ) (d : Dev nD) (L : grid0.Coords)

/-- The kernel's terms of edge `e`: its rate's and its link's. -/
def edgeK (e : ℕ) : EReal :=
  softK (rateAt (F := Ideal) d m 1 e - rateAt (F := Ideal) d m 0 e) + softK (linkAt (F := Ideal) d m 1 e - linkAt (F := Ideal) d m 0 e)

theorem coord_lt : (L 0).val < 2 ∧ (L 1).val < 16 := ⟨(L 0).isLt, (L 1).isLt⟩

/-- The chunk's number and its first edge, as the tile computes them. -/
theorem cidT_toNat (n : Fin k0_t1_loop.trips) (t : ℕ) (ht : t < 4) : (cidT (wid L) n (BitVec.ofNat 32 t)).toNat = chunkNo L n.val t := by
  have hn : n.val < 8 := n.isLt
  obtain ⟨h0, h1⟩ := coord_lt L
  show ((((0#32 + BitVec.ofNat 32 n.val * 1#32) * 4#32 + BitVec.ofNat 32 t) * 32#32) + (BitVec.ofNat 32 (L 1).val * 2#32 + BitVec.ofNat 32 (L 0).val)).toNat = _
  simp only [BitVec.toNat_add, BitVec.toNat_mul, BitVec.toNat_ofNat]
  unfold chunkNo
  omega

theorem chunkNo_lt (n : Fin k0_t1_loop.trips) (t : ℕ) (ht : t < 4) : chunkNo L n.val t < 1024 := by
  have hn : n.val < 8 := n.isLt
  obtain ⟨h0, h1⟩ := coord_lt L
  unfold chunkNo
  omega

theorem offB_toNat (n : Fin k0_t1_loop.trips) (t : ℕ) (ht : t < 4) : (offB (wid L) n (BitVec.ofNat 32 t)).toNat = offN (chunkNo L n.val t) := by
  have hc := cidT_toNat L n t ht
  have hl := chunkNo_lt L n t ht
  have e : (Scalar.muli (cidT (wid L) n (BitVec.ofNat 32 t)) 1024#32).toNat = chunkNo L n.val t * 1024 := by
    show (cidT (wid L) n (BitVec.ofNat 32 t) * 1024#32).toNat = _
    rw [BitVec.toNat_mul, hc, BitVec.toNat_ofNat]
    omega
  show (IntOp.minsi (Scalar.muli (cidT (wid L) n (BitVec.ofNat 32 t)) 1024#32) 998976#32).toNat = _
  refine (WordArith.toNat_minsi_of_lt _ _ (by rw [e]; omega) (by decide)).trans ?_
  rw [e]
  rfl

/-- The places of one slot's chunk. -/
theorem slot_sum (hr : RangesOK m) (hm : ListsOK m) (n : Fin k0_t1_loop.trips) (t : Fin 4) (acc : FVec Ideal S16 .f32) (x : S16.Idx) :
    accTo (F := Ideal) lanes (cidT (wid L) n (BitVec.ofNat 32 t.val)) (offB (wid L) n (BitVec.ofNat 32 t.val))
        (P0 d L rateM idxM (idxC m d L) (rateC (w0 m) d L) (hm d L).1 n t) (P1 d L linkM idxM (idxC m d L) (linkC (w1 m) d L) (hm d L).2 n t) acc 64 x
      = acc x + ∑ g ∈ Finset.range 64, part (edgeK m d) (chunkNo L n.val t.val) (16 * g + (x 0).val) :=
  accTo_ideal (chunkNo L n.val t.val) (chunkNo_lt L n t.val t.isLt) _ _ (cidT_toNat L n t.val t.isLt) (offB_toNat L n t.val t.isLt) _ _ (edgeK m d)
    (fun j hj => by
      unfold termK edgeK
      rw [P0_half d L m hr (hm d L).1 n t 1 j hj, P0_half d L m hr (hm d L).1 n t 0 j hj, P1_half d L m hr (hm d L).2 n t 1 j hj, P1_half d L m hr (hm d L).2 n t 0 j hj])
    acc x 64 (Nat.le_refl _)

/-- A trip adds the places of its four chunks. -/
theorem trip_sum (hr : RangesOK m) (hm : ListsOK m) (n : Fin k0_t1_loop.trips) (acc : FVec Ideal S16 .f32) (x : S16.Idx) :
    tripAcc d L rateM linkM idxM (idxC m d L) (rateC (w0 m) d L) (linkC (w1 m) d L) (hm d L).1 (hm d L).2 (wid L) lanes n acc x
      = acc x + ∑ t ∈ Finset.range 4, ∑ g ∈ Finset.range 64, part (edgeK m d) (chunkNo L n.val t) (16 * g + (x 0).val) := by
  simp only [Finset.sum_range_succ (fun t => ∑ g ∈ Finset.range 64, part (edgeK m d) (chunkNo L n.val t) (16 * g + (x 0).val)), Finset.sum_range_zero, zero_add, ← add_assoc]
  refine (slot_sum m d L hr hm n 3 _ x).trans (congrArg (· + _) ?_)
  refine (slot_sum m d L hr hm n 2 _ x).trans (congrArg (· + _) ?_)
  refine (slot_sum m d L hr hm n 1 _ x).trans (congrArg (· + _) ?_)
  exact slot_sum m d L hr hm n 0 _ x

/-- `n` trips. -/
theorem trips_sum (hr : RangesOK m) (hm : ListsOK m) (x : S16.Idx) (n : ℕ) (hn : n ≤ 8) :
    tileTo d L rateM linkM idxM (idxC m d L) (rateC (w0 m) d L) (linkC (w1 m) d L) (hm d L).1 (hm d L).2 (wid L) lanes n x
      = ∑ k ∈ Finset.range n, ∑ t ∈ Finset.range 4, ∑ g ∈ Finset.range 64, part (edgeK m d) (chunkNo L k t) (16 * g + (x 0).val) := by
  induction n with
  | zero => exact cZ_eq
  | succ n ih =>
    have hn' : n < k0_t1_loop.trips := hn
    rw [Finset.sum_range_succ, ← ih (by omega)]
    show (dite _ _ _ : FVec Ideal S16 .f32) x = _
    rw [dif_pos hn']
    exact trip_sum m d L hr hm ⟨n, hn'⟩ _ x

/-- A lane's sum, over the tile's 32 chunks. -/
theorem tile_sum (hr : RangesOK m) (hm : ListsOK m) (x : S16.Idx) :
    tileSums m (w0 m) (w1 m) d L hm x
      = ∑ q ∈ Finset.range 32, ∑ g ∈ Finset.range 64, part (edgeK m d) (32 * q + (2 * (L 1).val + (L 0).val)) (16 * g + (x 0).val) :=
  (trips_sum m d L hr hm x 8 (Nat.le_refl _)).trans
    (sum_split 8 4 fun q => ∑ g ∈ Finset.range 64, part (edgeK m d) (32 * q + (2 * (L 1).val + (L 0).val)) (16 * g + (x 0).val))

/-- The array of lane sums, at one place. -/
theorem out_at (hr : RangesOK m) (hm : ListsOK m) (w : Fin 32) (l : Fin 16) :
    OUT m hm d (ix2 (n0 := 32) (n1 := 16) w l)
      = ∑ q ∈ Finset.range 32, ∑ g ∈ Finset.range 64, part (edgeK m d) (32 * q + w.val) (16 * g + l.val) := by
  refine (tile_sum m d _ hr hm _).trans ?_
  have e : 2 * (w.val / 2) + w.val % 2 = w.val := by omega
  show (∑ q ∈ Finset.range 32, ∑ g ∈ Finset.range 64, part (edgeK m d) (32 * q + (2 * (w.val / 2) + w.val % 2)) (16 * g + l.val)) = _
  rw [e]

/-- The kernel's result: the terms of all edges. -/
theorem kernel_sum (hr : RangesOK m) (hm : ListsOK m) :
    (VB m hm d (Proc.devRef .tc main_v7) : S_.Idx → EReal) = fun _ => ∑ e ∈ Finset.range 1000000, edgeK m d e := by
  have e1 : (VB m hm d (Proc.devRef .tc main_v7) : S_.Idx → EReal)
      = Host.reduceAdd (F := Ideal) (OUT m hm d) (constant S_ .f32 0x00000000#32) reducesTo_S32x16_S_d0_1 h_S_ := by
    show StableHlo.after opsB (VC m hm d) (Proc.devRef .tc main_v7) = _
    after_results_simp
    rw [VC_out]
  rw [e1]
  funext j
  refine (Ideal.hostReduceAdd_total reducesTo_S32x16_S_d0_1 (fun b => b.elim0) (OUT m hm d) cZ j).trans ?_
  rw [cZ_eq, zero_add, sum_idx2, ← tiles_sum (edgeK m d)]
  simp only [out_at m d hr hm]
  rw [Finset.sum_range]
  refine Finset.sum_congr rfl fun w _ => ?_
  rw [Finset.sum_range]
end

end Cert.Proof
-- ==== Proof.RefSum.lean ====
/-
# The reference's result over the extended reals

With every index in range the reference's gathers read the entries that the edges name, so its result is the sum of the
softplus terms of all edges.
-/
module

public import proofs.«01_k».proof.Proof.Gen.ReferenceIdeal
public import proofs.«01_k».proof.Proof.Gen.ReferenceIdeal.Run
public import proofs.«01_k».proof.Proof.Softplus
public import Idealize.ShloMosaic.Lib.Pointwise.Index
public import Idealize.ShloMosaic.Lib.WordCmp
public import Idealize.ShloMosaic.Lib.Pipeline.Value

@[expose] public section

noncomputable section

namespace Cert.Proof.Ref

open Cert.ReferenceIdeal Cert.ReferenceIdeal.Gen
open Idealize.ShloMosaic

/-- The dimension numbers of a gather by pairs from a table of 4096 rows and `N` columns. -/
abbrev pairDims (N : ℕ) (wf : GatherDims.WF ⟨2, ![4096, N]⟩ S1000000x2 S1000000 [] [0, 1] [] [0, 1] [] 1 ![1, 1]) :
    GatherDims ⟨2, ![4096, N]⟩ S1000000x2 S1000000 where
  offsetDims := []
  collapsedSliceDims := [0, 1]
  operandBatchingDims := []
  startIndicesBatchingDims := []
  startIndexMap := [0, 1]
  indexVectorDim := 1
  sliceSizes := ![1, 1]
  wf := wf

/-- Such a gather, where both words of the pair are in range, reads the entry that the pair names. -/
theorem gather_pair {N : ℕ} (wf : GatherDims.WF ⟨2, ![4096, N]⟩ S1000000x2 S1000000 [] [0, 1] [] [0, 1] [] 1 ![1, 1]) {α : Type}
    (x : (⟨2, ![4096, N]⟩ : Shape).Idx → α) (I : IVec S1000000x2 32) (e : Fin 1000000) (u : Fin 4096) (i : Fin N)
    (hu : (I (ix2 (n0 := 1000000) (n1 := 2) e 0)).toInt.toNat = u.val) (hi : (I (ix2 (n0 := 1000000) (n1 := 2) e 1)).toInt.toNat = i.val) :
    Host.gather (pairDims N wf) x I (ix1 (n0 := 1000000) e) = x (ix2 (n0 := 4096) (n1 := N) u i) := by
  have kept : ∀ a, (pairDims N wf).offCoord (ix1 (n0 := 1000000) e) a = 0 := fun a =>
    GatherDims.offCoord_eq_zero _ _ a fun h => ((GatherDims.mem_sKept _ a).1 h).1 (by
      match a with
      | ⟨0, _⟩ => exact List.mem_cons_self
      | ⟨1, _⟩ => exact List.mem_cons_of_mem _ List.mem_cons_self)
  have bat : ∀ a, (pairDims N wf).batchCoord (ix1 (n0 := 1000000) e) a = 0 := fun a =>
    GatherDims.batchCoord_eq_zero _ _ a (List.not_mem_nil)
  refine congrArg x (funext fun a => Fin.ext ?_)
  show (pairDims N wf).start _ I a + (pairDims N wf).batchCoord _ a + (pairDims N wf).offCoord _ a = _
  rw [kept, bat]
  have hN := i.isLt
  have hU := u.isLt
  match a with
  | ⟨0, _⟩ =>
    have m0 : (0 : Fin 2) ∈ (pairDims N wf).startIndexMap := List.mem_cons_self
    have s0 : (pairDims N wf).siIdx (ix1 (n0 := 1000000) e) ⟨(pairDims N wf).startIndexMap.idxOf (0 : Fin 2), List.idxOf_lt_length_iff.2 m0⟩
        = ix2 (n0 := 1000000) (n1 := 2) e 0 := by
      funext b
      match b with
      | ⟨0, _⟩ => exact Fin.ext rfl
      | ⟨1, _⟩ => exact Fin.ext rfl
    have st : (pairDims N wf).start (ix1 (n0 := 1000000) e) I (0 : Fin 2) = min u.val (4096 - 1) := by
      unfold GatherDims.start
      rw [dif_pos m0, s0, hu]
      rfl
    show (pairDims N wf).start (ix1 (n0 := 1000000) e) I (0 : Fin 2) + 0 + 0 = u.val
    omega
  | ⟨1, _⟩ =>
    have m1 : (1 : Fin 2) ∈ (pairDims N wf).startIndexMap := List.mem_cons_of_mem _ List.mem_cons_self
    have s1 : (pairDims N wf).siIdx (ix1 (n0 := 1000000) e) ⟨(pairDims N wf).startIndexMap.idxOf (1 : Fin 2), List.idxOf_lt_length_iff.2 m1⟩
        = ix2 (n0 := 1000000) (n1 := 2) e 1 := by
      funext b
      match b with
      | ⟨0, _⟩ => exact Fin.ext rfl
      | ⟨1, _⟩ => exact Fin.ext rfl
    have st : (pairDims N wf).start (ix1 (n0 := 1000000) e) I (1 : Fin 2) = min i.val (N - 1) := by
      unfold GatherDims.start
      rw [dif_pos m1, s1, hi]
      rfl
    show (pairDims N wf).start (ix1 (n0 := 1000000) e) I (1 : Fin 2) + 0 + 0 = i.val
    omega

/-- An array of indices of which a negative one counts from the end of an axis of `n`, as a column. -/
abbrev column (n : BitVec 32) (U : IVec S1000000 32) : IVec S1000000x1 32 :=
  broadcastInDim S1000000x1 ![0] bcast_S1000000_S1000000x1_0
    (select (cmpi .slt U (broadcastInDim S1000000 ![] bcast_S_S1000000 (constantI S_ 32 0#32))) (addi U (broadcastInDim S1000000 ![] bcast_S_S1000000 (constantI S_ 32 n))) U)

/-- An index that is not negative stays as it is. -/
theorem column_at (n : BitVec 32) (U : IVec S1000000 32) (e : Fin 1000000) (h : (U (ix1 (n0 := 1000000) e)).toNat < 16384) (z : Fin 1) :
    column n U (ix2 (n0 := 1000000) (n1 := 1) e z) = U (ix1 (n0 := 1000000) e) := by
  have key : ∀ y : S1000000.Idx, y = ix1 (n0 := 1000000) e →
      (if IntOp.cmpi .slt (U y) 0#32 = 1#1 then IntOp.addi (U y) n else U y) = U (ix1 (n0 := 1000000) e) := by
    intro y hy
    subst hy
    rw [WordCmp.cmpi_slt_zero, if_neg]
    rw [WordCmp.ofBool_eq_one_iff, decide_eq_true_iff]
    omega
  refine key _ (funext fun a => ?_)
  obtain rfl : a = (0 : Fin 1) := Subsingleton.elim (α := Fin 1) a 0
  exact Fin.ext rfl

/-- Two columns side by side. -/
abbrev pairs (n1 n2 : BitVec 32) (U I : IVec S1000000 32) : IVec S1000000x2 32 :=
  concatenate S1000000x2 1 [⟨S1000000x1, column n1 U⟩, ⟨S1000000x1, column n2 I⟩] concatenates_S1000000x1_S1000000x1_S1000000x2_d1

theorem toInt_small (v : BitVec 32) (h : v.toNat < 16384) : v.toInt.toNat = v.toNat := by
  rw [WordCmp.toInt_eq_toNat_of_lt_half (by omega)]; rfl

/-- The entry that the pair of edge `e` names. -/
theorem gather_edge {N : ℕ} (wf : GatherDims.WF ⟨2, ![4096, N]⟩ S1000000x2 S1000000 [] [0, 1] [] [0, 1] [] 1 ![1, 1]) {α : Type} (hN : N ≤ 16384)
    (x : (⟨2, ![4096, N]⟩ : Shape).Idx → α) (n1 n2 : BitVec 32) (U I : IVec S1000000 32) (e : Fin 1000000)
    (hu : (U (ix1 (n0 := 1000000) e)).toNat < 4096) (hi : (I (ix1 (n0 := 1000000) e)).toNat < N) :
    Host.gather (pairDims N wf) x (pairs n1 n2 U I) (ix1 (n0 := 1000000) e) = x (ix2 (n0 := 4096) (n1 := N) ⟨_, hu⟩ ⟨_, hi⟩) := by
  refine gather_pair wf x (pairs n1 n2 U I) e ⟨_, hu⟩ ⟨_, hi⟩ ?_ ?_
  · refine Eq.trans (congrArg (fun v : BitVec 32 => v.toInt.toNat) (Eq.trans ?_ (column_at n1 U e (by omega) 0))) (toInt_small _ (by omega))
    exact concatenate_pair_apply_left (t := S1000000x2) (1 : Fin 2) (column n1 U) (column n2 I) _ _ rfl _ (fun b => by
      match b with
      | ⟨0, _⟩ => rfl
      | ⟨1, _⟩ => rfl)
  · refine Eq.trans (congrArg (fun v : BitVec 32 => v.toInt.toNat) (Eq.trans ?_ (column_at n2 I e (by omega) 0))) (toInt_small _ (by omega))
    exact concatenate_pair_apply_right (t := S1000000x2) (1 : Fin 2) (column n1 U) (column n2 I) _ _ rfl rfl _ (fun b hb => by
      match b with
      | ⟨0, _⟩ => rfl
      | ⟨1, _⟩ => exact absurd rfl hb) rfl

/-! ## The softplus sums -/

/-- One word at every edge. -/
abbrev every (w : BitVec 32) : FVec Ideal S1000000 .f32 := broadcastInDim S1000000 ![] bcast_S_S1000000 (constant (F := Ideal) S_ .f32 w)
/-- The ratio `z / (2 + z)` for `z = exp (-|v|)`. -/
abbrev ratios (v : FVec Ideal S1000000 .f32) : FVec Ideal S1000000 .f32 :=
  Host.divf (Host.exp (Host.negf (Host.absf v))) (addf (Host.exp (Host.negf (Host.absf v))) (every 0x40000000#32))
/-- The softplus of every difference of `v`, from the powers of its ratio `q`. -/
abbrev softs (v q : FVec Ideal S1000000 .f32) : FVec Ideal S1000000 .f32 :=
  addf (maximumf v (every 0x00000000#32))
    (addf (addf (addf (mulf (every 0x40000000#32) q) (mulf (every 0x3F2AAAAB#32) (mulf (mulf q q) q))) (mulf (every 0x3ECCCCCD#32) (mulf q (mulf (mulf q q) (mulf q q)))))
      (mulf (every 0x3E924925#32) (mulf (mulf q (mulf q q)) (mulf (mulf q q) (mulf q q)))))

theorem softs_at (v : FVec Ideal S1000000 .f32) (j : S1000000.Idx) : softs v (ratios v) j = softR (v j) := rfl

/-- The sum of an array over the edges. -/
theorem sum_at (v : FVec Ideal S1000000 .f32) (j : S_.Idx) :
    Host.reduceAdd (F := Ideal) (softs v (ratios v)) (constant (F := Ideal) S_ .f32 0x00000000#32) reducesTo_S1000000_S_d0 h_S_ j
      = ∑ e : Fin 1000000, softR (v (ix1 (n0 := 1000000) e)) := by
  refine (Ideal.hostReduceAdd_total reducesTo_S1000000_S_d0 (fun b => b.elim0) (softs v (ratios v)) cZ j).trans ?_
  rw [cZ_eq, zero_add, sum_idx1]
  rfl

open Idealize.ShloMosaic.TcCoe Idealize.SL.Sem Idealize.ShloMosaic.StableHlo Cert.ReferenceIdeal.Value

/-- The reference's result: the softplus of every edge's difference of rates, and of every edge's difference of links. -/
def total (V : Valuation τ sig (Elt Ideal)) : EReal :=
  (∑ e : Fin 1000000, softR ((res_main_v56 V : S1000000.Idx → EReal) (ix1 (n0 := 1000000) e)))
    + ∑ e : Fin 1000000, softR ((res_main_v87 V : S1000000.Idx → EReal) (ix1 (n0 := 1000000) e))

theorem run_total (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v118) = (fun _ => total (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨(h c).1.trans (funext fun j =>
      congrArg₂ (fun a b : EReal => a + b) (sum_at (res_main_v56 (launchContents m c)) j) (sum_at (res_main_v87 (launchContents m c)) j)), (h c).2⟩)
    (Cert.ReferenceIdeal.Value.run (F := Ideal) m ρ)

/-- The difference of rates at edge `e`: the negative pair's less the positive pair's. -/
theorem rate_diff (V : Valuation τ sig (Elt Ideal)) (a0 : S4096x16384.Idx → EReal) (a2 a3 a6 a7 : IVec S1000000 32)
    (h0 : V (Proc.devRef .tc main_arg0) = a0) (h2 : V (Proc.devRef .tc main_arg2) = a2) (h3 : V (Proc.devRef .tc main_arg3) = a3)
    (h6 : V (Proc.devRef .tc main_arg6) = a6) (h7 : V (Proc.devRef .tc main_arg7) = a7) (e : Fin 1000000)
    (r2 : (a2 (ix1 (n0 := 1000000) e)).toNat < 4096) (r3 : (a3 (ix1 (n0 := 1000000) e)).toNat < 16384)
    (r6 : (a6 (ix1 (n0 := 1000000) e)).toNat < 4096) (r7 : (a7 (ix1 (n0 := 1000000) e)).toNat < 16384) :
    (res_main_v56 V : S1000000.Idx → EReal) (ix1 (n0 := 1000000) e)
      = a0 (ix2 (n0 := 4096) (n1 := 16384) ⟨_, r6⟩ ⟨_, r7⟩) - a0 (ix2 (n0 := 4096) (n1 := 16384) ⟨_, r2⟩ ⟨_, r3⟩) := by
  subst h0 h2 h3 h6 h7
  exact congrArg₂ (fun a b : EReal => a - b) (gather_edge _ (by omega) _ 4096#32 16384#32 _ _ e r6 r7) (gather_edge _ (by omega) _ 4096#32 16384#32 _ _ e r2 r3)

/-- The difference of links at edge `e`: the negative pair's less the positive pair's. -/
theorem link_diff (V : Valuation τ sig (Elt Ideal)) (a1 : S4096x4096.Idx → EReal) (a4 a5 a8 a9 : IVec S1000000 32)
    (h1 : V (Proc.devRef .tc main_arg1) = a1) (h4 : V (Proc.devRef .tc main_arg4) = a4) (h5 : V (Proc.devRef .tc main_arg5) = a5)
    (h8 : V (Proc.devRef .tc main_arg8) = a8) (h9 : V (Proc.devRef .tc main_arg9) = a9) (e : Fin 1000000)
    (r4 : (a4 (ix1 (n0 := 1000000) e)).toNat < 4096) (r5 : (a5 (ix1 (n0 := 1000000) e)).toNat < 4096)
    (r8 : (a8 (ix1 (n0 := 1000000) e)).toNat < 4096) (r9 : (a9 (ix1 (n0 := 1000000) e)).toNat < 4096) :
    (res_main_v87 V : S1000000.Idx → EReal) (ix1 (n0 := 1000000) e)
      = a1 (ix2 (n0 := 4096) (n1 := 4096) ⟨_, r8⟩ ⟨_, r9⟩) - a1 (ix2 (n0 := 4096) (n1 := 4096) ⟨_, r4⟩ ⟨_, r5⟩) := by
  subst h1 h4 h5 h8 h9
  exact congrArg₂ (fun a b : EReal => a - b) (gather_edge _ (by omega) _ 4096#32 4096#32 _ _ e r8 r9) (gather_edge _ (by omega) _ 4096#32 4096#32 _ _ e r4 r5)

end Cert.Proof.Ref

end
-- ==== Proof.Algebraic.lean ====
/-
# The two programs agree over the extended reals

Both results are the sum over the million edges of the softplus of the difference of rates and of the difference of links.
-/
module

public import proofs.«01_k».proof.Proof.TileSum
public import proofs.«01_k».proof.Proof.Frames
public import proofs.«01_k».proof.Proof.RefRun
public import proofs.«01_k».proof.Proof.RefSum

@[expose] public section

noncomputable section

namespace Cert.Proof

open Idealize.ShloMosaic Idealize.SL.Sem

/-- The reference's frame, with the indices in range. -/
theorem frame_ref_pre [hP : Cert.Pre_in_range.Facts] :
    Cert.quiescent_ReferenceIdeal_pre_in_range (hReferenceIdeal := Cert.ReferenceIdeal.Gen.facts) := fun m g _ =>
  (θ_run _ _ _).mono (fun r h => ⟨fun c => (h c).2, ref_sems r.2.sem⟩) (Cert.ReferenceIdeal.Value.run (F := Ideal) m g)

theorem eix_fin (e : Fin 1000000) : eix e.val = ix1 (n0 := 1000000) e :=
  congrArg (ix1 (n0 := 1000000)) (Fin.ext (Nat.min_eq_left (by have := e.isLt; omega)))

theorem cellR_eq (u i : BitVec 32) (hu : u.toNat < 4096) (hi : i.toNat < 16384) : cellR u i = ix2 (n0 := 4096) (n1 := 16384) ⟨u.toNat, hu⟩ ⟨i.toNat, hi⟩ :=
  congrArg₂ (ix2 (n0 := 4096) (n1 := 16384)) (Fin.ext (Nat.min_eq_left (by omega))) (Fin.ext (Nat.min_eq_left (by omega)))
theorem cellL_eq (u i : BitVec 32) (hu : u.toNat < 4096) (hi : i.toNat < 4096) : cellL u i = ix2 (n0 := 4096) (n1 := 4096) ⟨u.toNat, hu⟩ ⟨i.toNat, hi⟩ :=
  congrArg₂ (ix2 (n0 := 4096) (n1 := 4096)) (Fin.ext (Nat.min_eq_left (by omega))) (Fin.ext (Nat.min_eq_left (by omega)))

section
open Cert.KernelIdeal Cert.KernelIdeal.Gen

variable (m : (ℓ : Loc nD τ sig) → Buf (Elt Ideal) ℓ) (d : Dev nD)

/-- The entries that edge `e` names, with its indices in range. -/
theorem rateAt_fin (o : Fin 2) (e : Fin 1000000)
    (hu : (edges d m (![0, 2] o) (ix1 (n0 := 1000000) e)).toNat < 4096) (hi : (edges d m (![1, 3] o) (ix1 (n0 := 1000000) e)).toNat < 16384) :
    rateAt (F := Ideal) d m o e.val = (m ((SparseCore.T d : Thread nD τ).loc main_arg0) : S4096x16384.Idx → EReal) (ix2 (n0 := 4096) (n1 := 16384) ⟨_, hu⟩ ⟨_, hi⟩) := by
  unfold rateAt
  rw [eix_fin, cellR_eq _ _ hu hi]
theorem linkAt_fin (o : Fin 2) (e : Fin 1000000)
    (hu : (edges d m (![4, 6] o) (ix1 (n0 := 1000000) e)).toNat < 4096) (hi : (edges d m (![5, 7] o) (ix1 (n0 := 1000000) e)).toNat < 4096) :
    linkAt (F := Ideal) d m o e.val = (m ((SparseCore.T d : Thread nD τ).loc main_arg1) : S4096x4096.Idx → EReal) (ix2 (n0 := 4096) (n1 := 4096) ⟨_, hu⟩ ⟨_, hi⟩) := by
  unfold linkAt
  rw [eix_fin, cellL_eq _ _ hu hi]

/-- The reference's result, from the arguments that the kernel has, is the kernel's sum. -/
theorem total_eq (hr : RangesOK m) (V : Valuation Cert.ReferenceIdeal.τ Cert.ReferenceIdeal.sig (Elt Ideal))
    (h0 : V (Proc.devRef .tc Cert.ReferenceIdeal.main_arg0) = m ((SparseCore.T d : Thread nD τ).loc main_arg0))
    (h1 : V (Proc.devRef .tc Cert.ReferenceIdeal.main_arg1) = m ((SparseCore.T d : Thread nD τ).loc main_arg1))
    (h2 : V (Proc.devRef .tc Cert.ReferenceIdeal.main_arg2) = m ((SparseCore.T d : Thread nD τ).loc main_arg2))
    (h3 : V (Proc.devRef .tc Cert.ReferenceIdeal.main_arg3) = m ((SparseCore.T d : Thread nD τ).loc main_arg3))
    (h4 : V (Proc.devRef .tc Cert.ReferenceIdeal.main_arg4) = m ((SparseCore.T d : Thread nD τ).loc main_arg4))
    (h5 : V (Proc.devRef .tc Cert.ReferenceIdeal.main_arg5) = m ((SparseCore.T d : Thread nD τ).loc main_arg5))
    (h6 : V (Proc.devRef .tc Cert.ReferenceIdeal.main_arg6) = m ((SparseCore.T d : Thread nD τ).loc main_arg6))
    (h7 : V (Proc.devRef .tc Cert.ReferenceIdeal.main_arg7) = m ((SparseCore.T d : Thread nD τ).loc main_arg7))
    (h8 : V (Proc.devRef .tc Cert.ReferenceIdeal.main_arg8) = m ((SparseCore.T d : Thread nD τ).loc main_arg8))
    (h9 : V (Proc.devRef .tc Cert.ReferenceIdeal.main_arg9) = m ((SparseCore.T d : Thread nD τ).loc main_arg9)) :
    Ref.total V = ∑ e ∈ Finset.range 1000000, edgeK m d e := by
  rw [Finset.sum_range]
  unfold Ref.total
  rw [← Finset.sum_add_distrib]
  refine Finset.sum_congr rfl fun e _ => ?_
  have R := hr d
  rw [Ref.rate_diff V _ _ _ _ _ h0 h2 h3 h6 h7 e (R.h2 _) (R.h3 _) (R.h6 _) (R.h7 _), Ref.link_diff V _ _ _ _ _ h1 h4 h5 h8 h9 e (R.h4 _) (R.h5 _) (R.h8 _) (R.h9 _)]
  unfold edgeK
  rw [soft_eq, soft_eq]
  have e1 := rateAt_fin m d 1 e (R.h6 _) (R.h7 _)
  have e0 := rateAt_fin m d 0 e (R.h2 _) (R.h3 _)
  have f1 := linkAt_fin m d 1 e (R.h8 _) (R.h9 _)
  have f0 := linkAt_fin m d 0 e (R.h4 _) (R.h5 _)
  rw [e1, e0, f1, f0]
  rfl

end

/-- From the same arguments, their indices in range, both programs end with the same result. -/
theorem algebraic_proof [hP : Cert.Pre_in_range.Facts] :
    Cert.algebraic_KernelIdeal_ReferenceIdeal (hKernelIdeal := Cert.KernelIdeal.Gen.facts) (hReferenceIdeal := Cert.ReferenceIdeal.Gen.facts) := by
  intro m g m' g' hpre hag
  have hr := ideal_lists m hpre
  have hm := lists_of_ranges m hr
  refine ⟨fun c => (fun _ => ∑ e ∈ Finset.range 1000000, edgeK m c e : Cert.KernelIdeal.S_.Idx → EReal), ?_, ?_⟩
  · refine (θ_run _ _ _).mono (fun r h c => ⟨?_, end_args m hm r h c⟩) (run_main (F := Ideal) m g hm)
    exact (h.1 c _ (mem_uc Cert.KernelIdeal.main_v7 (by decide))).trans (kernel_sum m c hr hm)
  · refine (θ_run _ _ _).mono (fun r h c => ⟨(h c).1.trans ?_, (h c).2⟩) (Ref.run_total m' g')
    obtain ⟨a0, a1, a2, a3, a4, a5, a6, a7, a8, a9⟩ := hag c
    exact funext fun _ => total_eq m c hr _ a0 a1 a2 a3 a4 a5 a6 a7 a8 a9

end Cert.Proof

end
-- ==== Proof.Series.lean ====
/-
# The error of the four terms

For `z` from 0 to 1 the four terms of the series of `log (1 + z)` in `z / (z + 2)`, with the coefficients as rounded in the
kernel, lie within a part in 32768 of the logarithm. So the kernel's softplus of a real number lies within a part in 32768 of the
exact one.
-/
module

public import proofs.«01_k».proof.Proof.Softplus
public import Mathlib.Analysis.Calculus.Deriv.Inv
public import Mathlib.Analysis.Calculus.Deriv.MeanValue
public import Mathlib.Analysis.SpecialFunctions.ExpDeriv

@[expose] public section

noncomputable section

namespace Cert.Proof

open Idealize.ShloMosaic

/-- The four terms, nested, with the rounded coefficients. -/
def fourTerms (t : ℝ) : ℝ := t * (2 + t * t * (11184811 / 16777216 + t * t * (13421773 / 33554432 + t * t * (9586981 / 33554432))))

theorem c3_val : c3 = ((11184811 / 16777216 : ℝ) : EReal) := by
  simp [c3, Ideal.ofBits, Ideal.ieee, -EReal.coe_mul]; norm_num
theorem c5_val : c5 = ((13421773 / 33554432 : ℝ) : EReal) := by
  simp [c5, Ideal.ofBits, Ideal.ieee, -EReal.coe_mul]; norm_num
theorem c7_val : c7 = ((9586981 / 33554432 : ℝ) : EReal) := by
  simp [c7, Ideal.ofBits, Ideal.ieee, -EReal.coe_mul]; norm_num

/-- The ratio `z / (z + 2)` as a function of the logarithm `u` of `1 + z`. -/
def ratioOf (u : ℝ) : ℝ := 1 - 2 / (Real.exp u + 1)

theorem ratioOf_zero : ratioOf 0 = 0 := by unfold ratioOf; rw [Real.exp_zero]; norm_num

/-- It changes at half the rate of one less its square. -/
theorem ratioOf_deriv (u : ℝ) : HasDerivAt ratioOf ((1 - ratioOf u ^ 2) / 2) u := by
  have hp : Real.exp u + 1 ≠ 0 := by positivity
  have h := (((Real.hasDerivAt_exp u).add_const 1).inv hp).const_mul 2 |>.const_sub 1
  have e : (fun x : ℝ => 1 - 2 * (fun y => Real.exp y + 1)⁻¹ x) = ratioOf := by
    funext x
    unfold ratioOf
    rw [div_eq_mul_inv]
    rfl
  refine (e ▸ h).congr_deriv ?_
  unfold ratioOf
  field_simp
  ring

/-- Four terms of the series, with the coefficients exact. -/
def four (t : ℝ) : ℝ := 2 * (t + t ^ 3 / 3 + t ^ 5 / 5 + t ^ 7 / 7)
/-- Six terms. -/
def six (t : ℝ) : ℝ := 2 * (t + t ^ 3 / 3 + t ^ 5 / 5 + t ^ 7 / 7 + t ^ 9 / 9 + t ^ 11 / 11)

theorem four_deriv (t : ℝ) : HasDerivAt four (2 * (1 + t ^ 2 + t ^ 4 + t ^ 6)) t := by
  have h := ((((hasDerivAt_id t).add ((hasDerivAt_pow 3 t).div_const 3)).add ((hasDerivAt_pow 5 t).div_const 5)).add
    ((hasDerivAt_pow 7 t).div_const 7)).const_mul 2
  refine HasDerivAt.congr_deriv (f := four) h ?_
  push_cast
  ring
theorem six_deriv (t : ℝ) : HasDerivAt six (2 * (1 + t ^ 2 + t ^ 4 + t ^ 6 + t ^ 8 + t ^ 10)) t := by
  have h := ((((((hasDerivAt_id t).add ((hasDerivAt_pow 3 t).div_const 3)).add ((hasDerivAt_pow 5 t).div_const 5)).add
    ((hasDerivAt_pow 7 t).div_const 7)).add ((hasDerivAt_pow 9 t).div_const 9)).add ((hasDerivAt_pow 11 t).div_const 11)).const_mul 2
  refine HasDerivAt.congr_deriv (f := six) h ?_
  push_cast
  ring

/-- Four terms stay below the logarithm. -/
theorem four_le (u : ℝ) (hu : 0 ≤ u) : four (ratioOf u) ≤ u := by
  have d : ∀ x : ℝ, HasDerivAt (fun y => y - four (ratioOf y)) (ratioOf x ^ 8) x := fun x => by
    refine ((hasDerivAt_id x).sub ((four_deriv (ratioOf x)).comp x (ratioOf_deriv x))).congr_deriv ?_
    ring
  have mono := monotone_of_deriv_nonneg (f := fun y => y - four (ratioOf y)) (fun x => (d x).differentiableAt)
    (fun x => by rw [(d x).deriv]; positivity)
  have h := mono hu
  simp only [ratioOf_zero] at h
  have z : four 0 = 0 := by unfold four; norm_num
  rw [z] at h
  linarith

/-- Up to the logarithm of 2 the ratio is a third at most. -/
theorem ratioOf_small (u : ℝ) (h0 : 0 ≤ u) (h1 : u ≤ Real.log 2) : 0 ≤ ratioOf u ∧ ratioOf u ≤ 1 / 3 := by
  have e0 : 1 ≤ Real.exp u := Real.one_le_exp h0
  have e1 : Real.exp u ≤ 2 := by
    calc Real.exp u ≤ Real.exp (Real.log 2) := Real.exp_le_exp.2 h1
      _ = 2 := Real.exp_log (by norm_num)
  unfold ratioOf
  constructor
  · rw [sub_nonneg, div_le_iff₀ (by positivity)]; linarith
  · rw [sub_le_iff_le_add, ← sub_le_iff_le_add', le_div_iff₀ (by positivity)]; linarith

/-- Six terms come within a part in 531441 of the logarithm, up to the logarithm of 2. -/
theorem le_six (u : ℝ) (h0 : 0 ≤ u) (h1 : u ≤ Real.log 2) : (531440 / 531441 : ℝ) * u ≤ six (ratioOf u) := by
  have d : ∀ x : ℝ, HasDerivAt (fun y => six (ratioOf y) - 531440 / 531441 * y) (1 / 531441 - ratioOf x ^ 12) x := fun x => by
    refine (((six_deriv (ratioOf x)).comp x (ratioOf_deriv x)).sub ((hasDerivAt_id x).const_mul (531440 / 531441 : ℝ))).congr_deriv ?_
    ring
  have mono := monotoneOn_of_deriv_nonneg (convex_Icc 0 (Real.log 2)) (f := fun y => six (ratioOf y) - 531440 / 531441 * y)
    (fun x _ => (d x).continuousAt.continuousWithinAt) (fun x _ => (d x).differentiableAt.differentiableWithinAt)
    (fun x hx => by
      rw [(d x).deriv, sub_nonneg]
      obtain ⟨a, b⟩ := interior_subset hx
      obtain ⟨c, e⟩ := ratioOf_small x a b
      calc ratioOf x ^ 12 ≤ (1 / 3 : ℝ) ^ 12 := pow_le_pow_left₀ c e 12
        _ = 1 / 531441 := by norm_num)
  have h := mono (Set.mem_Icc.2 ⟨le_refl 0, h0.trans h1⟩) (Set.mem_Icc.2 ⟨h0, h1⟩) h0
  simp only [ratioOf_zero] at h
  have z : six 0 = 0 := by unfold six; norm_num
  rw [z] at h
  linarith

/-- The kernel's four terms against the logarithm. -/
theorem fourTerms_near (u : ℝ) (h0 : 0 ≤ u) (h1 : u ≤ Real.log 2) :
    (32767 / 32768 : ℝ) * u ≤ fourTerms (ratioOf u) ∧ fourTerms (ratioOf u) ≤ (32769 / 32768 : ℝ) * u := by
  have lo := four_le u h0
  have hi := le_six u h0 h1
  obtain ⟨a, b⟩ := ratioOf_small u h0 h1
  generalize ratioOf u = t at lo hi a b ⊢
  have r9 : t ^ 9 ≤ t * (1 / 6561) := by
    calc t ^ 9 = t * t ^ 8 := by ring
      _ ≤ t * (1 / 3) ^ 8 := mul_le_mul_of_nonneg_left (pow_le_pow_left₀ a b 8) a
      _ = _ := by norm_num
  have r11 : t ^ 11 ≤ t * (1 / 59049) := by
    calc t ^ 11 = t * t ^ 10 := by ring
      _ ≤ t * (1 / 3) ^ 10 := mul_le_mul_of_nonneg_left (pow_le_pow_left₀ a b 10) a
      _ = _ := by norm_num
  have t3 : 0 ≤ t ^ 3 := by positivity
  have t5 : 0 ≤ t ^ 5 := by positivity
  have t7 : 0 ≤ t ^ 7 := by positivity
  have e : fourTerms t = 2 * t + 11184811 / 16777216 * t ^ 3 + 13421773 / 33554432 * t ^ 5 + 9586981 / 33554432 * t ^ 7 := by
    unfold fourTerms; ring
  rw [e]
  unfold four at lo
  unfold six at hi
  constructor <;> linarith

/-- The same for `log (1 + z)`. -/
theorem fourTerms_log (z : ℝ) (h0 : 0 ≤ z) (h1 : z ≤ 1) :
    (32767 / 32768 : ℝ) * Real.log (1 + z) ≤ fourTerms (z / (z + 2)) ∧ fourTerms (z / (z + 2)) ≤ (32769 / 32768 : ℝ) * Real.log (1 + z) := by
  have h := fourTerms_near (Real.log (1 + z)) (Real.log_nonneg (by linarith)) (Real.log_le_log (by positivity) (by linarith))
  have e : ratioOf (Real.log (1 + z)) = z / (z + 2) := by
    unfold ratioOf
    rw [Real.exp_log (by positivity)]
    have h : z + 2 ≠ 0 := by positivity
    have h' : 1 + z + 1 ≠ 0 := by positivity
    field_simp
    ring
  rwa [e] at h

/-- The softplus of a real number. -/
def softplus (r : ℝ) : ℝ := Real.log (1 + Real.exp r)
/-- The kernel's softplus of a real number. -/
def softKr (r : ℝ) : ℝ := max r 0 + fourTerms (Real.exp (-max r (-r)) / (Real.exp (-max r (-r)) + 2))

theorem softK_coe (r : ℝ) : softK (r : EReal) = (softKr r : EReal) := by
  have ez : Ideal.exp (cZ - max (r : EReal) (-(r : EReal))) = ((Real.exp (-max r (-r)) : ℝ) : EReal) := by
    rw [cZ_eq, zero_sub, ← EReal.coe_neg, ← EReal.coe_strictMono.monotone.map_max, ← EReal.coe_neg, Ideal.exp_coe]
  have et : ratioK (r : EReal) = ((Real.exp (-max r (-r)) / (Real.exp (-max r (-r)) + 2) : ℝ) : EReal) := by
    unfold ratioK
    rw [ez, c2_eq, ← EReal.coe_add, Ideal.div_coe (by positivity), ← EReal.coe_mul, mul_one_div]
  unfold softK softKr fourTerms
  rw [et, cZ_eq, c2_eq, c3_val, c5_val, c7_val, ← EReal.coe_zero, ← EReal.coe_strictMono.monotone.map_max]
  simp only [← EReal.coe_mul, ← EReal.coe_add]

/-- The softplus, by the size of its argument. -/
theorem softplus_eq (r : ℝ) : softplus r = max r 0 + Real.log (1 + Real.exp (-max r (-r))) := by
  unfold softplus
  rcases le_total 0 r with h | h
  · rw [max_eq_left h, max_eq_left (by linarith), show 1 + Real.exp r = Real.exp r * (1 + Real.exp (-r)) by
      rw [mul_add, ← Real.exp_add, add_neg_cancel, Real.exp_zero]; ring,
      Real.log_mul (Real.exp_pos _).ne' (by positivity), Real.log_exp]
  · rw [max_eq_right h, max_eq_right (by linarith), neg_neg, zero_add]

/-- The kernel's softplus lies within a part in 32768 of the softplus. -/
theorem softKr_near (r : ℝ) : (32767 / 32768 : ℝ) * softplus r ≤ softKr r ∧ softKr r ≤ (32769 / 32768 : ℝ) * softplus r := by
  have hm : 0 ≤ max r (-r) := by
    rcases le_total 0 r with h | h
    · exact le_max_of_le_left h
    · exact le_max_of_le_right (by linarith)
  have h := fourTerms_log (Real.exp (-max r (-r))) (Real.exp_pos _).le (Real.exp_le_one_iff.2 (by linarith))
  have h0 : 0 ≤ max r 0 := le_max_right _ _
  rw [softplus_eq]
  unfold softKr
  constructor <;> linarith [h.1, h.2]

end Cert.Proof
-- ==== Proof.Exact.lean ====
/-
# The kernel's loss against the exact one

With the indices in range and the tables finite, the loss lies within a part in 32768 of the sum of the exact softplus terms.
-/
module

public import proofs.«01_k».proof.Proof.Algebraic
public import proofs.«01_k».proof.Proof.Series
public import proofs.«01_k».proof.Proof.Gen.Pre_finite_in_range
public import proofs.«01_k».proof.Proof.Gen.Post_near_exact
public import Idealize.ShloMosaic.Lib.IdealHost

@[expose] public section

noncomputable section

namespace Cert.Proof

open Idealize.ShloMosaic Idealize.SL.Sem
open Cert.KernelIdeal (S4096x16384 S4096x4096 S1000000 S_)

/-! ## The precondition -/

/-- An entry whose size compares below infinity is a real number. -/
theorem real_of_size (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  have h' : max x (-x) < ⊤ := by
    by_contra hc
    simp only [Ideal.cmp, decide_eq_false hc] at h
    exact absurd h (by decide)
  induction x using EReal.rec with
  | bot => simp at h'
  | top => simp at h'
  | coe r => exact ⟨r, rfl⟩

/-- Every index is in range, and every entry of both tables is a real number. -/
theorem finite_of_pre [hP : Cert.Pre_finite_in_range.Facts] (a0 : S4096x16384.Idx → EReal) (a1 : S4096x4096.Idx → EReal)
    (a2 a3 a4 a5 a6 a7 a8 a9 : IVec S1000000 32) (h : Cert.Pre_finite_in_range.fn (F := Ideal) a0 a1 a2 a3 a4 a5 a6 a7 a8 a9 = fun _ => 1#1) :
    Ranges a2 a3 a4 a5 a6 a7 a8 a9 ∧ (∀ j, ∃ r : ℝ, a0 j = (r : EReal)) ∧ ∀ j, ∃ r : ℝ, a1 j = (r : EReal) := by
  have e := congrFun h (fun a => a.elim0)
  unfold Cert.Pre_finite_in_range.fn Cert.Pre_finite_in_range.fn_part1 Cert.Pre_finite_in_range.fn_part2 Cert.Pre_finite_in_range.fn_part3 at e
  dsimp only at e
  obtain ⟨e, ef⟩ := and_ones _ _ e
  obtain ⟨f0, f1⟩ := and_ones _ _ ef
  obtain ⟨e, e7⟩ := and_ones _ _ e
  obtain ⟨e, e3⟩ := and_ones _ _ e
  obtain ⟨e, e9⟩ := and_ones _ _ e
  obtain ⟨e, e8⟩ := and_ones _ _ e
  obtain ⟨e, e6⟩ := and_ones _ _ e
  obtain ⟨e, e5⟩ := and_ones _ _ e
  obtain ⟨e2, e4⟩ := and_ones _ _ e
  exact ⟨⟨fun j => word_bound _ 4096#32 (by decide) (Host.reduce_andi_all _ _ _ _ _ e2 j),
      fun j => word_bound _ 16384#32 (by decide) (Host.reduce_andi_all _ _ _ _ _ e3 j),
      fun j => word_bound _ 4096#32 (by decide) (Host.reduce_andi_all _ _ _ _ _ e4 j),
      fun j => word_bound _ 4096#32 (by decide) (Host.reduce_andi_all _ _ _ _ _ e5 j),
      fun j => word_bound _ 4096#32 (by decide) (Host.reduce_andi_all _ _ _ _ _ e6 j),
      fun j => word_bound _ 16384#32 (by decide) (Host.reduce_andi_all _ _ _ _ _ e7 j),
      fun j => word_bound _ 4096#32 (by decide) (Host.reduce_andi_all _ _ _ _ _ e8 j),
      fun j => word_bound _ 4096#32 (by decide) (Host.reduce_andi_all _ _ _ _ _ e9 j)⟩,
    fun j => real_of_size _ (Host.reduce_andi_all _ _ _ _ _ f0 j), fun j => real_of_size _ (Host.reduce_andi_all _ _ _ _ _ f1 j)⟩

/-! ## The exact loss -/

/-- The logarithm of the sigmoid, as the predicate computes it. -/
def logSig (y : EReal) : EReal := Ideal.log (Ideal.div (Ideal.ofBits .f32 0x3F800000#32) (Ideal.ofBits .f32 0x3F800000#32 + Ideal.exp (-y)))

/-- Of a real number it is minus the softplus of the opposite number. -/
theorem logSig_coe (y : ℝ) : logSig (y : EReal) = ((-softplus (-y) : ℝ) : EReal) := by
  have hp : 0 < 1 + Real.exp (-y) := by positivity
  unfold logSig softplus
  rw [Ideal.ofBits_one_f32, ← EReal.coe_neg, Ideal.exp_coe, ← EReal.coe_one, ← EReal.coe_add, Ideal.div_coe hp.ne', ← EReal.coe_mul, one_mul, one_div,
    Ideal.log_coe, if_neg (by have := inv_pos.2 hp; linarith), Real.log_inv]

/-- The differences of which the predicate takes the sigmoid: the positive pair's entry less the negative pair's. -/
abbrev rateGap (a0 : S4096x16384.Idx → EReal) (a2 a3 a6 a7 : IVec S1000000 32) (e : Fin 1000000) : EReal :=
  Host.gather Cert.Post_near_exact.gather_S4096x16384_S1000000x2_S1000000_n_01_n_n_01_1_11 a0 (Ref.pairs 4096#32 16384#32 a2 a3) (ix1 (n0 := 1000000) e)
    - Host.gather Cert.Post_near_exact.gather_S4096x16384_S1000000x2_S1000000_n_01_n_n_01_1_11 a0 (Ref.pairs 4096#32 16384#32 a6 a7) (ix1 (n0 := 1000000) e)
abbrev linkGap (a1 : S4096x4096.Idx → EReal) (a4 a5 a8 a9 : IVec S1000000 32) (e : Fin 1000000) : EReal :=
  Host.gather Cert.Post_near_exact.gather_S4096x4096_S1000000x2_S1000000_n_01_n_n_01_1_11 a1 (Ref.pairs 4096#32 4096#32 a4 a5) (ix1 (n0 := 1000000) e)
    - Host.gather Cert.Post_near_exact.gather_S4096x4096_S1000000x2_S1000000_n_01_n_n_01_1_11 a1 (Ref.pairs 4096#32 4096#32 a8 a9) (ix1 (n0 := 1000000) e)

/-- The exact loss, as the predicate computes it. -/
def exactLoss (r l : Fin 1000000 → EReal) : EReal := (∑ e, -logSig (r e)) - ∑ e, logSig (l e)

theorem cmp_ole (x y : EReal) (h : x ≤ y) : Ideal.cmp .ole x y = 1#1 := by
  simp only [Ideal.cmp, decide_eq_true h]; rfl

/-- A sum over the edges, from zero. -/
theorem sum_edges (v : S1000000.Idx → EReal) (f : Fin 1000000 → EReal) (hv : ∀ e, v (ix1 (n0 := 1000000) e) = f e) (h : S1000000.ReducesTo [0] S_) (hu : 0 < S_.numel) (j : S_.Idx) :
    Host.reduceAdd (F := Ideal) (φ := .f32) v (constant (F := Ideal) S_ .f32 0x00000000#32) h hu j = ∑ e, f e := by
  refine (Ideal.hostReduceAdd_total h (fun b => b.elim0) v cZ j).trans ?_
  rw [cZ_eq, zero_add, sum_idx1]
  exact Finset.sum_congr rfl fun e _ => hv e

/-- The logarithms of the sigmoids of an array over the edges. -/
abbrev logSigs (v : FVec Ideal S1000000 .f32) : FVec Ideal S1000000 .f32 :=
  Host.log (Host.divf (Ref.every 0x3F800000#32) (addf (Ref.every 0x3F800000#32) (Host.exp (Host.negf v))))
/-- The differences of rates, and of links, as arrays. -/
abbrev rateGaps (a0 : FVec Ideal S4096x16384 .f32) (a2 a3 a6 a7 : IVec S1000000 32) : FVec Ideal S1000000 .f32 :=
  subf (Host.gather Cert.Post_near_exact.gather_S4096x16384_S1000000x2_S1000000_n_01_n_n_01_1_11 a0 (Ref.pairs 4096#32 16384#32 a2 a3))
    (Host.gather Cert.Post_near_exact.gather_S4096x16384_S1000000x2_S1000000_n_01_n_n_01_1_11 a0 (Ref.pairs 4096#32 16384#32 a6 a7))
abbrev linkGaps (a1 : FVec Ideal S4096x4096 .f32) (a4 a5 a8 a9 : IVec S1000000 32) : FVec Ideal S1000000 .f32 :=
  subf (Host.gather Cert.Post_near_exact.gather_S4096x4096_S1000000x2_S1000000_n_01_n_n_01_1_11 a1 (Ref.pairs 4096#32 4096#32 a4 a5))
    (Host.gather Cert.Post_near_exact.gather_S4096x4096_S1000000x2_S1000000_n_01_n_n_01_1_11 a1 (Ref.pairs 4096#32 4096#32 a8 a9))

/-- The two comparisons of the last step, of the two sums `s` and `t`. -/
abbrev within (s t x : FVec Ideal S_ .f32) : IVec S_ 1 :=
  andi (cmpf .ole (mulf (subf s t) (constant (F := Ideal) S_ .f32 0x3F7FFE00#32)) x)
    (cmpf .ole x (mulf (subf s t) (constant (F := Ideal) S_ .f32 0x3F800100#32)))

theorem within_of (s t x : FVec Ideal S_ .f32) (w : EReal) (j : S_.Idx) (hw : (s j : EReal) - t j = w)
    (lo : w * Ideal.ofBits .f32 0x3F7FFE00#32 ≤ x j) (hi : (x j : EReal) ≤ w * Ideal.ofBits .f32 0x3F800100#32) : within s t x j = 1#1 := by
  show IntOp.andi (Ideal.cmp .ole (((s j : EReal) - t j) * Ideal.ofBits .f32 0x3F7FFE00#32) (x j))
    (Ideal.cmp .ole (x j) (((s j : EReal) - t j) * Ideal.ofBits .f32 0x3F800100#32)) = 1#1
  rw [hw, cmp_ole _ _ lo, cmp_ole _ _ hi]
  rfl

open Cert.ReferenceIdeal.Gen in
/-- What the predicate computes. -/
theorem post_eq (a0 : FVec Ideal S4096x16384 .f32) (a1 : FVec Ideal S4096x4096 .f32) (a2 a3 a4 a5 a6 a7 a8 a9 : IVec S1000000 32) (x : FVec Ideal S_ .f32) :
    Cert.Post_near_exact.fn (F := Ideal) a0 a1 a2 a3 a4 a5 a6 a7 a8 a9 x
      = within (Host.reduceAdd (F := Ideal) (Host.negf (logSigs (rateGaps a0 a2 a3 a6 a7))) (constant (F := Ideal) S_ .f32 0x00000000#32) reducesTo_S1000000_S_d0 h_S_)
          (Host.reduceAdd (F := Ideal) (logSigs (linkGaps a1 a4 a5 a8 a9)) (constant (F := Ideal) S_ .f32 0x00000000#32) reducesTo_S1000000_S_d0 h_S_) x := by
  unfold Cert.Post_near_exact.fn Cert.Post_near_exact.fn_part1 Cert.Post_near_exact.fn_part2 Cert.Post_near_exact.fn_part3 Cert.Post_near_exact.fn_part4
  rfl

/-- The predicate holds of a loss between the two bounds. -/
theorem post_of (a0 : S4096x16384.Idx → EReal) (a1 : S4096x4096.Idx → EReal) (a2 a3 a4 a5 a6 a7 a8 a9 : IVec S1000000 32) (x : S_.Idx → EReal)
    (lo : ∀ j, exactLoss (rateGap a0 a2 a3 a6 a7) (linkGap a1 a4 a5 a8 a9) * Ideal.ofBits .f32 0x3F7FFE00#32 ≤ x j)
    (hi : ∀ j, x j ≤ exactLoss (rateGap a0 a2 a3 a6 a7) (linkGap a1 a4 a5 a8 a9) * Ideal.ofBits .f32 0x3F800100#32) :
    Cert.Post_near_exact.fn (F := Ideal) a0 a1 a2 a3 a4 a5 a6 a7 a8 a9 x = fun _ => 1#1 := by
  rw [post_eq]
  funext j
  refine within_of _ _ _ _ j (congrArg₂ (fun a b : EReal => a - b) ?_ ?_) (lo j) (hi j)
  · exact sum_edges (Host.negf (logSigs (rateGaps a0 a2 a3 a6 a7))) (fun e => -logSig (rateGap a0 a2 a3 a6 a7 e)) (fun e => rfl) _ _ j
  · exact sum_edges (logSigs (linkGaps a1 a4 a5 a8 a9)) (fun e => logSig (linkGap a1 a4 a5 a8 a9 e)) (fun e => rfl) _ _ j

/-! ## The bounds -/

theorem low_word : Ideal.ofBits .f32 0x3F7FFE00#32 = ((32767 / 32768 : ℝ) : EReal) := by
  simp [Ideal.ofBits, Ideal.ieee, -EReal.coe_mul]; norm_num
theorem high_word : Ideal.ofBits .f32 0x3F800100#32 = ((32769 / 32768 : ℝ) : EReal) := by
  simp [Ideal.ofBits, Ideal.ieee, -EReal.coe_mul]; norm_num

/-- A sum of real numbers, as extended reals. -/
theorem coe_sum (f : Fin 1000000 → ℝ) : (∑ e, (f e : EReal)) = ((∑ e, f e : ℝ) : EReal) :=
  (map_sum (⟨⟨fun x : ℝ => (x : EReal), EReal.coe_zero⟩, EReal.coe_add⟩ : ℝ →+ EReal) f Finset.univ).symm

/-- The exact loss of real differences `-r` and `-l`. -/
theorem exactLoss_coe (r l : Fin 1000000 → ℝ) (R L : Fin 1000000 → EReal) (hR : ∀ e, R e = ((-r e : ℝ) : EReal)) (hL : ∀ e, L e = ((-l e : ℝ) : EReal)) :
    exactLoss R L = ((∑ e, (softplus (r e) + softplus (l e)) : ℝ) : EReal) := by
  have e1 : ∀ e, -logSig (R e) = ((softplus (r e) : ℝ) : EReal) := fun e => by rw [hR, logSig_coe, ← EReal.coe_neg, neg_neg, neg_neg]
  have e2 : ∀ e, logSig (L e) = ((-softplus (l e) : ℝ) : EReal) := fun e => by rw [hL, logSig_coe, neg_neg]
  unfold exactLoss
  rw [Finset.sum_congr rfl fun e _ => e1 e, Finset.sum_congr rfl fun e _ => e2 e, coe_sum, coe_sum, ← EReal.coe_sub, Finset.sum_neg_distrib,
    sub_neg_eq_add, ← Finset.sum_add_distrib]

/-- The kernel's terms of real differences `r` and `l` add up to within a part in 32768 of the exact loss. -/
theorem near_of (r l : Fin 1000000 → ℝ) :
    (∑ e, (softplus (r e) + softplus (l e))) * (32767 / 32768) ≤ ∑ e, (softKr (r e) + softKr (l e))
    ∧ ∑ e, (softKr (r e) + softKr (l e)) ≤ (∑ e, (softplus (r e) + softplus (l e))) * (32769 / 32768) := by
  rw [Finset.sum_mul, Finset.sum_mul]
  constructor
  · exact Finset.sum_le_sum fun e _ => by linarith [(softKr_near (r e)).1, (softKr_near (l e)).1]
  · exact Finset.sum_le_sum fun e _ => by linarith [(softKr_near (r e)).2, (softKr_near (l e)).2]

section
open Cert.KernelIdeal Cert.KernelIdeal.Gen

variable (m : (ℓ : Loc nD τ sig) → Buf (Elt Ideal) ℓ) (d : Dev nD)

/-- The kernel's loss satisfies the predicate. -/
theorem loss_near (hr : RangesOK m) (h0 : ∀ j, ∃ r : ℝ, (m ((SparseCore.T d : Thread nD τ).loc main_arg0) : S4096x16384.Idx → EReal) j = (r : EReal))
    (h1 : ∀ j, ∃ r : ℝ, (m ((SparseCore.T d : Thread nD τ).loc main_arg1) : S4096x4096.Idx → EReal) j = (r : EReal)) :
    Cert.Post_near_exact.fn (F := Ideal) (m ((SparseCore.T d : Thread nD τ).loc main_arg0)) (m ((SparseCore.T d : Thread nD τ).loc main_arg1))
      (m ((SparseCore.T d : Thread nD τ).loc main_arg2)) (m ((SparseCore.T d : Thread nD τ).loc main_arg3)) (m ((SparseCore.T d : Thread nD τ).loc main_arg4))
      (m ((SparseCore.T d : Thread nD τ).loc main_arg5)) (m ((SparseCore.T d : Thread nD τ).loc main_arg6)) (m ((SparseCore.T d : Thread nD τ).loc main_arg7))
      (m ((SparseCore.T d : Thread nD τ).loc main_arg8)) (m ((SparseCore.T d : Thread nD τ).loc main_arg9))
      (fun _ => ∑ e ∈ Finset.range 1000000, edgeK m d e) = fun _ => 1#1 := by
  have R := hr d
  choose f0 hf0 using h0
  choose f1 hf1 using h1
  -- the real differences, negative less positive
  let r : Fin 1000000 → ℝ := fun e => f0 (ix2 (n0 := 4096) (n1 := 16384) ⟨_, R.h6 (ix1 (n0 := 1000000) e)⟩ ⟨_, R.h7 (ix1 (n0 := 1000000) e)⟩)
    - f0 (ix2 (n0 := 4096) (n1 := 16384) ⟨_, R.h2 (ix1 (n0 := 1000000) e)⟩ ⟨_, R.h3 (ix1 (n0 := 1000000) e)⟩)
  let l : Fin 1000000 → ℝ := fun e => f1 (ix2 (n0 := 4096) (n1 := 4096) ⟨_, R.h8 (ix1 (n0 := 1000000) e)⟩ ⟨_, R.h9 (ix1 (n0 := 1000000) e)⟩)
    - f1 (ix2 (n0 := 4096) (n1 := 4096) ⟨_, R.h4 (ix1 (n0 := 1000000) e)⟩ ⟨_, R.h5 (ix1 (n0 := 1000000) e)⟩)
  have hL : (∑ e ∈ Finset.range 1000000, edgeK m d e) = ((∑ e, (softKr (r e) + softKr (l e)) : ℝ) : EReal) := by
    rw [Finset.sum_range, ← coe_sum]
    refine Finset.sum_congr rfl fun e _ => ?_
    have e1 := (rateAt_fin m d 1 e (R.h6 _) (R.h7 _)).trans (hf0 _)
    have e0 := (rateAt_fin m d 0 e (R.h2 _) (R.h3 _)).trans (hf0 _)
    have g1 := (linkAt_fin m d 1 e (R.h8 _) (R.h9 _)).trans (hf1 _)
    have g0 := (linkAt_fin m d 0 e (R.h4 _) (R.h5 _)).trans (hf1 _)
    unfold edgeK
    rw [e1, e0, g1, g0, ← EReal.coe_sub, ← EReal.coe_sub, softK_coe, softK_coe, ← EReal.coe_add]
    rfl
  have hE := exactLoss_coe r l
    (rateGap (m ((SparseCore.T d : Thread nD τ).loc main_arg0)) (m ((SparseCore.T d : Thread nD τ).loc main_arg2)) (m ((SparseCore.T d : Thread nD τ).loc main_arg3))
      (m ((SparseCore.T d : Thread nD τ).loc main_arg6)) (m ((SparseCore.T d : Thread nD τ).loc main_arg7)))
    (linkGap (m ((SparseCore.T d : Thread nD τ).loc main_arg1)) (m ((SparseCore.T d : Thread nD τ).loc main_arg4)) (m ((SparseCore.T d : Thread nD τ).loc main_arg5))
      (m ((SparseCore.T d : Thread nD τ).loc main_arg8)) (m ((SparseCore.T d : Thread nD τ).loc main_arg9)))
    (fun e => by
      have p := (Ref.gather_edge Cert.Post_near_exact.Gen.gather_S4096x16384_S1000000x2_S1000000_n_01_n_n_01_1_11_wf (by omega)
        (m ((SparseCore.T d : Thread nD τ).loc main_arg0) : S4096x16384.Idx → EReal) 4096#32 16384#32 _ _ e (R.h2 _) (R.h3 _)).trans (hf0 _)
      have n := (Ref.gather_edge Cert.Post_near_exact.Gen.gather_S4096x16384_S1000000x2_S1000000_n_01_n_n_01_1_11_wf (by omega)
        (m ((SparseCore.T d : Thread nD τ).loc main_arg0) : S4096x16384.Idx → EReal) 4096#32 16384#32 _ _ e (R.h6 _) (R.h7 _)).trans (hf0 _)
      refine (congrArg₂ (fun a b : EReal => a - b) p n).trans ?_
      show _ - _ = _
      rw [← EReal.coe_sub]
      exact congrArg _ (neg_sub _ _).symm)
    (fun e => by
      have p := (Ref.gather_edge Cert.Post_near_exact.Gen.gather_S4096x4096_S1000000x2_S1000000_n_01_n_n_01_1_11_wf (by omega)
        (m ((SparseCore.T d : Thread nD τ).loc main_arg1) : S4096x4096.Idx → EReal) 4096#32 4096#32 _ _ e (R.h4 _) (R.h5 _)).trans (hf1 _)
      have n := (Ref.gather_edge Cert.Post_near_exact.Gen.gather_S4096x4096_S1000000x2_S1000000_n_01_n_n_01_1_11_wf (by omega)
        (m ((SparseCore.T d : Thread nD τ).loc main_arg1) : S4096x4096.Idx → EReal) 4096#32 4096#32 _ _ e (R.h8 _) (R.h9 _)).trans (hf1 _)
      refine (congrArg₂ (fun a b : EReal => a - b) p n).trans ?_
      show _ - _ = _
      rw [← EReal.coe_sub]
      exact congrArg _ (neg_sub _ _).symm)
  have hn := near_of r l
  refine post_of _ _ _ _ _ _ _ _ _ _ _ (fun j => ?_) (fun j => ?_)
  · rw [hE, low_word, ← EReal.coe_mul, hL]
    exact EReal.coe_le_coe_iff.2 hn.1
  · rw [hE, high_word, ← EReal.coe_mul, hL]
    exact EReal.coe_le_coe_iff.2 hn.2

end

section
variable [hP : Cert.Pre_finite_in_range.Facts]

/-- With the tables finite too, every index is in range. -/
theorem finite_ranges (m : (ℓ : Loc Cert.KernelIdeal.nD Cert.KernelIdeal.τ Cert.KernelIdeal.sig) → Buf (Elt Ideal) ℓ) (h : Cert.Pre_KernelIdeal_finite_in_range m) :
    RangesOK m := fun d => (finite_of_pre _ _ _ _ _ _ _ _ _ _ (h d)).1

/-- The kernel's frame, with the tables finite. -/
theorem frame_finite : Cert.quiescent_KernelIdeal_pre_finite_in_range (hKernelIdeal := Cert.KernelIdeal.Gen.facts) := fun m ρ hpre =>
  (θ_run Cert.KernelIdeal.defs _ _).mono (fun r h => ⟨fun c => end_args m _ r h c, h.2⟩)
    (run_main (F := Ideal) m ρ (lists_of_ranges m (finite_ranges m hpre)))

/-- The kernel ends with a loss within a part in 32768 of the exact one. -/
theorem near_proof : Cert.holds_KernelIdeal_near_exact_pre_finite_in_range (hKernelIdeal := Cert.KernelIdeal.Gen.facts)
    (hPost_near_exact := Cert.Post_near_exact.Gen.facts) := by
  intro m g hpre
  have hr := finite_ranges m hpre
  have hm := lists_of_ranges m hr
  refine (θ_run _ _ _).mono (fun r h c => ?_) (run_main (F := Ideal) m g hm)
  obtain ⟨a0, a1, a2, a3, a4, a5, a6, a7, a8, a9⟩ := end_args m hm r h c
  refine ⟨a0, a1, a2, a3, a4, a5, a6, a7, a8, a9, ?_⟩
  have e := (h.1 c _ (mem_uc Cert.KernelIdeal.main_v7 (by decide))).trans (kernel_sum m c hr hm)
  obtain ⟨_, f0, f1⟩ := finite_of_pre _ _ _ _ _ _ _ _ _ _ (hpre c)
  exact (congrArg _ e).trans (loss_near m c hr f0 f1)

end

end Cert.Proof

end
-- ==== Proof.lean ====
/-
# The certificate

The claims of `Cert.Claim`, each from the module that proves it.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_finite_in_range
public import proofs.«01_k».proof.Proof.Gen.Post_near_exact
public import proofs.«01_k».proof.Proof.Frames
public import proofs.«01_k».proof.Proof.RefRun
public import proofs.«01_k».proof.Proof.Algebraic
public import proofs.«01_k».proof.Proof.Exact
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_range.Gen.facts,
  Cert.Pre_finite_in_range.Gen.facts, Cert.Post_near_exact.Gen.facts,
  frame_kernel, frame_ideal, frame_finite, frame_ref, frame_ref_pre, trivial, algebraic_proof, near_proof⟩

end Cert.Proof

end
